-- ==== Defs.lean ====
def Pre_Kernel [hPre_counted : Cert.Pre_counted.Facts] (m : (ℓ : Loc Cert.Kernel.nD Cert.Kernel.τ Cert.Kernel.sig) → Buf (Elt Bits) ℓ) : Prop :=
  ∀ c : Dev Cert.Kernel.nD,
    (Cert.Pre_counted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_counted : Cert.Pre_counted.Facts] (m : (ℓ : Loc Cert.KernelIdeal.nD Cert.KernelIdeal.τ Cert.KernelIdeal.sig) → Buf (Elt Ideal) ℓ) : Prop :=
  ∀ c : Dev Cert.KernelIdeal.nD,
    (Cert.Pre_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counted [hPre_counted : Cert.Pre_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] [hPre_counted : Cert.Pre_counted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counted [hReferenceIdeal : Cert.ReferenceIdeal.Facts] [hPre_counted : Cert.Pre_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)) (v5 : (c : Dev Cert.Kernel5Ideal.nD) → Buf (Elt Ideal) ((c.tc : Thread Cert.Kernel5Ideal.nD Cert.Kernel5Ideal.τ).loc Cert.Kernel5Ideal.main_v9_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_v9_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v187) = v0 c
          ∧ r.2.mem ((c.tc : Thread Cert.Reference5Ideal.nD Cert.Reference5Ideal.τ).loc Cert.Reference5Ideal.main_v191) = v1 c
          ∧ r.2.mem ((c.tc : Thread Cert.Reference5Ideal.nD Cert.Reference5Ideal.τ).loc Cert.Reference5Ideal.main_v195) = v2 c
          ∧ r.2.mem ((c.tc : Thread Cert.Reference5Ideal.nD Cert.Reference5Ideal.τ).loc Cert.Reference5Ideal.main_v199) = v3 c
          ∧ r.2.mem ((c.tc : Thread Cert.Reference5Ideal.nD Cert.Reference5Ideal.τ).loc Cert.Reference5Ideal.main_v203) = v4 c
          ∧ r.2.mem ((c.tc : Thread Cert.Reference5Ideal.nD Cert.Reference5Ideal.τ).loc Cert.Reference5Ideal.main_v207) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v146) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_counted : Cert.Pre_counted.Facts),
    quiescent_Kernel (hKernel := hKernel) (hPre_counted := hPre_counted)
    ∧ quiescent_KernelIdeal (hKernelIdeal := hKernelIdeal) (hPre_counted := hPre_counted)
    ∧ quiescent_ReferenceIdeal (hReferenceIdeal := hReferenceIdeal)
    ∧ quiescent_ReferenceIdeal_pre_counted (hReferenceIdeal := hReferenceIdeal) (hPre_counted := hPre_counted)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal) (hPre_counted := hPre_counted)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_counted.lean ====
abbrev S49152x2048 : Shape := ⟨2, ![49152, 2048]⟩
abbrev S64 : Shape := ⟨1, ![64]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S49152x2048 .f32) (main_arg1 : IVec S64 32) (main_arg2 : FVec F S2x64x2048x512 .f32) (main_arg3 : FVec F S2x64x2048x512 .f32) (main_arg4 : FVec F S2x64x512x2048 .f32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 1 := constantI S_ 1 1#1
  let main_v2 : IVec S_ 1 := (fun x v => Host.reduce IntOp.andi x v reducesTo_S64_S_d0 h_S_) main_v1 main_c_0
  let main_c_1 : IVec S_ 32 := constantI S_ 32 49152#32
  let main_v3 : IVec S64 32 := broadcastInDim S64 ![] bcast_S_S64 main_c_1
  let main_v4 : IVec S64 1 := cmpi .sle main_arg1 main_v3
  let main_c_2 : IVec S_ 1 := constantI S_ 1 1#1
  let main_v5 : IVec S_ 1 := (fun x v => Host.reduce IntOp.andi x v reducesTo_S64_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S64_S_d0 h_S_) main_arg1 main_c_3
  let main_c_4 : IVec S_ 32 := constantI S_ 32 49152#32
  let main_v8 : IVec S_ 1 := cmpi .eq main_v7 main_c_4
  let main_v9 : IVec S_ 1 := andi main_v6 main_v8
  main_v9
-- ==== Kernel.lean ====
abbrev S49152x2048 : Shape := ⟨2, ![49152, 2048]⟩
abbrev S64 : Shape := ⟨1, ![64]⟩
abbrev S2x64x2048x512 : Shape := ⟨4, ![2, 64, 2048, 512]⟩
abbrev S2x64x512x2048 : Shape := ⟨4, ![2, 64, 512, 2048]⟩
abbrev S_ : Shape := ⟨0, ![]⟩
abbrev S1 : Shape := ⟨1, ![1]⟩
abbrev S255 : Shape := ⟨1, ![255]⟩
abbrev S1x64 : Shape := ⟨2, ![1, 64]⟩
abbrev S255x1 : Shape := ⟨2, ![255, 1]⟩
abbrev S255x64 : Shape := ⟨2, ![255, 64]⟩
abbrev S254 : Shape := ⟨1, ![254]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 123
  | .vmem => 10
  | .smem => 6
  | _ => 0

abbrev bufTy : (tb : Table) → Fin (tcTables nBuf tb) → BufTy
  | .hbm, ⟨0, _⟩ => ⟨S49152x2048, .f32⟩
  | .hbm, ⟨1, _⟩ => ⟨S64, .i32⟩
  | .hbm, ⟨2, _⟩ => ⟨S2x64x2048x512, .f32⟩
  | .hbm, ⟨3, _⟩ => ⟨S2x64x2048x512, .f32⟩
  | .hbm, ⟨4, _⟩ => ⟨S2x64x512x2048, .f32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S64, .i32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S_, .i32⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S_, .i32⟩
  | .hbm, ⟨60, _⟩ => ⟨S_, .i32⟩
  | .hbm, ⟨61, _⟩ => ⟨S64, .i32⟩
  | .hbm, ⟨62, _⟩ => ⟨S64, .i32⟩
  | .hbm, ⟨63, _⟩ => ⟨S1, .i32⟩
  | .hbm, ⟨64, _⟩ => ⟨S_, .i32⟩
  | .hbm, ⟨65, _⟩ => ⟨S255, .i32⟩
  | .hbm, ⟨66, _⟩ => ⟨S_, .i32⟩
  | .hbm, ⟨67, _⟩ => ⟨S_, .i32⟩
  | .hbm, ⟨68, _⟩ => ⟨S255, .i32⟩
  | .hbm, ⟨69, _⟩ => ⟨S255, .i32⟩
  | .hbm, ⟨70, _⟩ => ⟨S1x64, .i32⟩
  | .hbm, ⟨71, _⟩ => ⟨S255x1, .i32⟩
  | .hbm, ⟨72, _⟩ => ⟨S255x64, .i32⟩
  | .hbm, ⟨73, _⟩ => ⟨S255x64, .i32⟩
  | .hbm, ⟨74, _⟩ => ⟨S255x64, .i1⟩
  | .hbm, ⟨75, _⟩ => ⟨S255x64, .i32⟩
  | .hbm, ⟨76, _⟩ => ⟨S_, .i32⟩
  | .hbm, ⟨77, _⟩ => ⟨S255x1, .i32⟩
  | .hbm, ⟨78, _⟩ => ⟨S64, .i32⟩
  | .hbm, ⟨79, _⟩ => ⟨S1x64, .i32⟩
  | .hbm, ⟨80, _⟩ => ⟨S255x64, .i32⟩
  | .hbm, ⟨81, _⟩ => ⟨S255x64, .i32⟩
  | .hbm, ⟨82, _⟩ => ⟨S255x64, .i1⟩
  | .hbm, ⟨83, _⟩ => ⟨S255x64, .i32⟩
  | .hbm, ⟨84, _⟩ => ⟨S1x64, .i32⟩
  | .hbm, ⟨85, _⟩ => ⟨S255x64, .i32⟩
  | .hbm, ⟨86, _⟩ => ⟨S255x64, .i32⟩
  | .hbm, ⟨87, _⟩ => ⟨S_, .i32⟩
  | .hbm, ⟨88, _⟩ => ⟨S255, .i32⟩
  | .hbm, ⟨89, _⟩ => ⟨S1x64, .i32⟩
  | .hbm, ⟨90, _⟩ => ⟨S255x64, .i32⟩
  | .hbm, ⟨91, _⟩ => ⟨S255x64, .i32⟩
  | .hbm, ⟨92, _⟩ => ⟨S_, .i32⟩
  | .hbm, ⟨93, _⟩ => ⟨S255, .i32⟩
  | .hbm, ⟨94, _⟩ => ⟨S255, .i32⟩
  | .hbm, ⟨95, _⟩ => ⟨S1x64, .i32⟩
  | .hbm, ⟨96, _⟩ => ⟨S255x64, .i32⟩
  | .hbm, ⟨97, _⟩ => ⟨S255x64, .i32⟩
  | .hbm, ⟨98, _⟩ => ⟨S_, .i32⟩
  | .hbm, ⟨99, _⟩ => ⟨S255, .i32⟩
  | .hbm, ⟨100, _⟩ => ⟨S_, .i32⟩
  | .hbm, ⟨101, _⟩ => ⟨S255, .i32⟩
  | .hbm, ⟨102, _⟩ => ⟨S255, .i32⟩
  | .hbm, ⟨103, _⟩ => ⟨S255, .i32⟩
  | .hbm, ⟨104, _⟩ => ⟨S_, .i32⟩
  | .hbm, ⟨105, _⟩ => ⟨S255, .i32⟩
  | .hbm, ⟨106, _⟩ => ⟨S1x64, .i32⟩
  | .hbm, ⟨107, _⟩ => ⟨S255x64, .i32⟩
  | .hbm, ⟨108, _⟩ => ⟨S255x64, .i32⟩
  | .hbm, ⟨109, _⟩ => ⟨S_, .i32⟩
  | .hbm, ⟨110, _⟩ => ⟨S255, .i32⟩
  | .hbm, ⟨111, _⟩ => ⟨S_, .i32⟩
  | .hbm, ⟨112, _⟩ => ⟨S255, .i32⟩
  | .hbm, ⟨113, _⟩ => ⟨S255, .i32⟩
  | .hbm, ⟨114, _⟩ => ⟨S255, .i32⟩
  | .hbm, ⟨115, _⟩ => ⟨S_, .i32⟩
  | .hbm, ⟨116, _⟩ => ⟨S255, .i32⟩
  | .hbm, ⟨117, _⟩ => ⟨S_, .i32⟩
  | .hbm, ⟨118, _⟩ => ⟨S1, .i32⟩
  | .hbm, ⟨119, _⟩ => ⟨S254, .i32⟩
  | .hbm, ⟨120, _⟩ => ⟨S255, .i32⟩
  | .hbm, ⟨121, _⟩ => ⟨S255, .i1⟩
  | .hbm, ⟨122, _⟩ => ⟨S49152x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .smem, ⟨0, _⟩ => ⟨S255, .i32⟩
  | .local _ .smem, ⟨1, _⟩ => ⟨S255, .i32⟩
  | .local _ .smem, ⟨2, _⟩ => ⟨S255, .i32⟩
  | .local _ .smem, ⟨3, _⟩ => ⟨S255, .i32⟩
  | .local _ .smem, ⟨4, _⟩ => ⟨S255, .i32⟩
  | .local _ .smem, ⟨5, _⟩ => ⟨S1, .i32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_5 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_6 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_8 : Ref sig .tc := ⟨.hbm, 92, rfl⟩
abbrev main_v41 : Ref sig .tc := ⟨.hbm, 93, rfl⟩
abbrev main_v42 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_9 : Ref sig .tc := ⟨.hbm, 98, rfl⟩
abbrev main_v47 : Ref sig .tc := ⟨.hbm, 99, rfl⟩
abbrev main_c_10 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_c_11 : Ref sig .tc := ⟨.hbm, 104, rfl⟩
abbrev main_v51 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_c_12 : Ref sig .tc := ⟨.hbm, 109, rfl⟩
abbrev main_v56 : Ref sig .tc := ⟨.hbm, 110, rfl⟩
abbrev main_c_13 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_c_14 : Ref sig .tc := ⟨.hbm, 115, rfl⟩
abbrev main_v60 : Ref sig .tc := ⟨.hbm, 116, rfl⟩
abbrev main_c_15 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v68 : Ref sig .tc := ⟨.hbm, 122, rfl⟩
abbrev main_v43 : Ref sig .tc := ⟨.smem, 0, rfl⟩
abbrev main_v26 : Ref sig .tc := ⟨.smem, 1, rfl⟩
abbrev main_v52 : Ref sig .tc := ⟨.smem, 2, rfl⟩
abbrev main_v61 : Ref sig .tc := ⟨.smem, 3, rfl⟩
abbrev main_v66 : Ref sig .tc := ⟨.smem, 4, rfl⟩
abbrev main_v67 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![255], ![false]⟩

abbrev pre0 : Pipeline.Prefetch sig := ⟨6, ![main_v43.idx, main_v26.idx, main_v52.idx, main_v61.idx, main_v66.idx, main_v67.idx], fun | 0 => main_v43.names | 1 => main_v26.names | 2 => main_v52.names | 3 => main_v61.names | 4 => main_v66.names | 5 => main_v67.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v39 : Index := Scalar.indexCast arg0
  ![v39.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v35 : BitVec 32) : BitVec 1 :=
  let c1_i32 : BitVec 32 := 1#32
  let v36 : BitVec 1 := Scalar.cmpi .eq v35 c1_i32
  let v37 : BitVec 32 := Scalar.extui v36
  let c0_i32_17 : BitVec 32 := 0#32
  let v38 : BitVec 1 := Scalar.cmpi .ne v37 c0_i32_17
  v38

def k0_cond3 (v40 : BitVec 32) : BitVec 1 :=
  let c0_i32_18 : BitVec 32 := 0#32
  let v41 : BitVec 1 := Scalar.cmpi .eq v40 c0_i32_18
  let v42 : BitVec 32 := Scalar.extui v41
  let c0_i32_19 : BitVec 32 := 0#32
  let v43 : BitVec 1 := Scalar.cmpi .ne v42 c0_i32_19
  v43

def cc0_transform_0 (k0_off1_inb : ∀ i : grid0.Coords, ∀ a, (k0_off1 i) a + S1.size a ≤ S255.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S255) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S255.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S255) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S255.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S255) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S255.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S255) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S255.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S255) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S49152x2048 : Shape := ⟨2, ![49152, 2048]⟩
abbrev S64 : Shape := ⟨1, ![64]⟩
abbrev S2x64x2048x512 : Shape := ⟨4, ![2, 64, 2048, 512]⟩
abbrev S2x64x512x2048 : Shape := ⟨4, ![2, 64, 512, 2048]⟩
abbrev S_ : Shape := ⟨0, ![]⟩
abbrev S49152 : Shape := ⟨1, ![49152]⟩
abbrev S49152x1 : Shape := ⟨2, ![49152, 1]⟩
abbrev S1x64 : Shape := ⟨2, ![1, 64]⟩
abbrev S49152x64 : Shape := ⟨2, ![49152, 64]⟩
abbrev S1x64x2048x512 : Shape := ⟨4, ![1, 64, 2048, 512]⟩
abbrev S64x2048x512 : Shape := ⟨3, ![64, 2048, 512]⟩
abbrev S49152x64x512 : Shape := ⟨3, ![49152, 64, 512]⟩
abbrev S49152x64x1 : Shape := ⟨3, ![49152, 64, 1]⟩
abbrev S1x64x512x2048 : Shape := ⟨4, ![1, 64, 512, 2048]⟩
abbrev S64x512x2048 : Shape := ⟨3, ![64, 512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S64, .i32⟩
  | .hbm, ⟨2, _⟩ => ⟨S2x64x2048x512, .f32⟩
  | .hbm, ⟨3, _⟩ => ⟨S2x64x2048x512, .f32⟩
  | .hbm, ⟨4, _⟩ => ⟨S2x64x512x2048, .f32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S49152, .i32⟩
  | .hbm, ⟨10, _⟩ => ⟨S49152x1, .i32⟩
  | .hbm, ⟨11, _⟩ => ⟨S1x64, .i32⟩
  | .hbm, ⟨12, _⟩ => ⟨S49152x64, .i32⟩
  | .hbm, ⟨13, _⟩ => ⟨S49152x64, .i32⟩
  | .hbm, ⟨14, _⟩ => ⟨S49152x64, .i1⟩
  | .hbm, ⟨15, _⟩ => ⟨S1x64, .i32⟩
  | .hbm, ⟨16, _⟩ => ⟨S49152x64, .i32⟩
  | .hbm, ⟨17, _⟩ => ⟨S49152x64, .i32⟩
  | .hbm, ⟨18, _⟩ => ⟨S49152x64, .i1⟩
  | .hbm, ⟨19, _⟩ => ⟨S49152x64, .i1⟩
  | .hbm, ⟨20, _⟩ => ⟨S_, .f32⟩
  | .hbm, ⟨21, _⟩ => ⟨S_, .f32⟩
  | .hbm, ⟨22, _⟩ => ⟨S49152x64, .f32⟩
  | .hbm, ⟨23, _⟩ => ⟨S49152x64, .f32⟩
  | .hbm, ⟨24, _⟩ => ⟨S49152x64, .f32⟩
  | .hbm, ⟨25, _⟩ => ⟨S1x64x2048x512, .f32⟩
  | .hbm, ⟨26, _⟩ => ⟨S64x2048x512, .f32⟩
  | .hbm, ⟨27, _⟩ => ⟨S49152x64x512, .f32⟩
  | .hbm, ⟨28, _⟩ => ⟨S49152x64x512, .f32⟩
  | .hbm, ⟨29, _⟩ => ⟨S49152x64x512, .f32⟩
  | .hbm, ⟨30, _⟩ => ⟨S_, .f32⟩
  | .hbm, ⟨31, _⟩ => ⟨S49152x64x512, .f32⟩
  | .hbm, ⟨32, _⟩ => ⟨S49152x64x512, .f32⟩
  | .hbm, ⟨33, _⟩ => ⟨S_, .f32⟩
  | .hbm, ⟨34, _⟩ => ⟨S49152x64x512, .f32⟩
  | .hbm, ⟨35, _⟩ => ⟨S49152x64x512, .f32⟩
  | .hbm, ⟨36, _⟩ => ⟨S49152x64x512, .f32⟩
  | .hbm, ⟨37, _⟩ => ⟨S1x64x2048x512, .f32⟩
  | .hbm, ⟨38, _⟩ => ⟨S64x2048x512, .f32⟩
  | .hbm, ⟨39, _⟩ => ⟨S49152x64x512, .f32⟩
  | .hbm, ⟨40, _⟩ => ⟨S49152x64x512, .f32⟩
  | .hbm, ⟨41, _⟩ => ⟨S49152x64x1, .f32⟩
  | .hbm, ⟨42, _⟩ => ⟨S49152x64x1, .f32⟩
  | .hbm, ⟨43, _⟩ => ⟨S49152x64x512, .f32⟩
  | .hbm, ⟨44, _⟩ => ⟨S49152x64x512, .f32⟩
  | .hbm, ⟨45, _⟩ => ⟨S1x64x512x2048, .f32⟩
  | .hbm, ⟨46, _⟩ => ⟨S64x512x2048, .f32⟩
  | .hbm, ⟨47, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel2.lean ====
abbrev S8192x2048 : Shape := ⟨2, ![8192, 2048]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x2048 : Shape := ⟨2, ![8192, 2048]⟩
abbrev S2048x512 : Shape := ⟨2, ![2048, 512]⟩
abbrev S512x2048 : Shape := ⟨2, ![512, 2048]⟩
abbrev S8192x512 : Shape := ⟨2, ![8192, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S8192x2048 : Shape := ⟨2, ![8192, 2048]⟩
abbrev S8x6x2048 : Shape := ⟨3, ![8, 6, 2048]⟩
abbrev S2048 : Shape := ⟨1, ![2048]⟩
abbrev S1x2048 : Shape := ⟨2, ![1, 2048]⟩
abbrev S256x2048 : Shape := ⟨2, ![256, 2048]⟩
abbrev S1x6x2048 : Shape := ⟨3, ![1, 6, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x6x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x2048 : Shape := ⟨2, ![8192, 2048]⟩
abbrev S8x6x2048 : Shape := ⟨3, ![8, 6, 2048]⟩
abbrev S2048 : Shape := ⟨1, ![2048]⟩
abbrev S1x6x2048 : Shape := ⟨3, ![1, 6, 2048]⟩
abbrev S6x2048 : Shape := ⟨2, ![6, 2048]⟩
abbrev S4096x6x2048 : Shape := ⟨3, ![4096, 6, 2048]⟩
abbrev S1024x6x2048 : Shape := ⟨3, ![1024, 6, 2048]⟩
abbrev S8192x6x2048 : Shape := ⟨3, ![8192, 6, 2048]⟩
abbrev S8192x1x2048 : Shape := ⟨3, ![8192, 1, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x6x2048, .f32⟩
  | .hbm, ⟨3, _⟩ => ⟨S2048, .f32⟩
  | .hbm, ⟨4, _⟩ => ⟨S2048, .f32⟩
  | .hbm, ⟨5, _⟩ => ⟨S1x6x2048, .f32⟩
  | .hbm, ⟨6, _⟩ => ⟨S6x2048, .f32⟩
  | .hbm, ⟨7, _⟩ => ⟨S4096x6x2048, .f32⟩
  | .hbm, ⟨8, _⟩ => ⟨S1x6x2048, .f32⟩
  | .hbm, ⟨9, _⟩ => ⟨S6x2048, .f32⟩
  | .hbm, ⟨10, _⟩ => ⟨S1024x6x2048, .f32⟩
  | .hbm, ⟨11, _⟩ => ⟨S1x6x2048, .f32⟩
  | .hbm, ⟨12, _⟩ => ⟨S6x2048, .f32⟩
  | .hbm, ⟨13, _⟩ => ⟨S1024x6x2048, .f32⟩
  | .hbm, ⟨14, _⟩ => ⟨S1x6x2048, .f32⟩
  | .hbm, ⟨15, _⟩ => ⟨S6x2048, .f32⟩
  | .hbm, ⟨16, _⟩ => ⟨S1024x6x2048, .f32⟩
  | .hbm, ⟨17, _⟩ => ⟨S1x6x2048, .f32⟩
  | .hbm, ⟨18, _⟩ => ⟨S6x2048, .f32⟩
  | .hbm, ⟨19, _⟩ => ⟨S1024x6x2048, .f32⟩
  | .hbm, ⟨20, _⟩ => ⟨S8192x6x2048, .f32⟩
  | .hbm, ⟨21, _⟩ => ⟨S8192x1x2048, .f32⟩
  | .hbm, ⟨22, _⟩ => ⟨S8192x2048, .f32⟩
  | .hbm, ⟨23, _⟩ => ⟨S8192x1x2048, .f32⟩
  | .hbm, ⟨24, _⟩ => ⟨S8192x2048, .f32⟩
  | .hbm, ⟨25, _⟩ => ⟨S8192x1x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel5.lean ====
abbrev S8192x2048 : Shape := ⟨2, ![8192, 2048]⟩
abbrev S8x6x2048 : Shape := ⟨3, ![8, 6, 2048]⟩
abbrev S6x2048 : Shape := ⟨2, ![6, 2048]⟩
abbrev S_ : Shape := ⟨0, ![]⟩
abbrev S1x2048 : Shape := ⟨2, ![1, 2048]⟩
abbrev S32x2048 : Shape := ⟨2, ![32, 2048]⟩
abbrev S31x2048 : Shape := ⟨2, ![31, 2048]⟩
abbrev S32x1x2048 : Shape := ⟨3, ![32, 1, 2048]⟩
abbrev S256x2048 : Shape := ⟨2, ![256, 2048]⟩
abbrev S1x1x2048 : Shape := ⟨3, ![1, 1, 2048]⟩
abbrev S1x6x2048 : Shape := ⟨3, ![1, 6, 2048]⟩

abbrev nBuf : Space → Nat
  | .hbm => 20
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8x6x2048, .f32⟩
  | .hbm, ⟨2, _⟩ => ⟨S6x2048, .f32⟩
  | .hbm, ⟨3, _⟩ => ⟨S6x2048, .f32⟩
  | .hbm, ⟨4, _⟩ => ⟨S_, .f32⟩
  | .hbm, ⟨5, _⟩ => ⟨S1x2048, .f32⟩
  | .hbm, ⟨6, _⟩ => ⟨S32x2048, .f32⟩
  | .hbm, ⟨7, _⟩ => ⟨S31x2048, .f32⟩
  | .hbm, ⟨8, _⟩ => ⟨S32x2048, .f32⟩
  | .hbm, ⟨9, _⟩ => ⟨S32x1x2048, .f32⟩
  | .hbm, ⟨10, _⟩ => ⟨S32x2048, .f32⟩
  | .hbm, ⟨11, _⟩ => ⟨S31x2048, .f32⟩
  | .hbm, ⟨12, _⟩ => ⟨S32x2048, .f32⟩
  | .hbm, ⟨13, _⟩ => ⟨S32x1x2048, .f32⟩
  | .hbm, ⟨14, _⟩ => ⟨S8192x2048, .bf16⟩
  | .hbm, ⟨15, _⟩ => ⟨S8192x2048, .bf16⟩
  | .hbm, ⟨16, _⟩ => ⟨S8192x2048, .bf16⟩
  | .hbm, ⟨17, _⟩ => ⟨S8192x2048, .bf16⟩
  | .hbm, ⟨18, _⟩ => ⟨S8192x2048, .bf16⟩
  | .hbm, ⟨19, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x6x2048, .f32⟩
  | .local _ .vmem, ⟨7, _⟩ => ⟨S1x6x2048, .f32⟩
  | .local _ .vmem, ⟨8, _⟩ => ⟨S6x2048, .f32⟩
  | .local _ .vmem, ⟨9, _⟩ => ⟨S6x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v9_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8192x2048 : Shape := ⟨2, ![8192, 2048]⟩
abbrev S8x6x2048 : Shape := ⟨3, ![8, 6, 2048]⟩
abbrev S6x2048 : Shape := ⟨2, ![6, 2048]⟩
abbrev S4096x2048 : Shape := ⟨2, ![4096, 2048]⟩
abbrev S16x256x2048 : Shape := ⟨3, ![16, 256, 2048]⟩
abbrev S1x1x2048 : Shape := ⟨3, ![1, 1, 2048]⟩
abbrev S2048 : Shape := ⟨1, ![2048]⟩
abbrev S_ : Shape := ⟨0, ![]⟩
abbrev S16x255x2048 : Shape := ⟨3, ![16, 255, 2048]⟩
abbrev S1x2048 : Shape := ⟨2, ![1, 2048]⟩
abbrev S4x1024x2048 : Shape := ⟨3, ![4, 1024, 2048]⟩
abbrev S4x1x2048 : Shape := ⟨3, ![4, 1, 2048]⟩
abbrev S4x2048 : Shape := ⟨2, ![4, 2048]⟩
abbrev S4x1023x2048 : Shape := ⟨3, ![4, 1023, 2048]⟩

abbrev nBuf : Space → Nat
  | .hbm => 222
  | .vmem => 0
  | .smem => 0
  | _ => 0

abbrev hbmTy0_0 (i : Nat) : BufTy := match i % 128 with
  | 0 => ⟨S8192x2048, .f32⟩
  | 1 => ⟨S8x6x2048, .f32⟩
  | 2 => ⟨S6x2048, .f32⟩
  | 3 => ⟨S6x2048, .f32⟩
  | 4 => ⟨S4096x2048, .f32⟩
  | 5 => ⟨S16x256x2048, .f32⟩
  | 6 => ⟨S1x1x2048, .f32⟩
  | 7 => ⟨S2048, .f32⟩
  | 8 => ⟨S_, .f32⟩
  | 9 => ⟨S2048, .f32⟩
  | 10 => ⟨S2048, .f32⟩
  | 11 => ⟨S1x1x2048, .f32⟩
  | 12 => ⟨S16x256x2048, .f32⟩
  | 13 => ⟨S16x256x2048, .f32⟩
  | 14 => ⟨S1x1x2048, .f32⟩
  | 15 => ⟨S2048, .f32⟩
  | 16 => ⟨S1x1x2048, .f32⟩
  | 17 => ⟨S16x256x2048, .f32⟩
  | 18 => ⟨S16x256x2048, .f32⟩
  | 19 => ⟨S16x255x2048, .f32⟩
  | 20 => ⟨S_, .i32⟩
  | 21 => ⟨S_, .f32⟩
  | 22 => ⟨S16x256x2048, .f32⟩
  | 23 => ⟨S16x256x2048, .f32⟩
  | 24 => ⟨S16x255x2048, .f32⟩
  | 25 => ⟨S_, .i32⟩
  | 26 => ⟨S_, .f32⟩
  | 27 => ⟨S16x256x2048, .f32⟩
  | 28 => ⟨S16x256x2048, .f32⟩
  | 29 => ⟨S1x2048, .f32⟩
  | 30 => ⟨S2048, .f32⟩
  | 31 => ⟨S1x1x2048, .f32⟩
  | 32 => ⟨S16x256x2048, .f32⟩
  | 33 => ⟨S16x256x2048, .f32⟩
  | 34 => ⟨S16x256x2048, .f32⟩
  | 35 => ⟨S1x2048, .f32⟩
  | 36 => ⟨S2048, .f32⟩
  | 37 => ⟨S1x1x2048, .f32⟩
  | 38 => ⟨S16x256x2048, .f32⟩
  | 39 => ⟨S16x256x2048, .f32⟩
  | 40 => ⟨S16x256x2048, .f32⟩
  | 41 => ⟨S1x2048, .f32⟩
  | 42 => ⟨S2048, .f32⟩
  | 43 => ⟨S1x1x2048, .f32⟩
  | 44 => ⟨S16x256x2048, .f32⟩
  | 45 => ⟨S16x256x2048, .f32⟩
  | 46 => ⟨S16x256x2048, .f32⟩
  | 47 => ⟨S1x2048, .f32⟩
  | 48 => ⟨S2048, .f32⟩
  | 49 => ⟨S1x1x2048, .f32⟩
  | 50 => ⟨S16x256x2048, .f32⟩
  | 51 => ⟨S16x256x2048, .f32⟩
  | 52 => ⟨S16x256x2048, .f32⟩
  | 53 => ⟨S1x2048, .f32⟩
  | 54 => ⟨S2048, .f32⟩
  | 55 => ⟨S1x1x2048, .f32⟩
  | 56 => ⟨S16x256x2048, .f32⟩
  | 57 => ⟨S16x256x2048, .f32⟩
  | 58 => ⟨S16x256x2048, .f32⟩
  | 59 => ⟨S1x2048, .f32⟩
  | 60 => ⟨S2048, .f32⟩
  | 61 => ⟨S1x1x2048, .f32⟩
  | 62 => ⟨S16x256x2048, .f32⟩
  | 63 => ⟨S16x256x2048, .f32⟩
  | 64 => ⟨S16x256x2048, .f32⟩
  | 65 => ⟨S1x2048, .f32⟩
  | 66 => ⟨S2048, .f32⟩
  | 67 => ⟨S1x1x2048, .f32⟩
  | 68 => ⟨S16x256x2048, .f32⟩
  | 69 => ⟨S16x256x2048, .f32⟩
  | 70 => ⟨S16x256x2048, .f32⟩
  | 71 => ⟨S1x2048, .f32⟩
  | 72 => ⟨S2048, .f32⟩
  | 73 => ⟨S1x1x2048, .f32⟩
  | 74 => ⟨S16x256x2048, .f32⟩
  | 75 => ⟨S16x256x2048, .f32⟩
  | 76 => ⟨S16x256x2048, .f32⟩
  | 77 => ⟨S1x2048, .f32⟩
  | 78 => ⟨S2048, .f32⟩
  | 79 => ⟨S1x1x2048, .f32⟩
  | 80 => ⟨S16x256x2048, .f32⟩
  | 81 => ⟨S16x256x2048, .f32⟩
  | 82 => ⟨S16x256x2048, .f32⟩
  | 83 => ⟨S1x2048, .f32⟩
  | 84 => ⟨S2048, .f32⟩
  | 85 => ⟨S1x1x2048, .f32⟩
  | 86 => ⟨S16x256x2048, .f32⟩
  | 87 => ⟨S16x256x2048, .f32⟩
  | 88 => ⟨S16x256x2048, .f32⟩
  | 89 => ⟨S1x2048, .f32⟩
  | 90 => ⟨S2048, .f32⟩
  | 91 => ⟨S1x1x2048, .f32⟩
  | 92 => ⟨S16x256x2048, .f32⟩
  | 93 => ⟨S16x256x2048, .f32⟩
  | 94 => ⟨S16x256x2048, .f32⟩
  | 95 => ⟨S1x2048, .f32⟩
  | 96 => ⟨S2048, .f32⟩
  | 97 => ⟨S1x1x2048, .f32⟩
  | 98 => ⟨S16x256x2048, .f32⟩
  | 99 => ⟨S16x256x2048, .f32⟩
  | 100 => ⟨S16x256x2048, .f32⟩
  | 101 => ⟨S4096x2048, .f32⟩
  | 102 => ⟨S4x1024x2048, .f32⟩
  | 103 => ⟨S4x1x2048, .f32⟩
  | 104 => ⟨S4x2048, .f32⟩
  | 105 => ⟨S4x1x2048, .f32⟩
  | 106 => ⟨S_, .f32⟩
  | 107 => ⟨S4x1x2048, .f32⟩
  | 108 => ⟨S4x1x2048, .f32⟩
  | 109 => ⟨S4x1024x2048, .f32⟩
  | 110 => ⟨S4x1024x2048, .f32⟩
  | 111 => ⟨S4x1x2048, .f32⟩
  | 112 => ⟨S4x2048, .f32⟩
  | 113 => ⟨S4x1x2048, .f32⟩
  | 114 => ⟨S4x1024x2048, .f32⟩
  | 115 => ⟨S4x1024x2048, .f32⟩
  | 116 => ⟨S4x1023x2048, .f32⟩
  | 117 => ⟨S_, .i32⟩
  | 118 => ⟨S_, .f32⟩
  | 119 => ⟨S4x1024x2048, .f32⟩
  | 120 => ⟨S4x1024x2048, .f32⟩
  | 121 => ⟨S4x1023x2048, .f32⟩
  | 122 => ⟨S_, .i32⟩
  | 123 => ⟨S_, .f32⟩
  | 124 => ⟨S4x1024x2048, .f32⟩
  | 125 => ⟨S4x1024x2048, .f32⟩
  | 126 => ⟨S1x2048, .f32⟩
  | 127 => ⟨S2048, .f32⟩
  | _ => ⟨S8192x2048, .f32⟩

abbrev hbmTy0_1 (i : Nat) : BufTy := match i % 128 with
  | 0 => ⟨S1x1x2048, .f32⟩
  | 1 => ⟨S4x1024x2048, .f32⟩
  | 2 => ⟨S4x1024x2048, .f32⟩
  | 3 => ⟨S4x1024x2048, .f32⟩
  | 4 => ⟨S1x2048, .f32⟩
  | 5 => ⟨S2048, .f32⟩
  | 6 => ⟨S1x1x2048, .f32⟩
  | 7 => ⟨S4x1024x2048, .f32⟩
  | 8 => ⟨S4x1024x2048, .f32⟩
  | 9 => ⟨S4x1024x2048, .f32⟩
  | 10 => ⟨S1x2048, .f32⟩
  | 11 => ⟨S2048, .f32⟩
  | 12 => ⟨S1x1x2048, .f32⟩
  | 13 => ⟨S4x1024x2048, .f32⟩
  | 14 => ⟨S4x1024x2048, .f32⟩
  | 15 => ⟨S4x1024x2048, .f32⟩
  | 16 => ⟨S1x2048, .f32⟩
  | 17 => ⟨S2048, .f32⟩
  | 18 => ⟨S1x1x2048, .f32⟩
  | 19 => ⟨S4x1024x2048, .f32⟩
  | 20 => ⟨S4x1024x2048, .f32⟩
  | 21 => ⟨S4x1024x2048, .f32⟩
  | 22 => ⟨S1x2048, .f32⟩
  | 23 => ⟨S2048, .f32⟩
  | 24 => ⟨S1x1x2048, .f32⟩
  | 25 => ⟨S4x1024x2048, .f32⟩
  | 26 => ⟨S4x1024x2048, .f32⟩
  | 27 => ⟨S4x1024x2048, .f32⟩
  | 28 => ⟨S1x2048, .f32⟩
  | 29 => ⟨S2048, .f32⟩
  | 30 => ⟨S1x1x2048, .f32⟩
  | 31 => ⟨S4x1024x2048, .f32⟩
  | 32 => ⟨S4x1024x2048, .f32⟩
  | 33 => ⟨S4x1024x2048, .f32⟩
  | 34 => ⟨S1x2048, .f32⟩
  | 35 => ⟨S2048, .f32⟩
  | 36 => ⟨S1x1x2048, .f32⟩
  | 37 => ⟨S4x1024x2048, .f32⟩
  | 38 => ⟨S4x1024x2048, .f32⟩
  | 39 => ⟨S4x1024x2048, .f32⟩
  | 40 => ⟨S1x2048, .f32⟩
  | 41 => ⟨S2048, .f32⟩
  | 42 => ⟨S1x1x2048, .f32⟩
  | 43 => ⟨S4x1024x2048, .f32⟩
  | 44 => ⟨S4x1024x2048, .f32⟩
  | 45 => ⟨S4x1024x2048, .f32⟩
  | 46 => ⟨S1x2048, .f32⟩
  | 47 => ⟨S2048, .f32⟩
  | 48 => ⟨S1x1x2048, .f32⟩
  | 49 => ⟨S4x1024x2048, .f32⟩
  | 50 => ⟨S4x1024x2048, .f32⟩
  | 51 => ⟨S4x1024x2048, .f32⟩
  | 52 => ⟨S1x2048, .f32⟩
  | 53 => ⟨S2048, .f32⟩
  | 54 => ⟨S1x1x2048, .f32⟩
  | 55 => ⟨S4x1024x2048, .f32⟩
  | 56 => ⟨S4x1024x2048, .f32⟩
  | 57 => ⟨S4x1024x2048, .f32⟩
  | 58 => ⟨S1x2048, .f32⟩
  | 59 => ⟨S2048, .f32⟩
  | 60 => ⟨S1x1x2048, .f32⟩
  | 61 => ⟨S4x1024x2048, .f32⟩
  | 62 => ⟨S4x1024x2048, .f32⟩
  | 63 => ⟨S4x1024x2048, .f32⟩
  | 64 => ⟨S1x2048, .f32⟩
  | 65 => ⟨S2048, .f32⟩
  | 66 => ⟨S1x1x2048, .f32⟩
  | 67 => ⟨S4x1024x2048, .f32⟩
  | 68 => ⟨S4x1024x2048, .f32⟩
  | 69 => ⟨S4x1024x2048, .f32⟩
  | 70 => ⟨S4096x2048, .f32⟩
  | 71 => ⟨S4096x2048, .f32⟩
  | 72 => ⟨S8192x2048, .f32⟩
  | 73 => ⟨S8192x2048, .bf16⟩
  | 74 => ⟨S4096x2048, .f32⟩
  | 75 => ⟨S4096x2048, .f32⟩
  | 76 => ⟨S8192x2048, .f32⟩
  | 77 => ⟨S8192x2048, .bf16⟩
  | 78 => ⟨S4096x2048, .f32⟩
  | 79 => ⟨S4096x2048, .f32⟩
  | 80 => ⟨S8192x2048, .f32⟩
  | 81 => ⟨S8192x2048, .bf16⟩
  | 82 => ⟨S4096x2048, .f32⟩
  | 83 => ⟨S4096x2048, .f32⟩
  | 84 => ⟨S8192x2048, .f32⟩
  | 85 => ⟨S8192x2048, .bf16⟩
  | 86 => ⟨S4096x2048, .f32⟩
  | 87 => ⟨S4096x2048, .f32⟩
  | 88 => ⟨S8192x2048, .f32⟩
  | 89 => ⟨S8192x2048, .bf16⟩
  | 90 => ⟨S4096x2048, .f32⟩
  | 91 => ⟨S4096x2048, .f32⟩
  | 92 => ⟨S8192x2048, .f32⟩
  | 93 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_cst_1 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_c_2 : Ref sig .tc := ⟨.hbm, 117, rfl⟩
abbrev main_call2_v0 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_c_3 : Ref sig .tc := ⟨.hbm, 122, rfl⟩
abbrev main_call3_v0 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩

abbrev nD : Nat := 1
abbrev τ : Topo := Topo.v7x

variable {F : FTy → Type} [FloatOps F]
-- ==== Kernel6.lean ====
abbrev S8192x2048 : Shape := ⟨2, ![8192, 2048]⟩
abbrev S8x6x2048 : Shape := ⟨3, ![8, 6, 2048]⟩
abbrev S4x512x512 : Shape := ⟨3, ![4, 512, 512]⟩
abbrev S2048 : Shape := ⟨1, ![2048]⟩
abbrev S1x2048 : Shape := ⟨2, ![1, 2048]⟩
abbrev S4096x2048 : Shape := ⟨2, ![4096, 2048]⟩
abbrev S256x512 : Shape := ⟨2, ![256, 512]⟩
abbrev S1x6x512 : Shape := ⟨3, ![1, 6, 512]⟩
abbrev S1x512x512 : Shape := ⟨3, ![1, 512, 512]⟩
abbrev S1x512 : Shape := ⟨2, ![1, 512]⟩
abbrev S1x1x512 : Shape := ⟨3, ![1, 1, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x6x2048, .f32⟩
  | .hbm, ⟨2, _⟩ => ⟨S4x512x512, .f32⟩
  | .hbm, ⟨3, _⟩ => ⟨S2048, .f32⟩
  | .hbm, ⟨4, _⟩ => ⟨S1x2048, .f32⟩
  | .hbm, ⟨5, _⟩ => ⟨S4096x2048, .f32⟩
  | .local _ .vmem, ⟨0, _⟩ => ⟨S256x512, .f32⟩
  | .local _ .vmem, ⟨1, _⟩ => ⟨S256x512, .f32⟩
  | .local _ .vmem, ⟨2, _⟩ => ⟨S1x6x512, .f32⟩
  | .local _ .vmem, ⟨3, _⟩ => ⟨S1x6x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_6 : BitVec 32 := 0#32
  let v14 : BitVec 1 := Scalar.cmpi .ne v13 c0_i32_6
  v14

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def k0_cond3 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_8 : BitVec 32 := 0#32
  let v20 : BitVec 1 := Scalar.cmpi .ne v19 c0_i32_8
  v20

def k0_cond4 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x2048 : Shape := ⟨2, ![8192, 2048]⟩
abbrev S8x6x2048 : Shape := ⟨3, ![8, 6, 2048]⟩
abbrev S4x512x512 : Shape := ⟨3, ![4, 512, 512]⟩
abbrev S2048 : Shape := ⟨1, ![2048]⟩
abbrev S4096x2048 : Shape := ⟨2, ![4096, 2048]⟩
abbrev S16x256x2048 : Shape := ⟨3, ![16, 256, 2048]⟩
abbrev S1x1x2048 : Shape := ⟨3, ![1, 1, 2048]⟩
abbrev S_ : Shape := ⟨0, ![]⟩
abbrev S256 : Shape := ⟨1, ![256]⟩
abbrev S16x256x512 : Shape := ⟨3, ![16, 256, 512]⟩
abbrev S1x256 : Shape := ⟨2, ![1, 256]⟩
abbrev S256x1 : Shape := ⟨2, ![256, 1]⟩
abbrev S256x256 : Shape := ⟨2, ![256, 256]⟩
abbrev S16x512x256 : Shape := ⟨3, ![16, 512, 256]⟩
abbrev S1x256x1 : Shape := ⟨3, ![1, 256, 1]⟩
abbrev S16x256x1x512 : Shape := ⟨4, ![16, 256, 1, 512]⟩
abbrev S16x256x4x512 : Shape := ⟨4, ![16, 256, 4, 512]⟩
abbrev S4x512x16x256 : Shape := ⟨4, ![4, 512, 16, 256]⟩

abbrev nBuf : Space → Nat
  | .hbm => 184
  | .vmem => 0
  | .smem => 0
  | _ => 0

abbrev hbmTy0_0 (i : Nat) : BufTy := match i % 128 with
  | 0 => ⟨S8192x2048, .f32⟩
  | 1 => ⟨S8x6x2048, .f32⟩
  | 2 => ⟨S4x512x512, .f32⟩
  | 3 => ⟨S2048, .f32⟩
  | 4 => ⟨S4096x2048, .f32⟩
  | 5 => ⟨S16x256x2048, .f32⟩
  | 6 => ⟨S1x1x2048, .f32⟩
  | 7 => ⟨S2048, .f32⟩
  | 8 => ⟨S_, .f32⟩
  | 9 => ⟨S2048, .f32⟩
  | 10 => ⟨S2048, .f32⟩
  | 11 => ⟨S1x1x2048, .f32⟩
  | 12 => ⟨S16x256x2048, .f32⟩
  | 13 => ⟨S16x256x2048, .f32⟩
  | 14 => ⟨S1x1x2048, .f32⟩
  | 15 => ⟨S2048, .f32⟩
  | 16 => ⟨S1x1x2048, .f32⟩
  | 17 => ⟨S16x256x2048, .f32⟩
  | 18 => ⟨S16x256x2048, .f32⟩
  | 19 => ⟨S256, .i32⟩
  | 20 => ⟨S16x256x512, .f32⟩
  | 21 => ⟨S_, .i32⟩
  | 22 => ⟨S256, .i32⟩
  | 23 => ⟨S256, .i32⟩
  | 24 => ⟨S_, .i32⟩
  | 25 => ⟨S256, .i32⟩
  | 26 => ⟨S256, .i32⟩
  | 27 => ⟨S_, .i32⟩
  | 28 => ⟨S256, .i32⟩
  | 29 => ⟨S256, .i32⟩
  | 30 => ⟨S_, .i32⟩
  | 31 => ⟨S256, .i32⟩
  | 32 => ⟨S256, .i32⟩
  | 33 => ⟨S1x256, .i32⟩
  | 34 => ⟨S256x1, .i32⟩
  | 35 => ⟨S256x256, .i32⟩
  | 36 => ⟨S256x256, .i32⟩
  | 37 => ⟨S256x256, .i1⟩
  | 38 => ⟨S1x256, .i32⟩
  | 39 => ⟨S256x1, .i32⟩
  | 40 => ⟨S256x256, .i32⟩
  | 41 => ⟨S256x256, .i32⟩
  | 42 => ⟨S256x256, .i1⟩
  | 43 => ⟨S256x256, .i1⟩
  | 44 => ⟨S_, .f32⟩
  | 45 => ⟨S_, .f32⟩
  | 46 => ⟨S256x256, .f32⟩
  | 47 => ⟨S256x256, .f32⟩
  | 48 => ⟨S256x256, .f32⟩
  | 49 => ⟨S16x512x256, .f32⟩
  | 50 => ⟨S16x256x512, .f32⟩
  | 51 => ⟨S256, .i32⟩
  | 52 => ⟨S256, .f32⟩
  | 53 => ⟨S256x1, .f32⟩
  | 54 => ⟨S1x256x1, .f32⟩
  | 55 => ⟨S16x256x512, .f32⟩
  | 56 => ⟨S16x256x512, .f32⟩
  | 57 => ⟨S16x256x512, .f32⟩
  | 58 => ⟨S16x256x512, .f32⟩
  | 59 => ⟨S_, .i32⟩
  | 60 => ⟨S256, .i32⟩
  | 61 => ⟨S256, .i32⟩
  | 62 => ⟨S_, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S256, .i32⟩
  | 70 => ⟨S256, .i32⟩
  | 71 => ⟨S1x256, .i32⟩
  | 72 => ⟨S256x1, .i32⟩
  | 73 => ⟨S256x256, .i32⟩
  | 74 => ⟨S256x256, .i32⟩
  | 75 => ⟨S256x256, .i1⟩
  | 76 => ⟨S1x256, .i32⟩
  | 77 => ⟨S256x1, .i32⟩
  | 78 => ⟨S256x256, .i32⟩
  | 79 => ⟨S256x256, .i32⟩
  | 80 => ⟨S256x256, .i1⟩
  | 81 => ⟨S256x256, .i1⟩
  | 82 => ⟨S_, .f32⟩
  | 83 => ⟨S_, .f32⟩
  | 84 => ⟨S256x256, .f32⟩
  | 85 => ⟨S256x256, .f32⟩
  | 86 => ⟨S256x256, .f32⟩
  | 87 => ⟨S16x512x256, .f32⟩
  | 88 => ⟨S16x256x512, .f32⟩
  | 89 => ⟨S256, .i32⟩
  | 90 => ⟨S256, .f32⟩
  | 91 => ⟨S256x1, .f32⟩
  | 92 => ⟨S1x256x1, .f32⟩
  | 93 => ⟨S16x256x512, .f32⟩
  | 94 => ⟨S16x256x512, .f32⟩
  | 95 => ⟨S16x256x512, .f32⟩
  | 96 => ⟨S16x256x512, .f32⟩
  | 97 => ⟨S_, .i32⟩
  | 98 => ⟨S256, .i32⟩
  | 99 => ⟨S256, .i32⟩
  | 100 => ⟨S_, .i32⟩
  | 101 => ⟨S256, .i32⟩
  | 102 => ⟨S256, .i32⟩
  | 103 => ⟨S_, .i32⟩
  | 104 => ⟨S256, .i32⟩
  | 105 => ⟨S256, .i32⟩
  | 106 => ⟨S_, .i32⟩
  | 107 => ⟨S256, .i32⟩
  | 108 => ⟨S256, .i32⟩
  | 109 => ⟨S1x256, .i32⟩
  | 110 => ⟨S256x1, .i32⟩
  | 111 => ⟨S256x256, .i32⟩
  | 112 => ⟨S256x256, .i32⟩
  | 113 => ⟨S256x256, .i1⟩
  | 114 => ⟨S1x256, .i32⟩
  | 115 => ⟨S256x1, .i32⟩
  | 116 => ⟨S256x256, .i32⟩
  | 117 => ⟨S256x256, .i32⟩
  | 118 => ⟨S256x256, .i1⟩
  | 119 => ⟨S256x256, .i1⟩
  | 120 => ⟨S_, .f32⟩
  | 121 => ⟨S_, .f32⟩
  | 122 => ⟨S256x256, .f32⟩
  | 123 => ⟨S256x256, .f32⟩
  | 124 => ⟨S256x256, .f32⟩
  | 125 => ⟨S16x512x256, .f32⟩
  | 126 => ⟨S16x256x512, .f32⟩
  | 127 => ⟨S256, .i32⟩
  | _ => ⟨S8192x2048, .f32⟩

abbrev hbmTy0_1 (i : Nat) : BufTy := match i % 128 with
  | 0 => ⟨S256, .f32⟩
  | 1 => ⟨S256x1, .f32⟩
  | 2 => ⟨S1x256x1, .f32⟩
  | 3 => ⟨S16x256x512, .f32⟩
  | 4 => ⟨S16x256x512, .f32⟩
  | 5 => ⟨S16x256x512, .f32⟩
  | 6 => ⟨S16x256x512, .f32⟩
  | 7 => ⟨S_, .i32⟩
  | 8 => ⟨S256, .i32⟩
  | 9 => ⟨S256, .i32⟩
  | 10 => ⟨S_, .i32⟩
  | 11 => ⟨S256, .i32⟩
  | 12 => ⟨S256, .i32⟩
  | 13 => ⟨S_, .i32⟩
  | 14 => ⟨S256, .i32⟩
  | 15 => ⟨S256, .i32⟩
  | 16 => ⟨S_, .i32⟩
  | 17 => ⟨S256, .i32⟩
  | 18 => ⟨S256, .i32⟩
  | 19 => ⟨S1x256, .i32⟩
  | 20 => ⟨S256x1, .i32⟩
  | 21 => ⟨S256x256, .i32⟩
  | 22 => ⟨S256x256, .i32⟩
  | 23 => ⟨S256x256, .i1⟩
  | 24 => ⟨S1x256, .i32⟩
  | 25 => ⟨S256x1, .i32⟩
  | 26 => ⟨S256x256, .i32⟩
  | 27 => ⟨S256x256, .i32⟩
  | 28 => ⟨S256x256, .i1⟩
  | 29 => ⟨S256x256, .i1⟩
  | 30 => ⟨S_, .f32⟩
  | 31 => ⟨S_, .f32⟩
  | 32 => ⟨S256x256, .f32⟩
  | 33 => ⟨S256x256, .f32⟩
  | 34 => ⟨S256x256, .f32⟩
  | 35 => ⟨S16x512x256, .f32⟩
  | 36 => ⟨S16x256x512, .f32⟩
  | 37 => ⟨S256, .i32⟩
  | 38 => ⟨S256, .f32⟩
  | 39 => ⟨S256x1, .f32⟩
  | 40 => ⟨S1x256x1, .f32⟩
  | 41 => ⟨S16x256x512, .f32⟩
  | 42 => ⟨S16x256x512, .f32⟩
  | 43 => ⟨S16x256x512, .f32⟩
  | 44 => ⟨S16x256x1x512, .f32⟩
  | 45 => ⟨S16x256x1x512, .f32⟩
  | 46 => ⟨S16x256x1x512, .f32⟩
  | 47 => ⟨S16x256x1x512, .f32⟩
  | 48 => ⟨S16x256x4x512, .f32⟩
  | 49 => ⟨S4x512x16x256, .f32⟩
  | 50 => ⟨S16x256x4x512, .f32⟩
  | 51 => ⟨S16x256x2048, .f32⟩
  | 52 => ⟨S1x1x2048, .f32⟩
  | 53 => ⟨S16x256x2048, .f32⟩
  | 54 => ⟨S16x256x2048, .f32⟩
  | 55 => ⟨S4096x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_cst_10 : Ref sig .tc := ⟨.hbm, 83, rfl⟩
abbrev main_call1_v0 : Ref sig .tc := ⟨.hbm, 84, rfl⟩
abbrev main_call1_v1 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_11 : Ref sig .tc := ⟨.hbm, 97, rfl⟩
abbrev main_v76 : Ref sig .tc := ⟨.hbm, 98, rfl⟩
abbrev main_v77 : Ref sig .tc := ⟨.hbm, 99, rfl⟩
abbrev main_c_12 : Ref sig .tc := ⟨.hbm, 100, rfl⟩
abbrev main_v78 : Ref sig .tc := ⟨.hbm, 101, rfl⟩
abbrev main_v79 : Ref sig .tc := ⟨.hbm, 102, rfl⟩
abbrev main_c_13 : Ref sig .tc := ⟨.hbm, 103, rfl⟩
abbrev main_v80 : Ref sig .tc := ⟨.hbm, 104, rfl⟩
abbrev main_v81 : Ref sig .tc := ⟨.hbm, 105, rfl⟩
abbrev main_c_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_cst_16 : Ref sig .tc := ⟨.hbm, 121, rfl⟩
abbrev main_call2_v0 : Ref sig .tc := ⟨.hbm, 122, rfl⟩
abbrev main_call2_v1 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_17 : Ref sig .tc := ⟨.hbm, 135, rfl⟩
abbrev main_v106 : Ref sig .tc := ⟨.hbm, 136, rfl⟩
abbrev main_v107 : Ref sig .tc := ⟨.hbm, 137, rfl⟩
abbrev main_c_18 : Ref sig .tc := ⟨.hbm, 138, rfl⟩
abbrev main_v108 : Ref sig .tc := ⟨.hbm, 139, rfl⟩
abbrev main_v109 : Ref sig .tc := ⟨.hbm, 140, rfl⟩
abbrev main_c_19 : Ref sig .tc := ⟨.hbm, 141, rfl⟩
abbrev main_v110 : Ref sig .tc := ⟨.hbm, 142, rfl⟩
abbrev main_v111 : Ref sig .tc := ⟨.hbm, 143, rfl⟩
abbrev main_c_20 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_21 : Ref sig .tc := ⟨.hbm, 158, rfl⟩
abbrev main_cst_22 : Ref sig .tc := ⟨.hbm, 159, rfl⟩
abbrev main_call3_v0 : Ref sig .tc := ⟨.hbm, 160, rfl⟩
abbrev main_call3_v1 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩

abbrev nD : Nat := 1
abbrev τ : Topo := Topo.v7x

variable {F : FTy → Type} [FloatOps F]
-- ==== Kernel7.lean ====
abbrev S8192x2048 : Shape := ⟨2, ![8192, 2048]⟩
abbrev S2048x256 : Shape := ⟨2, ![2048, 256]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x256, .f32⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2048x256 : Shape := ⟨2, ![2048, 256]⟩
abbrev S8192x256 : Shape := ⟨2, ![8192, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x256, .f32⟩
  | .hbm, ⟨2, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S8192x256 : Shape := ⟨2, ![8192, 256]⟩
abbrev S256x2048 : Shape := ⟨2, ![256, 2048]⟩
abbrev S_ : Shape := ⟨0, ![]⟩
abbrev S8192x2048 : Shape := ⟨2, ![8192, 2048]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 11
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S256x512, .f32⟩
  | .local _ .vmem, ⟨4, _⟩ => ⟨S1024x512, .f32⟩
  | .local _ .vmem, ⟨5, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x256 : Shape := ⟨2, ![8192, 256]⟩
abbrev S256x2048 : Shape := ⟨2, ![256, 2048]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S8192x2048 : Shape := ⟨2, ![8192, 2048]⟩
abbrev S2048x96 : Shape := ⟨2, ![2048, 96]⟩
abbrev S8192x96 : Shape := ⟨2, ![8192, 96]⟩
abbrev S1024x2048 : Shape := ⟨2, ![1024, 2048]⟩
abbrev S1024x96 : Shape := ⟨2, ![1024, 96]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x96, .f32⟩
  | .hbm, ⟨2, _⟩ => ⟨S8192x96, .f32⟩
  | .local _ .vmem, ⟨0, _⟩ => ⟨S1024x2048, .bf16⟩
  | .local _ .vmem, ⟨1, _⟩ => ⟨S1024x2048, .bf16⟩
  | .local _ .vmem, ⟨2, _⟩ => ⟨S2048x96, .f32⟩
  | .local _ .vmem, ⟨3, _⟩ => ⟨S1024x96, .f32⟩
  | .local _ .vmem, ⟨4, _⟩ => ⟨S1024x96, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2048x96 : Shape := ⟨2, ![2048, 96]⟩
abbrev S8192x96 : Shape := ⟨2, ![8192, 96]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x96, .f32⟩
  | .hbm, ⟨2, _⟩ => ⟨S8192x96, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x96 : Shape := ⟨2, ![8192, 96]⟩
abbrev S96x2048 : Shape := ⟨2, ![96, 2048]⟩
abbrev S8192x2048 : Shape := ⟨2, ![8192, 2048]⟩
abbrev S1024x96 : Shape := ⟨2, ![1024, 96]⟩
abbrev S96x512 : Shape := ⟨2, ![96, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x96, .f32⟩
  | .hbm, ⟨1, _⟩ => ⟨S96x2048, .f32⟩
  | .hbm, ⟨2, _⟩ => ⟨S8192x96, .f32⟩
  | .hbm, ⟨3, _⟩ => ⟨S8192x2048, .f32⟩
  | .local _ .vmem, ⟨0, _⟩ => ⟨S1024x96, .f32⟩
  | .local _ .vmem, ⟨1, _⟩ => ⟨S1024x96, .f32⟩
  | .local _ .vmem, ⟨2, _⟩ => ⟨S96x512, .f32⟩
  | .local _ .vmem, ⟨3, _⟩ => ⟨S96x512, .f32⟩
  | .local _ .vmem, ⟨4, _⟩ => ⟨S1024x512, .f32⟩
  | .local _ .vmem, ⟨5, _⟩ => ⟨S1024x512, .f32⟩
  | _, _ => ⟨S8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x96 : Shape := ⟨2, ![8192, 96]⟩
abbrev S96x2048 : Shape := ⟨2, ![96, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x96, .f32⟩
  | .hbm, ⟨1, _⟩ => ⟨S96x2048, .f32⟩
  | .hbm, ⟨2, _⟩ => ⟨S8192x96, .f32⟩
  | .hbm, ⟨3, _⟩ => ⟨S8192x2048, .f32⟩
  | _, _ => ⟨S8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x96 : Shape := ⟨2, ![8192, 96]⟩
abbrev S96x2048 : Shape := ⟨2, ![96, 2048]⟩
abbrev S8192x2048 : Shape := ⟨2, ![8192, 2048]⟩
abbrev S1024x96 : Shape := ⟨2, ![1024, 96]⟩
abbrev S96x512 : Shape := ⟨2, ![96, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x96, .f32⟩
  | .hbm, ⟨1, _⟩ => ⟨S96x2048, .f32⟩
  | .hbm, ⟨2, _⟩ => ⟨S8192x2048, .f32⟩
  | .local _ .vmem, ⟨0, _⟩ => ⟨S1024x96, .f32⟩
  | .local _ .vmem, ⟨1, _⟩ => ⟨S1024x96, .f32⟩
  | .local _ .vmem, ⟨2, _⟩ => ⟨S96x512, .f32⟩
  | .local _ .vmem, ⟨3, _⟩ => ⟨S96x512, .f32⟩
  | .local _ .vmem, ⟨4, _⟩ => ⟨S1024x512, .f32⟩
  | .local _ .vmem, ⟨5, _⟩ => ⟨S1024x512, .f32⟩
  | _, _ => ⟨S8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x96 : Shape := ⟨2, ![8192, 96]⟩
abbrev S96x2048 : Shape := ⟨2, ![96, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x96, .f32⟩
  | .hbm, ⟨1, _⟩ => ⟨S96x2048, .f32⟩
  | .hbm, ⟨2, _⟩ => ⟨S8192x2048, .f32⟩
  | _, _ => ⟨S8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8x2048 : Shape := ⟨2, ![8, 2048]⟩
abbrev S2x2048x12288 : Shape := ⟨3, ![2, 2048, 12288]⟩
abbrev S8x12288 : Shape := ⟨2, ![8, 12288]⟩
abbrev S1x2048x1024 : Shape := ⟨3, ![1, 2048, 1024]⟩
abbrev S8x1024 : Shape := ⟨2, ![8, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S8x1024, .f32⟩
  | .local _ .vmem, ⟨4, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8x2048 : Shape := ⟨2, ![8, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S8x12288 : Shape := ⟨2, ![8, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S1x2048x12288, .f32⟩
  | .hbm, ⟨3, _⟩ => ⟨S2048x12288, .f32⟩
  | .hbm, ⟨4, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.ItemsBody.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.VecWindow
public import Idealize.ShloMosaic.Lib.Tactic
public import Idealize.ShloMosaic.Lib.Claim

@[expose] public section

set_option maxRecDepth 16384

/-! The body of the routed experts' kernel at one grid point: what it leaves in the output's block, from the blocks it
    is handed and the words of the prefetched tables. -/

noncomputable section

namespace Cert.KernelIdeal.Items

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The prefetched table `k`, held at half the full share at the contents `f`. -/
abbrev table (c : Dev nD) {S : Shape} {e : EltTy} (M : Memref sig .tc .smem S e) (f : Buf (Elt F) (M.view.loc (c : Thread nD τ))) : sProp 𝕄 :=
  M.view.loc (c : Thread nD τ) ↦{fullShare.right} f

/-- The word of table `k` that the body reads at grid point `i`. -/
abbrev lowW (tb : pre0.Contents (Elt F)) (i : grid0.Coords) : BitVec 32 :=
  tb.at 2 (Rect.unit (s := S255) (k0_off2 i) S1.size (k0_off2_inb i)) numel1_S1
abbrev highW (tb : pre0.Contents (Elt F)) (i : grid0.Coords) : BitVec 32 :=
  tb.at 3 (Rect.unit (s := S255) (k0_off2 i) S1.size (k0_off2_inb i)) numel1_S1
abbrev opensW (tb : pre0.Contents (Elt F)) (i : grid0.Coords) : BitVec 32 :=
  tb.at 4 (Rect.unit (s := S255) (k0_off2 i) S1.size (k0_off2_inb i)) numel1_S1
abbrev opensW' (tb : pre0.Contents (Elt F)) (i : grid0.Coords) : BitVec 32 :=
  tb.at 4 (Rect.unit (s := S255) (k0_off3 i) S1.size (k0_off3_inb i)) numel1_S1
abbrev totalW (tb : pre0.Contents (Elt F)) : BitVec 32 :=
  tb.at 5 (Rect.unit (s := S1) ![0] S1.size inb_S1_S1_0) numel1_S1

/-- The four tables that the body reads. -/
abbrev read4 (c : Dev nD) (tb : pre0.Contents (Elt F)) : sProp 𝕄 :=
  iprop(table c (Memref.whole main_v52) (tb 2) ∗ table c (Memref.whole main_v61) (tb 3) ∗ table c (Memref.whole main_v66) (tb 4)
    ∗ table c (Memref.whole main_v67) (tb 5))

section Runs
variable (c : Dev nD) (i : grid0.Coords) (tb : pre0.Contents (Elt F))
    (arg7 : Memref sig .tc .vmem S256x2048 .f32) (harg7 : arg7.IsWhole) (arg8 : Memref sig .tc .vmem S1x1x2048x512 .f32) (harg8 : arg8.IsWhole)
    (arg9 : Memref sig .tc .vmem S1x1x2048x512 .f32) (harg9 : arg9.IsWhole) (arg10 : Memref sig .tc .vmem S1x1x512x2048 .f32) (harg10 : arg10.IsWhole)
    (arg11 : Memref sig .tc .vmem S256x2048 .f32) (harg11 : arg11.IsWhole)
    (x : Vec F S256x2048 .f32) (wg wu : Vec F S1x1x2048x512 .f32) (wd : Vec F S1x1x512x2048 .f32) (d : Vec F S256x2048 .f32)

/-- The five windows' blocks, the output's at `d`. -/
abbrev blocks (d : Vec F S256x2048 .f32) : sProp 𝕄 :=
  iprop(owns (c : Thread nD τ) arg7 fullShare x ∗ owns (c : Thread nD τ) arg8 fullShare wg ∗ owns (c : Thread nD τ) arg9 fullShare wu
    ∗ owns (c : Thread nD τ) arg10 fullShare wd ∗ owns (c : Thread nD τ) arg11 fullShare d)

/-- The body at grid point `i` leaves `d'` in the output's block where it found `d`. -/
abbrev Leaves (d d' : Vec F S256x2048 .f32) : Prop :=
  ∀ (E : Set ℕ) (K : PUnit → sProp 𝕄),
    iprop(read4 c tb ∗ blocks c arg7 arg8 arg9 arg10 arg11 x wg wu wd d
        ∗ (iprop(read4 c tb ∗ blocks c arg7 arg8 arg9 arg10 arg11 x wg wu wd d') -∗ K ⟨⟩))
      ⊢ wp frame (wpE (defs₀ (F := F)) Variants.none c none) E
        (cc0_expert_ffn i (Memref.whole main_v43) (Memref.isWhole_whole _) (Memref.whole main_v26) (Memref.isWhole_whole _)
          (Memref.whole main_v52) (Memref.isWhole_whole _) (Memref.whole main_v61) (Memref.isWhole_whole _)
          (Memref.whole main_v66) (Memref.isWhole_whole _) (Memref.whole main_v67) (Memref.isWhole_whole _)
          arg7 harg7 arg8 harg8 arg9 harg9 arg10 harg10 arg11 harg11) K

set_option maxHeartbeats 3000000 in
/-- What the body leaves: a tile's first item stores its share, a later one adds its own, and a point past the last item stores nothing. -/
theorem run_body (d' : Vec F S256x2048 .f32)
    (h : (k0_cond1 i (totalW tb) = 1#1 ∧ k0_cond2 (opensW tb i) = 1#1 ∧ (¬ k0_cond3 (opensW' tb i) = 1#1)
          ∧ d' = k0_pay2 x (lowW tb i) (highW tb i) wg wu wd)
      ∨ (k0_cond1 i (totalW tb) = 1#1 ∧ (¬ k0_cond2 (opensW tb i) = 1#1) ∧ k0_cond3 (opensW' tb i) = 1#1
          ∧ d' = k0_pay1 (k0_pay2 x (lowW tb i) (highW tb i) wg wu wd) d)
      ∨ ((¬ k0_cond1 i (totalW tb) = 1#1) ∧ d' = d)) :
    Leaves c i tb arg7 harg7 arg8 harg8 arg9 harg9 arg10 harg10 arg11 harg11 x wg wu wd d d' := by
  intro E K
  simp only [cc0_expert_ffn_eq_skeleton]; unfold cc0_expert_ffn_skel
  simp only [k0_part1_eq_skeleton]
  unfold read4 blocks owns
  iintro ⟨⟨T2, T3, T4, T5⟩, ⟨⟨%f0, %hf0, H0⟩, ⟨%f1, %hf1, H1⟩, ⟨%f2, %hf2, H2⟩, ⟨%f3, %hf3, H3⟩, ⟨%f4, %hf4, H4⟩⟩, Hk⟩
  obtain rfl := harg7.eq_unread hf0; obtain rfl := harg8.eq_unread hf1; obtain rfl := harg9.eq_unread hf2
  obtain rfl := harg10.eq_unread hf3; obtain rfl := harg11.eq_unread hf4
  rcases h with ⟨h1, h2, h3, hd⟩ | ⟨h1, h2, h3, hd⟩ | ⟨h1, hd⟩
  all_goals
    sl_exec (disch := first | sl_exact h1 | sl_exact h2 | sl_exact h3)
    sl_step
    iapply Hk
    isplitl [T2 T3 T4 T5]
    · isplitl [T2]; · iexact T2
      isplitl [T3]; · iexact T3
      isplitl [T4]; · iexact T4
      iexact T5
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    iexists _; isplitr; swap; · iexact H4
    ipureintro
  · rw [View.read_writes_full, View.readAt_full, View.readAt_full, View.readAt_full, View.readAt_full, hf0, hf1, hf2, hf3, hd]
    rfl
  · rw [View.read_writes_full, View.readAt_full, hf4]
    unfold run_body.sl.r_11
    rw [View.readAt_full, View.readAt_full, View.readAt_full, View.readAt_full, hf0, hf1, hf2, hf3, hd]
    rfl
  · rw [hd]
    exact hf4

/-- A tile's first item stores its share. -/
theorem run_opens (h1 : k0_cond1 i (totalW tb) = 1#1) (h2 : k0_cond2 (opensW tb i) = 1#1)
    (h3 : ¬ k0_cond3 (opensW' tb i) = 1#1) :
    Leaves c i tb arg7 harg7 arg8 harg8 arg9 harg9 arg10 harg10 arg11 harg11 x wg wu wd d (k0_pay2 x (lowW tb i) (highW tb i) wg wu wd) :=
  run_body c i tb arg7 harg7 arg8 harg8 arg9 harg9 arg10 harg10 arg11 harg11 x wg wu wd d _ (.inl ⟨h1, h2, h3, rfl⟩)

/-- A later item of the tile adds its share. -/
theorem run_adds (h1 : k0_cond1 i (totalW tb) = 1#1) (h2 : ¬ k0_cond2 (opensW tb i) = 1#1)
    (h3 : k0_cond3 (opensW' tb i) = 1#1) :
    Leaves c i tb arg7 harg7 arg8 harg8 arg9 harg9 arg10 harg10 arg11 harg11 x wg wu wd d (k0_pay1 (k0_pay2 x (lowW tb i) (highW tb i) wg wu wd) d) :=
  run_body c i tb arg7 harg7 arg8 harg8 arg9 harg9 arg10 harg10 arg11 harg11 x wg wu wd d _ (.inr (.inl ⟨h1, h2, h3, rfl⟩))

/-- A grid point past the last item stores nothing. -/
theorem run_rests (h1 : ¬ k0_cond1 i (totalW tb) = 1#1) :
    Leaves c i tb arg7 harg7 arg8 harg8 arg9 harg9 arg10 harg10 arg11 harg11 x wg wu wd d d :=
  run_body c i tb arg7 harg7 arg8 harg8 arg9 harg9 arg10 harg10 arg11 harg11 x wg wu wd d _ (.inr (.inr ⟨h1, rfl⟩))

end Runs

end Cert.KernelIdeal.Items

end
-- ==== Proof.Plan.lean ====
module

public import Mathlib.Algebra.BigOperators.Group.Finset.Basic
public import Mathlib.Algebra.Order.BigOperators.Group.Finset
public import Mathlib.Order.Interval.Finset.Nat
public import Mathlib.Data.Nat.Count
public import Mathlib.Tactic.Ring
public import Mathlib.Tactic.Linarith

@[expose] public section

/-! The plan of the routed experts, over natural numbers: from the experts' row counts to the work items that the
    kernel walks, each one expert's share of one tile of 256 rows. -/

namespace Plan

/-- The rows of the experts before expert `e`. -/
def upto (c : ℕ → ℕ) (e : ℕ) : ℕ := ∑ i ∈ Finset.range e, c i

/-- How many tiles expert `e`'s rows touch. -/
def tiles (c : ℕ → ℕ) (e : ℕ) : ℕ := if 0 < c e then (upto c (e + 1) - 1) / 256 - upto c e / 256 + 1 else 0

/-- The items of the experts before expert `e`. -/
def items (c : ℕ → ℕ) (e : ℕ) : ℕ := upto (tiles c) e

/-- The number of items. -/
def total (c : ℕ → ℕ) : ℕ := items c 64

/-- The item that grid point `w` stands for: itself, or the last one. -/
def clamp (c : ℕ → ℕ) (w : ℕ) : ℕ := min w (total c - 1)

/-- The expert of grid point `w`. -/
def own (c : ℕ → ℕ) (w : ℕ) : ℕ := Nat.count (fun e => items c (e + 1) ≤ clamp c w) 64

/-- The tile of grid point `w`. -/
def tile (c : ℕ → ℕ) (w : ℕ) : ℕ := upto c (own c w) / 256 + (clamp c w - items c (own c w))

/-- The first row of the tile that is the expert's. -/
def lo (c : ℕ → ℕ) (w : ℕ) : ℕ := upto c (own c w) - tile c w * 256

/-- The row of the tile at which the expert's rows end. -/
def hi (c : ℕ → ℕ) (w : ℕ) : ℕ := min (upto c (own c w + 1) - tile c w * 256) 256

/-- Whether grid point `w` is the first of its tile. -/
def opens (c : ℕ → ℕ) (w : ℕ) : Prop := w = 0 ∨ tile c w ≠ tile c (w - 1)

theorem upto_succ (c : ℕ → ℕ) (e : ℕ) : upto c (e + 1) = upto c e + c e := Finset.sum_range_succ _ _

theorem upto_zero (c : ℕ → ℕ) : upto c 0 = 0 := rfl

attribute [irreducible] upto

theorem upto_mono (c : ℕ → ℕ) : Monotone (upto c) :=
  monotone_nat_of_le_succ fun e => by rw [upto_succ]; omega

theorem items_succ (c : ℕ → ℕ) (e : ℕ) : items c (e + 1) = items c e + tiles c e := upto_succ _ _

theorem items_mono (c : ℕ → ℕ) : Monotone (items c) := upto_mono _

/-- A number below the `n`-th partial sum lies between two neighbouring ones. -/
theorem between (f : ℕ → ℕ) (h0 : f 0 = 0) (n w : ℕ) (h : w < f n) : ∃ e < n, f e ≤ w ∧ w < f (e + 1) := by
  induction n with
  | zero => omega
  | succ n ih =>
    by_cases hn : w < f n
    · obtain ⟨e, he, h⟩ := ih hn
      exact ⟨e, by omega, h⟩
    · exact ⟨n, by omega, by omega, h⟩

/-- The number of partial sums that `w` has passed is the place it lies at. -/
theorem count_between (f : ℕ → ℕ) (hf : Monotone f) (n e w : ℕ) (he : e < n) (h1 : f e ≤ w) (h2 : w < f (e + 1)) :
    Nat.count (fun i => f (i + 1) ≤ w) n = e := by
  rw [Nat.count_eq_card_filter_range]
  have : (Finset.range n).filter (fun i => f (i + 1) ≤ w) = Finset.range e := by
    ext i
    simp only [Finset.mem_filter, Finset.mem_range]
    constructor
    · rintro ⟨_, h⟩
      by_contra hi
      have := hf (show e + 1 ≤ i + 1 by omega)
      omega
    · intro hi
      have := hf (show i + 1 ≤ e by omega)
      omega
  rw [this, Finset.card_range]

section Facts
variable {c : ℕ → ℕ} (h : upto c 64 = 49152)

include h in
theorem total_pos : 0 < total c := by
  by_contra hz
  have hz : items c 64 = 0 := by unfold total at hz; omega
  have hall : ∀ e ≤ 64, upto c e = 0 := by
    intro e
    induction e with
    | zero => intro _; exact upto_zero c
    | succ e ih =>
      intro he
      have h1 := items_mono c (show e + 1 ≤ 64 by omega)
      rw [hz, items_succ] at h1
      have h2 : tiles c e = 0 := Nat.le_zero.mp (le_trans (Nat.le_add_left _ _) h1)
      have h3 : c e = 0 := by
        by_contra hne
        rw [tiles, if_pos (Nat.pos_of_ne_zero hne)] at h2
        exact Nat.succ_ne_zero _ h2
      rw [upto_succ, ih (by omega), h3]
  have := hall 64 le_rfl
  rw [h] at this
  exact absurd this (by decide)

theorem items_le (k : ℕ) : if 0 < upto c k then items c k ≤ (upto c k - 1) / 256 + k else items c k = 0 := by
  induction k with
  | zero => simp [upto_zero, items]
  | succ k ih =>
    rw [items_succ, tiles, upto_succ]
    by_cases hc : 0 < c k
    · rw [if_pos hc, if_pos (by omega)]
      split at ih <;> omega
    · have : c k = 0 := by omega
      rw [if_neg hc, this]
      simp only [add_zero]
      split at ih <;> rename_i hu
      · rw [if_pos hu]; omega
      · rw [if_neg hu]; exact ih

include h in
theorem total_le : total c ≤ 255 := by
  have := items_le (c := c) 64
  rw [if_pos (by omega), h] at this
  unfold total
  omega

include h in
/-- Grid point `w`'s expert is a real one, and its item lies among that expert's. -/
theorem own_spec (w : ℕ) : own c w < 64 ∧ items c (own c w) ≤ clamp c w ∧ clamp c w < items c (own c w + 1) := by
  have hp := total_pos h
  have hlt : clamp c w < items c 64 := by
    unfold clamp
    change _ < total c
    omega
  obtain ⟨e, he, h1, h2⟩ := between (items c) (upto_zero _) 64 (clamp c w) hlt
  have : own c w = e := count_between (items c) (items_mono c) 64 e _ he h1 h2
  rw [this]
  exact ⟨he, h1, h2⟩

include h in
/-- Grid point `w`'s tile is one that its expert's rows touch. -/
theorem tile_spec (w : ℕ) : 0 < c (own c w) ∧ upto c (own c w) / 256 ≤ tile c w ∧
    tile c w ≤ (upto c (own c w + 1) - 1) / 256 := by
  obtain ⟨he, h1, h2⟩ := own_spec h w
  rw [items_succ, tiles] at h2
  have hs := upto_succ c (own c w)
  unfold tile
  split at h2
  · omega
  · omega

include h in
theorem tile_lt (w : ℕ) : tile c w < 192 := by
  obtain ⟨he, _⟩ := own_spec h w
  obtain ⟨h0, h1, h2⟩ := tile_spec h w
  have := upto_mono c (show own c w + 1 ≤ 64 by omega)
  omega

theorem clamp_of_lt {w : ℕ} (hw : w < total c) : clamp c w = w := by unfold clamp; omega

theorem clamp_mono : Monotone (clamp c) := fun a b hab => by unfold clamp; omega

include h in
theorem own_mono : Monotone (own c) := by
  intro a b hab
  obtain ⟨ha, ha1, ha2⟩ := own_spec h a
  obtain ⟨hb, hb1, hb2⟩ := own_spec h b
  by_contra hlt
  have := items_mono c (show own c b + 1 ≤ own c a by omega)
  have := clamp_mono (c := c) hab
  omega

include h in
theorem tile_mono : Monotone (tile c) := by
  intro a b hab
  rcases Nat.lt_or_ge (own c a) (own c b) with hlt | hge
  · obtain ⟨a0, a1, a2⟩ := tile_spec h a
    obtain ⟨b0, b1, b2⟩ := tile_spec h b
    have := upto_mono c (show own c a + 1 ≤ own c b by omega)
    omega
  · have he : own c a = own c b := le_antisymm (own_mono h hab) hge
    have := clamp_mono (c := c) hab
    unfold tile
    rw [he]
    omega

/-- Past the last item the tile and the expert stay. -/
theorem clamp_stays {w : ℕ} (hw : total c ≤ w) (h0 : 0 < w) : clamp c w = clamp c (w - 1) := by unfold clamp; omega

theorem own_stays {w : ℕ} (hw : total c ≤ w) (h0 : 0 < w) : own c w = own c (w - 1) := by
  unfold own; rw [clamp_stays hw h0]

theorem tile_stays {w : ℕ} (hw : total c ≤ w) (h0 : 0 < w) : tile c w = tile c (w - 1) := by
  unfold tile; rw [clamp_stays hw h0, own_stays hw h0]

include h in
/-- Two items of one expert and one tile are the same. -/
theorem item_inj {v w : ℕ} (hv : v < total c) (hw : w < total c) (ho : own c v = own c w) (ht : tile c v = tile c w) :
    v = w := by
  obtain ⟨_, h1, _⟩ := own_spec h v
  obtain ⟨_, h2, _⟩ := own_spec h w
  unfold tile at ht
  rw [clamp_of_lt hv] at *
  rw [clamp_of_lt hw] at *
  rw [ho] at *
  omega

include h in
/-- A row of grid point `w`'s tile lies between its bounds exactly when it is one of its expert's rows. -/
theorem mask_iff (w r : ℕ) (hr : r / 256 = tile c w) : (lo c w ≤ r % 256 ∧ r % 256 < hi c w) ↔
    upto c (own c w) ≤ r ∧ r < upto c (own c w + 1) := by
  obtain ⟨a0, a1, a2⟩ := tile_spec h w
  have hs := upto_succ c (own c w)
  unfold lo hi
  rw [← hr] at *
  omega

/-- A row has one expert. -/
theorem expert_unique {e f r : ℕ} (he : upto c e ≤ r ∧ r < upto c (e + 1)) (hf : upto c f ≤ r ∧ r < upto c (f + 1)) :
    e = f := by
  rcases Nat.lt_trichotomy e f with hlt | rfl | hlt
  · have := upto_mono c (show e + 1 ≤ f by omega); omega
  · rfl
  · have := upto_mono c (show f + 1 ≤ e by omega); omega

include h in
/-- Every row has one item that computes it: of its expert and its tile, and no other item of the tile has the row
    between its bounds. -/
theorem owner (r : ℕ) (hr : r < 49152) : ∃ w < total c, tile c w = r / 256 ∧
    (upto c (own c w) ≤ r ∧ r < upto c (own c w + 1)) ∧
    ∀ v < total c, tile c v = r / 256 → (lo c v ≤ r % 256 ∧ r % 256 < hi c v) → v = w := by
  obtain ⟨e, he, h1, h2⟩ := between (upto c) (upto_zero _) 64 r (by omega)
  have hs := upto_succ c e
  have hk : items c e + (r / 256 - upto c e / 256) < items c (e + 1) := by
    rw [items_succ, tiles, if_pos (by omega)]
    omega
  have hw : items c e + (r / 256 - upto c e / 256) < total c :=
    lt_of_lt_of_le hk (items_mono c (show e + 1 ≤ 64 by omega))
  have ho : own c (items c e + (r / 256 - upto c e / 256)) = e := by
    unfold own
    rw [clamp_of_lt hw]
    exact count_between (items c) (items_mono c) 64 e _ he (by omega) hk
  have ht : tile c (items c e + (r / 256 - upto c e / 256)) = r / 256 := by
    unfold tile
    rw [ho, clamp_of_lt hw]
    omega
  refine ⟨_, hw, ht, by rw [ho]; exact ⟨h1, h2⟩, fun v hv hvt hm => ?_⟩
  have hm' := (mask_iff h v r hvt.symm).mp hm
  exact item_inj h hv hw (by rw [ho]; exact expert_unique hm' ⟨h1, h2⟩) (by rw [ht]; exact hvt)

end Facts

end Plan
-- ==== Proof.ItemsTables.lean ====
module

public import proofs.«01_k».proof.Proof.ItemsBody
public import proofs.«01_k».proof.Proof.Plan
public import Idealize.ShloMosaic.Lib.WordCmp
public import Idealize.ShloMosaic.Lib.Routing.Words

@[expose] public section

set_option maxRecDepth 16384

/-! What the pipeline and the body read off the prefetched tables, when the tables hold the plan of the items. -/

noncomputable section

namespace Cert.KernelIdeal.Items

open Cert.KernelIdeal.Gen
open Idealize.ShloMosaic Idealize.ShloMosaic.TcCoe Idealize.ShloMosaic.Tactic

variable {F : FTy → Type} [FloatOps F]

/-- Place `t` of a table of 255 words. -/
abbrev at1 (t : Fin 255) : S255.Idx := fun | 0 => t

/-- The one place of a table of one word. -/
abbrev at0 : S1.Idx := fun | 0 => (0 : Fin 1)

/-- Whether item `t` opens its tile, as a word. -/
def opensN (n : ℕ → ℕ) (t : ℕ) : ℕ := by classical exact if Plan.opens n t then 1 else 0

/-- The tables hold the plan's words: each item's tile, expert and rows, whether it opens its tile, and the number of
    items. -/
structure Planned (tb : pre0.Contents (Elt F)) (n : ℕ → ℕ) : Prop where
  sum : Plan.upto n 64 = 49152
  tile : ∀ t : Fin 255, (tb 0 : S255.Idx → BitVec 32) (at1 t) = BitVec.ofNat 32 (Plan.tile n t)
  own : ∀ t : Fin 255, (tb 1 : S255.Idx → BitVec 32) (at1 t) = BitVec.ofNat 32 (Plan.own n t)
  lo : ∀ t : Fin 255, (tb 2 : S255.Idx → BitVec 32) (at1 t) = BitVec.ofNat 32 (Plan.lo n t)
  hi : ∀ t : Fin 255, (tb 3 : S255.Idx → BitVec 32) (at1 t) = BitVec.ofNat 32 (Plan.hi n t)
  opens : ∀ t : Fin 255, (tb 4 : S255.Idx → BitVec 32) (at1 t) = BitVec.ofNat 32 (opensN n t)
  total : (tb 5 : S1.Idx → BitVec 32) at0 = BitVec.ofNat 32 (Plan.total n)

/-- The word a scalar load of a table of 255 words reads. -/
theorem load_word (f : S255.Idx → BitVec 32) (off : Fin 1 → ℕ) (t : Fin 255) (e : off = ![t.val])
    (inb : ∀ a, off a + S1.size a ≤ S255.size a) (h1 : (Rect.unit (s := S255) off S1.size inb).shape.numel = 1) :
    f ((Rect.unit (s := S255) off S1.size inb).emb (Shape.Idx.first (h1.symm ▸ Nat.one_pos))) = f (at1 t) := by
  subst e
  congr 1
  funext a
  refine Fin.ext ?_
  rw [Rect.emb_apply]
  have ha : a = 0 := Subsingleton.elim _ _
  subst ha
  have hj := ((Shape.Idx.first (s := (Rect.unit (s := S255) ![t.val] S1.size inb).shape) (h1.symm ▸ Nat.one_pos)) 0).isLt
  have : ((Shape.Idx.first (s := (Rect.unit (s := S255) ![t.val] S1.size inb).shape) (h1.symm ▸ Nat.one_pos)) 0).val = 0 :=
    Nat.lt_one_iff.mp hj
  rw [this]
  rfl

/-- A load of a table of 255 words that falls back outside it, at a place inside. -/
theorem default_word (tb : pre0.Contents (Elt F)) (off : Fin 1 → ℕ) (t : Fin 255) (e : off = ![t.val]) :
    (tb.atD 4 off : BitVec 32) = (tb 4 : S255.Idx → BitVec 32) (at1 t) := by
  subst e
  unfold Pipeline.Prefetch.Contents.atD
  refine (dif_pos (show ∀ a : Fin 1, ![t.val] a + 1 ≤ S255.size a from fun a => by
    obtain rfl : a = 0 := Subsingleton.elim _ _; exact t.isLt)).trans ?_
  refine congrArg (tb 4 : S255.Idx → BitVec 32) ?_
  funext (a : Fin 1)
  obtain rfl : a = 0 := Subsingleton.elim _ _
  rfl

variable {tb : pre0.Contents (Elt F)} {n : ℕ → ℕ}

theorem total_word (h : Planned tb n) : totalW tb = BitVec.ofNat 32 (Plan.total n) := by
  refine Eq.trans ?_ h.total
  show (tb 5 : S1.Idx → BitVec 32) _ = _
  refine congrArg (tb 5 : S1.Idx → BitVec 32) ?_
  funext (a : Fin 1)
  obtain rfl : a = 0 := Subsingleton.elim _ _
  exact Subsingleton.elim (α := Fin 1) _ _

theorem total_default (h : Planned tb n) : (tb.atD 5 ![0] : BitVec 32) = BitVec.ofNat 32 (Plan.total n) := by
  refine Eq.trans ?_ h.total
  unfold Pipeline.Prefetch.Contents.atD
  refine (dif_pos (show ∀ a : Fin 1, ![0] a + 1 ≤ S1.size a from fun a => by
    obtain rfl : a = 0 := Subsingleton.elim _ _; exact Nat.le_refl _)).trans ?_
  refine congrArg (tb 5 : S1.Idx → BitVec 32) ?_
  funext (a : Fin 1)
  obtain rfl : a = 0 := Subsingleton.elim _ _
  rfl

theorem low_word (h : Planned tb n) (i : grid0.Coords) : lowW tb i = BitVec.ofNat 32 (Plan.lo n (i 0)) :=
  (load_word (tb 2) (k0_off2 i) (i 0) (k0_off2_eq i) (k0_off2_inb i) numel1_S1).trans (h.lo (i 0))
theorem high_word (h : Planned tb n) (i : grid0.Coords) : highW tb i = BitVec.ofNat 32 (Plan.hi n (i 0)) :=
  (load_word (tb 3) (k0_off2 i) (i 0) (k0_off2_eq i) (k0_off2_inb i) numel1_S1).trans (h.hi (i 0))
theorem opens_word (h : Planned tb n) (i : grid0.Coords) : opensW tb i = BitVec.ofNat 32 (opensN n (i 0)) :=
  (load_word (tb 4) (k0_off2 i) (i 0) (k0_off2_eq i) (k0_off2_inb i) numel1_S1).trans (h.opens (i 0))
theorem opens_word' (h : Planned tb n) (i : grid0.Coords) : opensW' tb i = BitVec.ofNat 32 (opensN n (i 0)) :=
  (load_word (tb 4) (k0_off3 i) (i 0) (k0_off3_eq i) (k0_off3_inb i) numel1_S1).trans (h.opens (i 0))

/-- A grid point is an item's exactly where it is below the number of items. -/
theorem live_iff (h : Plan.upto n 64 = 49152) (i : grid0.Coords) :
    k0_cond1 i (BitVec.ofNat 32 (Plan.total n)) = 1#1 ↔ (i 0).val < Plan.total n := by
  have h1 : (i 0).val < 255 := (i 0).isLt
  have h2 := Plan.total_le h
  unfold k0_cond1
  word_cmp

theorem opensN_le (t : ℕ) : opensN n t = 0 ∨ opensN n t = 1 := by
  unfold opensN; split <;> simp

theorem opensN_eq (t : ℕ) : opensN n t = 1 ↔ Plan.opens n t := by
  unfold opensN; split <;> simp_all

/-- An item stores where it opens its tile. -/
theorem opens_iff (t : ℕ) : k0_cond2 (BitVec.ofNat 32 (opensN n t)) = 1#1 ↔ Plan.opens n t := by
  have h := opensN_eq (n := n) t
  unfold k0_cond2
  rcases opensN_le (n := n) t with e | e <;> rw [e] at h ⊢
  · exact ⟨fun h' => absurd h' (by decide), fun h' => absurd (h.mpr h') (by decide)⟩
  · exact ⟨fun _ => h.mp rfl, fun _ => by decide⟩

/-- An item adds where it does not. -/
theorem adds_iff (t : ℕ) : k0_cond3 (BitVec.ofNat 32 (opensN n t)) = 1#1 ↔ ¬ Plan.opens n t := by
  have h := opensN_eq (n := n) t
  unfold k0_cond3
  rcases opensN_le (n := n) t with e | e <;> rw [e] at h ⊢
  · exact ⟨fun _ h' => absurd (h.mpr h') (by decide), fun _ => by decide⟩
  · exact ⟨fun h' => absurd h' (by decide), fun h' => absurd (h.mp rfl) h'⟩

/-- The output's window is idle exactly past the last item. -/
theorem idle_iff (h : Planned tb n) (i : grid0.Coords) : idle0 tb 4 i = true ↔ ¬ (i 0).val < Plan.total n := by
  have e2 : (tb.atD 4 (k0_off2 i) : BitVec 32) = BitVec.ofNat 32 (opensN n (i 0)) :=
    (default_word tb (k0_off2 i) (i 0) (k0_off2_eq i)).trans (h.opens (i 0))
  have e3 : (tb.atD 4 (k0_off3 i) : BitVec 32) = BitVec.ofNat 32 (opensN n (i 0)) :=
    (default_word tb (k0_off3 i) (i 0) (k0_off3_eq i)).trans (h.opens (i 0))
  show (!(k0_cond1 i (tb.atD 5 ![0]) == 1#1 && k0_cond2 (tb.atD 4 (k0_off2 i)) == 1#1)
    && !(k0_cond1 i (tb.atD 5 ![0]) == 1#1 && k0_cond3 (tb.atD 4 (k0_off3 i)) == 1#1)) = true ↔ _
  rw [e2, e3, total_default h, ← live_iff h.sum i]
  have a := opens_iff (n := n) (i 0)
  have b := adds_iff (n := n) (i 0)
  by_cases l : k0_cond1 i (BitVec.ofNat 32 (Plan.total n)) = 1#1
  · by_cases o : Plan.opens n (i 0)
    · simp [l, a.mpr o]
    · simp [l, b.mpr o]
  · simp [l]

/-- The block of rows an item works on. -/
theorem rows_index (h : Planned tb n) (i : grid0.Coords) :
    cc0_transform_0 k0_off1_inb numel1_S1 tb i = ![Plan.tile n (i 0), 0] := by
  have e : (tb.at 0 (Rect.unit (s := S255) (k0_off1 i) S1.size (k0_off1_inb i)) numel1_S1 : BitVec 32) = BitVec.ofNat 32 (Plan.tile n (i 0)) :=
    (load_word (tb 0) (k0_off1 i) (i 0) (k0_off1_eq i) (k0_off1_inb i) numel1_S1).trans (h.tile (i 0))
  have l := Plan.tile_lt h.sum (i 0)
  show ![(tb.at 0 (Rect.unit (s := S255) (k0_off1 i) S1.size (k0_off1_inb i)) numel1_S1 : BitVec 32).toNat, 0] = _
  rw [e, WordCmp.toNat_ofNat_of_lt (by omega)]

theorem own_lt (h : Planned tb n) (t : ℕ) : Plan.own n t < 64 := (Plan.own_spec h.sum t).1

/-- The expert whose weights an item works with. -/
theorem expert_index (h : Planned tb n) (i : grid0.Coords) :
    cc0_transform_1 k0_off1_inb numel1_S1 tb i = ![0, Plan.own n (i 0), 0, 0] := by
  have e : (tb.at 1 (Rect.unit (s := S255) (k0_off1 i) S1.size (k0_off1_inb i)) numel1_S1 : BitVec 32) = BitVec.ofNat 32 (Plan.own n (i 0)) :=
    (load_word (tb 1) (k0_off1 i) (i 0) (k0_off1_eq i) (k0_off1_inb i) numel1_S1).trans (h.own (i 0))
  have l := own_lt h (i 0)
  show ![0, (tb.at 1 (Rect.unit (s := S255) (k0_off1 i) S1.size (k0_off1_inb i)) numel1_S1 : BitVec 32).toNat, 0, 0] = _
  rw [e, WordCmp.toNat_ofNat_of_lt (by omega)]

/-- Every block the windows ask for lies inside its array. -/
theorem ok_of_planned (h : Planned tb n) : ok0 tb := by
  have l (i : grid0.Coords) := Plan.tile_lt h.sum (i 0)
  have o (i : grid0.Coords) := own_lt h (i 0)
  have r (i : grid0.Coords) : ∀ a, (cc0_transform_0 k0_off1_inb numel1_S1 tb i a + 1) * S256x2048.size a ≤ S49152x2048.size a := by
    rw [rows_index h i]
    intro a
    have := l i
    fin_cases a
    · show (Plan.tile n (i 0) + 1) * 256 ≤ 49152; omega
    · show (0 + 1) * 2048 ≤ 2048; omega
  have w (i : grid0.Coords) : ∀ a, (cc0_transform_1 k0_off1_inb numel1_S1 tb i a + 1) * S1x1x2048x512.size a ≤ S2x64x2048x512.size a := by
    rw [expert_index h i]
    intro a
    have := o i
    fin_cases a
    · show (0 + 1) * 1 ≤ 2; omega
    · show (Plan.own n (i 0) + 1) * 1 ≤ 64; omega
    · show (0 + 1) * 2048 ≤ 2048; omega
    · show (0 + 1) * 512 ≤ 512; omega
  have w' (i : grid0.Coords) : ∀ a, (cc0_transform_3 k0_off1_inb numel1_S1 tb i a + 1) * S1x1x512x2048.size a ≤ S2x64x512x2048.size a := by
    rw [show cc0_transform_3 k0_off1_inb numel1_S1 tb i = cc0_transform_1 k0_off1_inb numel1_S1 tb i from rfl, expert_index h i]
    intro a
    have := o i
    fin_cases a
    · show (0 + 1) * 1 ≤ 2; omega
    · show (Plan.own n (i 0) + 1) * 1 ≤ 64; omega
    · show (0 + 1) * 512 ≤ 512; omega
    · show (0 + 1) * 2048 ≤ 2048; omega
  unfold ok0
  exact ⟨fun i => ⟨r i, Or.inl rfl⟩, fun i => ⟨w i, Or.inl rfl⟩, fun i => ⟨w i, Or.inl rfl⟩, fun i => ⟨w' i, Or.inl rfl⟩,
    fun i => ⟨r i, Or.inl rfl⟩⟩

end Cert.KernelIdeal.Items

end
-- ==== Proof.ItemsRun.lean ====
module

public import proofs.«01_k».proof.Proof.ItemsTables
public import Idealize.ShloMosaic.Lib.Pipeline.TableIdle

@[expose] public section

set_option maxRecDepth 16384

/-! The launch of the routed experts' kernel: what each grid point finds and leaves, and what the arrays hold at the end,
    when the prefetched tables hold the plan of the items. -/

noncomputable section

namespace Cert.KernelIdeal.Items

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The host operations before the launch, stretch by stretch. -/
abbrev opss : List (List (HloOp τ sig (Elt F))) :=
  [hostOps0, hostOps0_1, hostOps0_2, hostOps0_3, hostOps0_4, hostOps0_5, hostOps0_6, hostOps0_7, hostOps0_8]

/-- What a buffer holds when the launch begins. -/
def V (c : Dev nD) (b : Ref sig .tc) : Buf (Elt F) ((c : Thread nD τ).loc b) :=
  StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub⟩

theorem opss_fresh : (opss (F := F)).Forall fun ops => ops.Forall fun op => op.fresh = ∅ := by
  simp only [List.Forall]
  repeat' constructor

theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main opss opss_sub opss_fresh main_chain

attribute [irreducible] V

/-! ## The tables, and the pipeline at them -/

/-- What the prefetched tables hold. -/
def tbl : pre0.Contents (Elt F) := fun j => V m (0 : Dev nD) (pre0.ref j)

theorem V_pre (c : Dev nD) (j : Fin 6) : V m c (pre0.ref j) = tbl m j := by
  obtain rfl : c = 0 := Subsingleton.elim _ _; rfl

variable {n : ℕ → ℕ} (hP : Planned (tbl m) n)

abbrev adm : (pcfg0 (F := F)).Adm := ⟨tbl m, ok_of_planned hP⟩
abbrev cfgM : Pipeline.Cfg sig Λ₀ := cfg0 (adm m hP)

theorem N_eq : (cfgM m hP).N = 255 := N_0

/-- Grid point `t`, the last one for larger numbers. -/
def pt (t : ℕ) : Fin (cfgM m hP).N := ⟨min t 254, by rw [N_eq]; omega⟩

theorem pt_val (t : Fin (cfgM m hP).N) : pt m hP t.val = t :=
  Fin.ext (by have := Nat.lt_of_lt_of_eq t.isLt N_0; show min t.val 254 = t.val; omega)

/-- The item of grid point `t`. -/
theorem coord_val (t : Fin (cfgM m hP).N) : ((cfgM m hP).grid.coords t 0).val = t.val := by
  have ht : t.val < 255 := Nat.lt_of_lt_of_eq t.isLt N_0
  have e : ((cfgM m hP).grid.coords t 0).val = t.val / 1 % 255 := Pipeline.Grid.coords_val (G := grid0) t 0 (by decide) rfl
  rw [e]; omega

/-! ## The blocks -/

/-- Window `w`'s block at point `t`. -/
def iblk (c : Dev nD) (w : Fin (cfgM m hP).W) (t : Fin (cfgM m hP).N) :
    (((cfgM m hP).win w).xblock ((cfgM m hP).grid.coords t)).Idx → Elt F ((cfgM m hP).win w).elt :=
  (((cfgM m hP).win w).blk t).view.read (Elt F) (V m c (Pipeline.arrRef spec0 w))

/-- An item's share of its block of rows. -/
def share (c : Dev nD) (t : Fin (cfgM m hP).N) : Vec F S256x2048 .f32 :=
  k0_pay2 (iblk m hP c 0 t) (lowW (tbl m) ((cfgM m hP).grid.coords t)) (highW (tbl m) ((cfgM m hP).grid.coords t)) (iblk m hP c 1 t)
    (iblk m hP c 2 t) (iblk m hP c 3 t)

open Classical in
/-- What the output's block holds after point `t`: the shares of the tile's items so far. -/
def held (c : Dev nD) : ℕ → Vec F S256x2048 .f32
  | 0 => share m hP c (pt m hP 0)
  | t + 1 =>
    if t + 1 < Plan.total n then
      if Plan.opens n (t + 1) then share m hP c (pt m hP (t + 1)) else k0_pay1 (share m hP c (pt m hP (t + 1))) (held c t)
    else held c t

/-- The proof data: the inputs' blocks stay, the output's block is `held`. -/
def dats (_ : Fin 1) (c : Dev nD) : Dat τ (Elt F) Unit ℕ (UR sig nD τ) ℕ (cfgM m hP) c where
  A w := V m c (Pipeline.arrRef spec0 w)
  after w t := match w with
    | ⟨0, _⟩ => iblk m hP c 0 t
    | ⟨1, _⟩ => iblk m hP c 1 t
    | ⟨2, _⟩ => iblk m hP c 2 t
    | ⟨3, _⟩ => iblk m hP c 3 t
    | ⟨4, _⟩ => held m hP c t.val
  Φ _ := iprop(Pipeline.ΦA spec0 c ∗ Pipeline.ΦT pre0 (tbl m) c)
  q _ := fullShare
  owed _ := 0

theorem A_eq (c : Dev nD) (w : Fin (cfgM m hP).W) : (dats m hP 0 c).A w = V m c (Pipeline.arrRef spec0 w) := by
  dsimp only [dats]

theorem after_0 (c : Dev nD) (t : Fin (cfgM m hP).N) : (dats m hP 0 c).after 0 t = iblk m hP c 0 t := by dsimp only [dats]; rfl
theorem after_1 (c : Dev nD) (t : Fin (cfgM m hP).N) : (dats m hP 0 c).after 1 t = iblk m hP c 1 t := by dsimp only [dats]; rfl
theorem after_2 (c : Dev nD) (t : Fin (cfgM m hP).N) : (dats m hP 0 c).after 2 t = iblk m hP c 2 t := by dsimp only [dats]; rfl
theorem after_3 (c : Dev nD) (t : Fin (cfgM m hP).N) : (dats m hP 0 c).after 3 t = iblk m hP c 3 t := by dsimp only [dats]; rfl
theorem after_4 (c : Dev nD) (t : Fin (cfgM m hP).N) : (dats m hP 0 c).after 4 t = held m hP c t.val := by dsimp only [dats]; rfl

/-- The body finds each input at its block. -/
theorem before_in (c : Dev nD) (t : Fin (cfgM m hP).N) :
    (∀ d, (dats m hP 0 c).before 0 t d = iblk m hP c 0 t) ∧ (∀ d, (dats m hP 0 c).before 1 t d = iblk m hP c 1 t)
    ∧ (∀ d, (dats m hP 0 c).before 2 t d = iblk m hP c 2 t) ∧ (∀ d, (dats m hP 0 c).before 3 t d = iblk m hP c 3 t) := by
  refine ⟨fun d => ?_, fun d => ?_, fun d => ?_, fun d => ?_⟩
  all_goals
    exact ((dats m hP 0 c).before_in_eq_fetched _ rfl (fun _ => rfl) (fun _ _ _ => rfl)
      (fun t => by first | rw [after_0] | rw [after_1] | rw [after_2] | rw [after_3]
                   unfold Dat.blockOf iblk; rw [A_eq]; try rfl) t d).trans
      (by unfold Dat.fetched Dat.blockOf iblk; rw [A_eq]; try rfl)

/-! ## The output's block from point to point -/

theorem idle_at (a : (pcfg0 (F := F)).Adm) (h : Planned a.1 n) (i : grid0.Coords) :
    (cfg0 a).idle 4 i = true ↔ ¬ (i 0).val < Plan.total n := idle_iff h i

theorem idle_4 (t : Fin (cfgM m hP).N) : (cfgM m hP).idle 4 ((cfgM m hP).grid.coords t) = true ↔ ¬ t.val < Plan.total n := by
  exact Iff.trans (idle_at (adm m hP) hP ((cfgM m hP).grid.coords t)) (by rw [coord_val m hP t])

/-- The block of rows that the output's window names at a point. -/
theorem index_4 (t : Fin (cfgM m hP).N) : ((cfgM m hP).win 4).index t = ![Plan.tile n t.val, 0] := by
  rw [← coord_val m hP t]
  exact rows_index hP ((cfgM m hP).grid.coords t)

/-- The block is written back after the last point and wherever the next item has another tile. -/
theorem flush_4 (t : Fin (cfgM m hP).N) :
    ((cfgM m hP).win 4).flush t = true ↔ t.val = 254 ∨ Plan.tile n (t.val + 1) ≠ Plan.tile n t.val := by
  have hN := N_eq m hP
  have ht : t.val < 255 := Nat.lt_of_lt_of_eq t.isLt N_0
  have e : (cfgM m hP).grid.N = 255 := hN
  unfold Window.flush
  rw [show ((cfgM m hP).win 4).isOut = true from rfl, Bool.true_and, Bool.or_eq_true, decide_eq_true_iff, decide_eq_true_iff]
  constructor
  · rintro (h | ⟨h, h'⟩)
    · exact Or.inl (by omega)
    · refine Or.inr fun h'' => h' ?_
      rw [index_4, index_4, h'']
  · rintro (h | h)
    · exact Or.inl (by omega)
    · by_cases l : t.val = 254
      · exact Or.inl (by omega)
      · refine Or.inr ⟨by omega, fun h' => h ?_⟩
        rw [index_4, index_4] at h'
        exact congrFun h' 0

/-- The output's buffer is fresh only where an item opens its tile. -/
theorem fresh_opens : ∀ t, t < 255 → (cfgM m hP).fresh 4 t = true → t < Plan.total n ∧ Plan.opens n t
  | 0, _, _ => ⟨Plan.total_pos hP.sum, Or.inl rfl⟩
  | t + 1, ht, hf => by
    have hN := N_eq m hP
    rw [Cfg.fresh_succ (cfgM m hP) 4 t (by omega), Bool.or_eq_true, Bool.and_eq_true, flush_4, idle_4] at hf
    rcases hf with (h | h) | ⟨h, h'⟩
    · simp only at h; omega
    · refine ⟨?_, Or.inr h⟩
      by_contra hl
      exact h (Plan.tile_stays (w := t + 1) (by omega) (by omega))
    · exact absurd (fresh_opens t (by omega) h').1 h

theorem held_succ (c : Dev nD) (t : ℕ) (h0 : t ≠ 0) (hi : ¬ t < Plan.total n) : held m hP c t = held m hP c (t - 1) := by
  obtain ⟨t, rfl⟩ := Nat.exists_eq_succ_of_ne_zero h0
  show held m hP c (t + 1) = held m hP c t
  rw [held, if_neg hi]

theorem held_opens (c : Dev nD) (t : Fin (cfgM m hP).N) (hl : t.val < Plan.total n) (ho : Plan.opens n t.val) :
    held m hP c t.val = share m hP c t := by
  conv_rhs => rw [← pt_val m hP t]
  generalize t.val = k at *
  cases k with
  | zero => rfl
  | succ k => rw [held, if_pos hl, if_pos ho]

theorem held_adds (c : Dev nD) (t : Fin (cfgM m hP).N) (hl : t.val < Plan.total n) (ho : ¬ Plan.opens n t.val) :
    held m hP c t.val = k0_pay1 (share m hP c t) (held m hP c (t.val - 1)) := by
  conv_rhs => arg 1; rw [← pt_val m hP t]
  generalize t.val = k at *
  cases k with
  | zero => exact absurd (Or.inl rfl) ho
  | succ k => rw [held, if_pos hl, if_neg ho]; rfl

/-- Where no item opens a tile the body finds what the point before left. -/
theorem before_4 (c : Dev nD) (t : Fin (cfgM m hP).N) (h : ¬ (t.val < Plan.total n ∧ Plan.opens n t.val)) (d) :
    (dats m hP 0 c).before 4 t d = held m hP c (t.val - 1) := by
  have ht : t.val < 255 := Nat.lt_of_lt_of_eq t.isLt N_0
  rw [(dats m hP 0 c).before_out_traj 4 rfl (fun _ _ => rfl) (fun t h0 hi hf => by
    rw [after_4, after_4]; exact held_succ m hP c t.val h0 ((idle_4 m hP t).mp hi)) t.val t rfl d,
    if_neg (fun hf => h (fresh_opens m hP t.val ht hf)), after_4]

end Cert.KernelIdeal.Items

end
-- ==== Proof.Words.lean ====
module

public import proofs.«01_k».proof.Proof.Plan
public import proofs.«01_k».proof.Proof.Gen.KernelIdeal
public import Idealize.ShloMosaic.Lib.Routing.Words
public import Idealize.ShloMosaic.Lib.StableHlo.Predicate
public import Idealize.ShloMosaic.Lib.Pipeline.Value
public import Mathlib.Data.BitVec

@[expose] public section

set_option maxRecDepth 16384

/-! The host's words: what its integer operations make of the experts' row counts, read one word at a time. -/

noncomputable section

namespace Plan.Words

open Cert.KernelIdeal Cert.KernelIdeal.Facts Cert.KernelIdeal.Facts₀
open Idealize.ShloMosaic Idealize.ShloMosaic.Routing Idealize.ShloMosaic.ValueIdx Idealize.ShloMosaic.WordCmp

/-! ## The operations, as printed -/

/-- The running sums. -/
def cum (x : IVec S64 32) : IVec S64 32 :=
  Host.reduceWindow IntOp.addi ![64] ![1] ![63] ![0] x (broadcastInDim S_ ![] bcast_S_S_ (constantI S_ 32 0#32))
    reduceWindows_S64_S64_w64s1p63_0 h_S_

/-- The quotients by 256. -/
def by256 (x : IVec S64 32) : IVec S64 32 := pyDiv bcast_S_S64 x (constantI S_ 32 256#32)

/-- The quotients by 256 of the numbers less one. -/
def lastOf (e : IVec S64 32) : IVec S64 32 := by256 (subi e (broadcastInDim S64 ![] bcast_S_S64 (constantI S_ 32 1#32)))

/-- How many tiles each expert's rows touch. -/
def tilesOf (x f l : IVec S64 32) : IVec S64 32 :=
  select (cmpi .sgt x (broadcastInDim S64 ![] bcast_S_S64 (constantI S_ 32 0#32)))
    (addi (subi l f) (broadcastInDim S64 ![] bcast_S_S64 (constantI S_ 32 1#32)))
    (broadcastInDim S64 ![] bcast_S_S64 (constantI S_ 32 0#32))

/-- The number of items. -/
def totalOf (e : IVec S64 32) : IVec S_ 32 := shapeCast S_ (extractStridedSlice S1 ![63] e slices_S64_S1_63) shapeCasts_S1_S_

/-- The item that each grid point stands for. -/
def clampOf (e : IVec S64 32) : IVec S255 32 :=
  minsi (iotaInDim S255 32 0) (broadcastInDim S255 ![] bcast_S_S255 (subi (totalOf e) (constantI S_ 32 1#32)))

/-- A vector over the experts as columns. -/
def cols (v : IVec S64 32) : IVec S255x64 32 :=
  broadcastInDim S255x64 ![0, 1] bcast_S1x64_S255x64_0_1 (broadcastInDim S1x64 ![1] bcast_S64_S1x64_1 v)

/-- A vector over the grid points as rows. -/
def rows (v : IVec S255 32) : IVec S255x64 32 :=
  broadcastInDim S255x64 ![0, 1] bcast_S255x1_S255x64_0_1 (broadcastInDim S255x1 ![0] bcast_S255_S255x1_0 v)

/-- The sums along the rows. -/
def sums (v : IVec S255x64 32) : IVec S255 32 := Host.reduce IntOp.addi v (constantI S_ 32 0#32) reducesTo_S255x64_S255_d1 h_S_

/-- Each grid point's expert. -/
def ownOf (e : IVec S64 32) : IVec S255 32 := sums (extui 32 (cmpi .sle (cols e) (rows (clampOf e))) natLt_1_32)

/-- Each grid point's expert's word of a vector over the experts. -/
def pickOf (o : IVec S255 32) (v : IVec S64 32) : IVec S255 32 :=
  sums (muli (extui 32 (cmpi .eq (rows o) (cols (iotaInDim S64 32 0))) natLt_1_32) (cols v))

/-- Each grid point's tile. -/
def tileOf (e t f : IVec S64 32) : IVec S255 32 :=
  addi (pickOf (ownOf e) f) (subi (clampOf e) (pickOf (ownOf e) (subi e t)))

/-- The first row of each grid point's tile. -/
def baseOf (tile : IVec S255 32) : IVec S255 32 := muli tile (broadcastInDim S255 ![] bcast_S_S255 (constantI S_ 32 256#32))

/-- The first row of its tile that is the expert's. -/
def loOf (o tile : IVec S255 32) (s : IVec S64 32) : IVec S255 32 :=
  maxsi (subi (pickOf o s) (baseOf tile)) (broadcastInDim S255 ![] bcast_S_S255 (constantI S_ 32 0#32))

/-- The row of its tile at which the expert's rows end. -/
def hiOf (o tile : IVec S255 32) (e : IVec S64 32) : IVec S255 32 :=
  minsi (subi (pickOf o e) (baseOf tile)) (broadcastInDim S255 ![] bcast_S_S255 (constantI S_ 32 256#32))

/-- Whether each grid point is the first of its tile. -/
def opensOf (tile : IVec S255 32) : IVec S255 32 :=
  extui 32 (cmpi .ne tile (concatenate S255 0 [⟨S1, broadcastInDim S1 ![] bcast_S_S1 (constantI S_ 32 4294967295#32)⟩,
    ⟨S254, extractStridedSlice S254 ![0] tile slices_S255_S254_0⟩] concatenates_S1_S254_S255_d0)) natLt_1_32

/-! ## Words one at a time -/

/-- The smaller of two small words. -/
theorem minsi_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [decide_eq_true h, if_pos rfl, Nat.min_eq_left h.le]
  · rw [decide_eq_false h, if_neg (by decide), Nat.min_eq_right (by omega)]

/-- The signed order of two small words, as a bit. -/
theorem sle_word {a b : ℕ} (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ _
  rw [sle_ofNat32 ha hb]
  by_cases h : a ≤ b <;> simp [h]

/-- A difference of small words, from below by zero. -/
theorem maxsi_sub_word {a b : ℕ} (ha : a < 2 ^ 31) (hb : b < 2 ^ 31) :
    IntOp.maxsi (BitVec.ofNat 32 a - BitVec.ofNat 32 b) 0#32 = BitVec.ofNat 32 (a - b) := by
  by_cases h : b ≤ a
  · rw [ofNat32_sub h]
    unfold IntOp.maxsi
    rw [show (0#32 : BitVec 32) = BitVec.ofNat 32 0 from rfl, slt_ofNat32 (by decide) (by omega)]
    by_cases h0 : 0 < a - b
    · rw [decide_eq_true h0, if_pos rfl]
    · rw [decide_eq_false h0, if_neg (by decide), show a - b = 0 by omega]
  · have e : a - b = 0 := by omega
    rw [e]
    unfold IntOp.maxsi
    have hn : BitVec.slt 0#32 (BitVec.ofNat 32 a - BitVec.ofNat 32 b) = false := by
      have hz : (BitVec.ofNat 32 a - BitVec.ofNat 32 b).toNat = 2 ^ 32 - b + a := by
        rw [BitVec.toNat_sub, BitVec.toNat_ofNat, BitVec.toNat_ofNat]
        omega
      rw [BitVec.slt, decide_eq_false_iff_not, BitVec.toInt_eq_toNat_cond, BitVec.toInt_eq_toNat_cond, hz]
      split <;> split <;> simp at * <;> omega
    rw [hn, if_neg (by decide)]

/-- The running sum of a vector of small words. -/
theorem cum_at (x : IVec S64 32) (f : ℕ → ℕ) (hx : ∀ e : Fin 64, x (ix1 e) = BitVec.ofNat 32 (f e.val)) (e : Fin 64) :
    cum x (ix1 e) = BitVec.ofNat 32 (upto f (e.val + 1)) := by
  have hs : ∀ k, ((List.range k).map f).sum = upto f k := by
    intro k
    induction k with
    | zero => rw [upto_zero]; rfl
    | succ k ih => rw [List.range_succ, List.map_append, List.sum_append, ih, upto_succ]; simp
  rw [← hs]
  exact cumsum1 (Nm1 := 63) rfl x f hx _ (bc0 _ _ _) _ _ e

/-- A quotient by 256. -/
theorem by256_at (x : IVec S64 32) (e : Fin 64) {a : ℕ} (hx : x (ix1 e) = BitVec.ofNat 32 a) (ha : a < 2 ^ 31) :
    by256 x (ix1 e) = BitVec.ofNat 32 (a / 256) :=
  pyDiv_ap bcast_S_S64 x _ _ hx rfl ha (by decide) (by decide)

/-- A quotient of a number less one. -/
theorem lastOf_at (x : IVec S64 32) (e : Fin 64) {a : ℕ} (hx : x (ix1 e) = BitVec.ofNat 32 a) (h0 : 0 < a) (ha : a < 2 ^ 31) :
    lastOf x (ix1 e) = BitVec.ofNat 32 ((a - 1) / 256) :=
  by256_at _ e (by
    show x (ix1 e) - broadcastInDim S64 ![] bcast_S_S64 (constantI S_ 32 1#32) (ix1 e) = _
    rw [bc0, hx]
    exact ofNat32_sub (b := 1) h0) (by omega)

/-- How many tiles an expert's rows touch. -/
theorem tilesOf_at (x f l : IVec S64 32) (e : Fin 64) {a b c : ℕ} (hx : x (ix1 e) = BitVec.ofNat 32 a) (ha : a < 2 ^ 31)
    (hf : f (ix1 e) = BitVec.ofNat 32 b) (hl : 0 < a → l (ix1 e) = BitVec.ofNat 32 c) (hbc : 0 < a → b ≤ c) :
    tilesOf x f l (ix1 e) = BitVec.ofNat 32 (if 0 < a then c - b + 1 else 0) := by
  show Scalar.select (IntOp.cmpi .sgt (x (ix1 e)) (broadcastInDim S64 ![] bcast_S_S64 (constantI S_ 32 0#32) (ix1 e)))
    (l (ix1 e) - f (ix1 e) + broadcastInDim S64 ![] bcast_S_S64 (constantI S_ 32 1#32) (ix1 e))
    (broadcastInDim S64 ![] bcast_S_S64 (constantI S_ 32 0#32) (ix1 e)) = _
  rw [bc0, bc0, hx, hf]
  show Scalar.select (BitVec.ofBool ((BitVec.ofNat 32 0).slt (BitVec.ofNat 32 a))) _ _ = _
  rw [slt_ofNat32 (by decide) ha]
  by_cases h : 0 < a
  · rw [if_pos h, decide_eq_true h, hl h, ofNat32_sub (hbc h)]
    exact (BitVec.ofNat_add _ _).symm
  · rw [if_neg h, decide_eq_false h]
    rfl

/-- The last running sum. -/
theorem totalOf_at (e : IVec S64 32) : totalOf e ix0 = e (ix1 63) := by
  unfold totalOf
  refine (shapeCast_apply _ _ _ (ix1 (0 : Fin 1)) ?_).trans ?_
  · rfl
  · exact slice1 63 e _ (0 : Fin 1) (by decide)

/-- The item that a grid point stands for. -/
theorem clampOf_at (e : IVec S64 32) (t : Fin 255) {a : ℕ} (he : e (ix1 63) = BitVec.ofNat 32 a) (h0 : 0 < a) (ha : a < 2 ^ 31) :
    clampOf e (ix1 t) = BitVec.ofNat 32 (min t.val (a - 1)) := by
  show IntOp.minsi (BitVec.ofNat 32 t.val) (broadcastInDim S255 ![] bcast_S_S255 (subi (totalOf e) (constantI S_ 32 1#32)) (ix1 t)) = _
  rw [bc0]
  show IntOp.minsi _ (totalOf e ix0 - BitVec.ofNat 32 1) = _
  rw [totalOf_at, he, ofNat32_sub h0]
  exact minsi_word (by omega) (by omega)

/-- A column's word. -/
theorem cols_at (v : IVec S64 32) (t : Fin 255) (e : Fin 64) : cols v (ix2 t e) = v (ix1 e) := bcCols _ _ v t e

/-- A row's word. -/
theorem rows_at (v : IVec S255 32) (t : Fin 255) (e : Fin 64) : rows v (ix2 t e) = v (ix1 t) := bcRows _ _ v t e

/-- A grid point's expert. -/
theorem ownOf_at (e : IVec S64 32) (f : ℕ → ℕ) (t : Fin 255) {a : ℕ} (he : ∀ k : Fin 64, e (ix1 k) = BitVec.ofNat 32 (f k.val))
    (hf : ∀ k : Fin 64, f k.val < 2 ^ 31) (hc : clampOf e (ix1 t) = BitVec.ofNat 32 a) (ha : a < 2 ^ 31) :
    ownOf e (ix1 t) = BitVec.ofNat 32 (Nat.count (fun k => f k ≤ a) 64) :=
  reduce_count (by decide) _ _ _ _ t (fun k => f k ≤ a) fun q => by
    show IntOp.cmpi .sle (cols e (ix2 t q)) (rows (clampOf e) (ix2 t q)) = 1#1 ↔ _
    rw [cols_at, rows_at, he, hc]
    exact sle_word (hf q) ha

/-- A sum of a row that is zero but at one place. -/
theorem sums_one (v : IVec S255x64 32) (t : Fin 255) (e : Fin 64) (h : ∀ q : Fin 64, q ≠ e → v (ix2 t q) = 0) :
    sums v (ix1 t) = v (ix2 t e) := by
  classical
  unfold sums
  rw [Host.reduce_eq_fold]
  have hs : ∀ s : Finset S255x64.Idx, s.fold IntOp.addi (0#32) v = ∑ i ∈ s, v i := fun s => (Finset.sum_eq_fold s v).symm
  refine (hs _).trans ?_
  have h0 : ∀ i : S255x64.Idx, reducesTo_S255x64_S255_d1.drop i = ix1 t ↔ i 0 = t := by
    intro i
    have hv : (reducesTo_S255x64_S255_d1.drop i 0 : ℕ) = i 0 := Shape.ReducesTo.drop_apply_val reducesTo_S255x64_S255_d1 i 0
    constructor
    · intro e; rw [e] at hv; exact Fin.ext hv.symm
    · intro e; funext b; have hb : b = 0 := Subsingleton.elim _ _; subst hb; exact Fin.ext (by rw [hv, e])
  refine (Finset.sum_eq_single (ix2 t e) (fun i hi hne => ?_) fun hn => ?_).trans rfl
  · obtain ht := (h0 i).1 (Finset.mem_filter.1 hi).2
    have hi2 : i = ix2 t (i 1) := by
      funext b
      match b with
      | ⟨0, _⟩ => exact ht
      | ⟨1, _⟩ => rfl
    rw [hi2]
    exact h _ fun hq => hne (hi2.trans (congrArg (ix2 t) hq))
  · exact absurd (Finset.mem_filter.2 ⟨Finset.mem_univ (ix2 t e), (h0 (ix2 t e)).2 rfl⟩) hn

/-- A grid point's expert's word of a vector over the experts. -/
theorem pickOf_at (o : IVec S255 32) (v : IVec S64 32) (t : Fin 255) (e : Fin 64) (ho : o (ix1 t) = BitVec.ofNat 32 e.val) :
    pickOf o v (ix1 t) = v (ix1 e) := by
  have hm : ∀ q : Fin 64, muli (extui 32 (cmpi .eq (rows o) (cols (iotaInDim S64 32 0))) natLt_1_32) (cols v) (ix2 t q)
      = (if e.val = q.val then v (ix1 q) else 0) := by
    intro q
    show (BitVec.setWidth 32 (IntOp.cmpi .eq (rows o (ix2 t q)) (cols (iotaInDim S64 32 0) (ix2 t q)))) * cols v (ix2 t q) = _
    rw [rows_at, cols_at, cols_at, ho]
    show (BitVec.setWidth 32 (IntOp.cmpi .eq (BitVec.ofNat 32 e.val) (BitVec.ofNat 32 q.val))) * v (ix1 q) = _
    have he := e.isLt
    have hq := q.isLt
    rw [cmpi_eq_ofNat (w := 32) (by omega) (by omega), setWidth_ofBool]
    by_cases h : e.val = q.val
    · rw [if_pos h, if_pos h]; exact one_mul _
    · rw [if_neg h, if_neg h]; exact zero_mul _
  refine (sums_one _ t e fun q hq => ?_).trans ?_
  · rw [hm, if_neg fun h => hq (Fin.ext h.symm)]
  · rw [hm, if_pos rfl]

/-! ## The tables, from the counts -/

section Tables
variable (x : IVec S64 32) (n : ℕ → ℕ)

/-- The experts' first tiles. -/
def firstTiles : IVec S64 32 := by256 (subi (cum x) x)
/-- The experts' numbers of tiles. -/
def tileCounts : IVec S64 32 := tilesOf x (firstTiles x) (lastOf (cum x))
/-- The running sums of the numbers of tiles. -/
def itemEnds : IVec S64 32 := cum (tileCounts x)
/-- The grid points' experts. -/
def owns : IVec S255 32 := ownOf (itemEnds x)
/-- The grid points' tiles. -/
def tileWords : IVec S255 32 := tileOf (itemEnds x) (tileCounts x) (firstTiles x)

variable {x n} (hx : ∀ e : Fin 64, x (ix1 e) = BitVec.ofNat 32 (n e.val)) (hs : upto n 64 = 49152)
include hx hs

theorem upto_lt (k : ℕ) (hk : k ≤ 64) : upto n k < 2 ^ 31 := by
  have := upto_mono n hk
  omega

theorem count_lt (e : Fin 64) : n e.val < 2 ^ 31 := by
  have h := upto_lt (x := x) hx hs (e.val + 1) (by omega)
  rw [upto_succ] at h
  omega

theorem ends_at (e : Fin 64) : cum x (ix1 e) = BitVec.ofNat 32 (upto n (e.val + 1)) := cum_at x n hx e

theorem starts_at (e : Fin 64) : subi (cum x) x (ix1 e) = BitVec.ofNat 32 (upto n e.val) := by
  show cum x (ix1 e) - x (ix1 e) = _
  rw [ends_at hx hs, hx, ofNat32_sub (by rw [upto_succ]; omega), upto_succ, Nat.add_sub_cancel]

theorem firstTiles_at (e : Fin 64) : firstTiles x (ix1 e) = BitVec.ofNat 32 (upto n e.val / 256) :=
  by256_at _ e (starts_at hx hs e) (upto_lt hx hs _ (by omega))

theorem tileCounts_at (e : Fin 64) : tileCounts x (ix1 e) = BitVec.ofNat 32 (tiles n e.val) :=
  tilesOf_at x _ _ e (hx e) (count_lt hx hs e) (firstTiles_at hx hs e)
    (fun h => lastOf_at _ e (ends_at hx hs e) (by rw [upto_succ]; omega) (upto_lt hx hs _ (by omega)))
    (fun h => Nat.div_le_div_right (by rw [upto_succ]; omega))

theorem itemEnds_at (e : Fin 64) : itemEnds x (ix1 e) = BitVec.ofNat 32 (items n (e.val + 1)) :=
  cum_at _ (tiles n) (tileCounts_at hx hs) e

theorem itemEnds_last : itemEnds x (ix1 63) = BitVec.ofNat 32 (total n) := itemEnds_at hx hs 63

theorem total_at : totalOf (itemEnds x) ix0 = BitVec.ofNat 32 (total n) := (totalOf_at _).trans (itemEnds_last hx hs)

theorem clamp_at (t : Fin 255) : clampOf (itemEnds x) (ix1 t) = BitVec.ofNat 32 (clamp n t.val) :=
  clampOf_at _ t (itemEnds_last hx hs) (total_pos hs) (by have := total_le hs; omega)

theorem clamp_lt (t : ℕ) : clamp n t < 255 := by
  have h1 := total_pos hs
  have h2 := total_le hs
  unfold clamp
  omega

theorem owns_at (t : Fin 255) : owns x (ix1 t) = BitVec.ofNat 32 (own n t.val) :=
  ownOf_at _ (fun k => items n (k + 1)) t (itemEnds_at hx hs)
    (fun k => by
      have h1 := items_mono n (show k.val + 1 ≤ 64 by omega)
      have h2 := total_le hs
      show items n (k.val + 1) < _
      have h3 : items n 64 = total n := rfl
      omega)
    (clamp_at hx hs t) (by have := clamp_lt hx hs t.val; omega)

/-- The grid point's expert. -/
abbrev ownF (t : Fin 255) : Fin 64 := ⟨own n t.val, (own_spec hs t.val).1⟩

theorem pick_at (v : IVec S64 32) (f : ℕ → ℕ) (hv : ∀ e : Fin 64, v (ix1 e) = BitVec.ofNat 32 (f e.val)) (t : Fin 255) :
    pickOf (owns x) v (ix1 t) = BitVec.ofNat 32 (f (own n t.val)) :=
  (pickOf_at _ v t (ownF hs t) (owns_at hx hs t)).trans (hv _)

theorem itemStarts_at (e : Fin 64) : subi (itemEnds x) (tileCounts x) (ix1 e) = BitVec.ofNat 32 (items n e.val) := by
  show itemEnds x (ix1 e) - tileCounts x (ix1 e) = _
  rw [itemEnds_at hx hs, tileCounts_at hx hs, ofNat32_sub (by rw [items_succ]; omega), items_succ, Nat.add_sub_cancel]

theorem tileWords_at (t : Fin 255) : tileWords x (ix1 t) = BitVec.ofNat 32 (tile n t.val) := by
  show pickOf (owns x) (firstTiles x) (ix1 t) + (clampOf (itemEnds x) (ix1 t) - pickOf (owns x) (subi (itemEnds x) (tileCounts x)) (ix1 t)) = _
  rw [pick_at hx hs _ (fun k => upto n k / 256) (firstTiles_at hx hs), pick_at hx hs _ (items n) (itemStarts_at hx hs), clamp_at hx hs, ofNat32_sub (own_spec hs t.val).2.1]
  exact (BitVec.ofNat_add _ _).symm

theorem base_at (t : Fin 255) : baseOf (tileWords x) (ix1 t) = BitVec.ofNat 32 (tile n t.val * 256) := by
  show tileWords x (ix1 t) * broadcastInDim S255 ![] bcast_S_S255 (constantI S_ 32 256#32) (ix1 t) = _
  rw [bc0, tileWords_at hx hs]
  exact (BitVec.ofNat_mul _ _).symm

theorem lo_at (t : Fin 255) : loOf (owns x) (tileWords x) (subi (cum x) x) (ix1 t) = BitVec.ofNat 32 (lo n t.val) := by
  show IntOp.maxsi (pickOf (owns x) (subi (cum x) x) (ix1 t) - baseOf (tileWords x) (ix1 t))
    (broadcastInDim S255 ![] bcast_S_S255 (constantI S_ 32 0#32) (ix1 t)) = _
  rw [bc0, pick_at hx hs _ (upto n) (starts_at hx hs), base_at hx hs]
  have h := tile_lt hs t.val
  exact maxsi_sub_word (upto_lt hx hs _ (own_spec hs t.val).1.le) (by omega)

theorem hi_at (t : Fin 255) : hiOf (owns x) (tileWords x) (cum x) (ix1 t) = BitVec.ofNat 32 (hi n t.val) := by
  show IntOp.minsi (pickOf (owns x) (cum x) (ix1 t) - baseOf (tileWords x) (ix1 t))
    (broadcastInDim S255 ![] bcast_S_S255 (constantI S_ 32 256#32) (ix1 t)) = _
  rw [bc0, pick_at hx hs _ (fun k => upto n (k + 1)) (ends_at hx hs), base_at hx hs]
  have h0 := (tile_spec hs t.val).1
  have h2 := (tile_spec hs t.val).2.2
  have h3 := upto_lt hx hs (own n t.val + 1) (own_spec hs t.val).1
  have h4 : upto n (own n t.val + 1) = upto n (own n t.val) + n (own n t.val) := upto_succ _ _
  have h5 : tile n t.val * 256 ≤ upto n (own n t.val + 1) := by omega
  rw [ofNat32_sub h5]
  exact minsi_word (a := upto n (own n t.val + 1) - tile n t.val * 256) (b := 256) (by omega) (by decide)

theorem opens_at (t : Fin 255) : opensOf (tileWords x) (ix1 t) = 1#32 ∧ opens n t.val ∨ opensOf (tileWords x) (ix1 t) = 0#32 ∧ ¬ opens n t.val := by
  have hne : ∀ a b : BitVec 32, (IntOp.cmpi .ne a b).setWidth 32 = if a ≠ b then 1#32 else 0#32 := by
    intro a b
    show (BitVec.ofBool (a != b)).setWidth 32 = _
    by_cases h : a = b
    · rw [if_neg (not_not.2 h), h, bne_self_eq_false]; rfl
    · rw [if_pos h, bne_iff_ne.2 h]; rfl
  have hb : tile n t.val < 192 := tile_lt hs t.val
  classical
  have key : opensOf (tileWords x) (ix1 t) = if opens n t.val then 1#32 else 0#32 := by
    refine (hne _ _).trans (if_congr ?_ rfl rfl)
    rw [tileWords_at hx hs]
    by_cases h0 : t.val = 0
    · have e : ix1 t = ix1 (0 : Fin 255) := congrArg ix1 (Fin.ext h0)
      have hc : concatenate S255 0 [⟨S1, broadcastInDim S1 ![] bcast_S_S1 (constantI S_ 32 4294967295#32)⟩,
          ⟨S254, extractStridedSlice S254 ![0] (tileWords x) slices_S255_S254_0⟩] concatenates_S1_S254_S255_d0 (ix1 t) = 4294967295#32 := by
        rw [e]; rfl
      rw [hc]
      refine iff_of_true (fun h => ?_) (Or.inl h0)
      have h := congrArg BitVec.toNat h
      rw [BitVec.toNat_ofNat] at h
      simp at h
      omega
    · have hc : concatenate S255 0 [⟨S1, broadcastInDim S1 ![] bcast_S_S1 (constantI S_ 32 4294967295#32)⟩,
          ⟨S254, extractStridedSlice S254 ![0] (tileWords x) slices_S255_S254_0⟩] concatenates_S1_S254_S255_d0 (ix1 t)
          = tileWords x (ix1 (⟨t.val - 1, by omega⟩ : Fin 255)) := by
        refine (concatenate_pair_apply_right (s₁ := S1) (s₂ := S254) (t := S255) 0 _ _ _ (ix1 t) rfl rfl (ix1 (⟨t.val - 1, by omega⟩ : Fin 254)) ?_ ?_).trans ?_
        · intro b hb; exact absurd (Subsingleton.elim _ _) hb
        · show t.val - 1 + 1 = t.val
          omega
        · exact slice1 0 (tileWords x) _ (⟨t.val - 1, by omega⟩ : Fin 254) (by show 0 + (t.val - 1) < 255; omega) |>.trans
            (congrArg (fun i => tileWords x (ix1 i)) (Fin.ext (Nat.zero_add _)))
      rw [hc, tileWords_at hx hs]
      have hb' : tile n (t.val - 1) < 192 := tile_lt hs _
      unfold opens
      rw [or_iff_right h0]
      refine not_congr ⟨fun h => ?_, fun h => by rw [h]⟩
      have h := congrArg BitVec.toNat h
      rw [BitVec.toNat_ofNat, BitVec.toNat_ofNat] at h
      simp at h
      omega
  by_cases h : opens n t.val
  · exact Or.inl ⟨by rw [key, if_pos h], h⟩
  · exact Or.inr ⟨by rw [key, if_neg h], h⟩

end Tables

end Plan.Words

end
-- ==== Proof.ItemsHost.lean ====
module

public import proofs.«01_k».proof.Proof.ItemsRun
public import proofs.«01_k».proof.Proof.Words
public import Idealize.ShloMosaic.Lib.StableHlo.ReadAt

@[expose] public section

set_option maxRecDepth 16384

/-! The host operations before the launch, read stretch by stretch: the prefetched tables are the words of `Words.lean`. -/

noncomputable section

namespace Cert.KernelIdeal.Items

open Cert.KernelIdeal.Gen
open Idealize.ShloMosaic Idealize.ShloMosaic.TcCoe Idealize.ShloMosaic.StableHlo

variable {F : FTy → Type} [FloatOps F]

/-- What a buffer of a valuation holds. -/
abbrev at' (W : Valuation τ sig (Elt F)) (b : Ref sig .tc) := W (Proc.devRef .tc b)

variable (W : Valuation τ sig (Elt F))

/-- The contents when the last stretch begins. -/
abbrev early : Valuation τ sig (Elt F) :=
  after hostOps0_7 (after hostOps0_6 (after hostOps0_5 (after hostOps0_4 (after hostOps0_3 (after hostOps0_2 (after hostOps0_1 (after hostOps0 W)))))))

/-- What the last stretch finds: the running sums with and without the own count, the first tiles, the tiles' counts and the items' ends. -/
theorem read_early : at' (early W) main_v0 = Plan.Words.cum (at' W main_arg1)
    ∧ at' (early W) main_v1 = subi (Plan.Words.cum (at' W main_arg1)) (at' W main_arg1)
    ∧ at' (early W) main_v2 = Plan.Words.firstTiles (at' W main_arg1)
    ∧ at' (early W) main_v11 = Plan.Words.tileCounts (at' W main_arg1)
    ∧ at' (early W) main_v12 = Plan.Words.itemEnds (at' W main_arg1) := by
  refine ⟨?_, ?_, ?_, ?_, ?_⟩
  all_goals
    after_reads_simp
    simp -implicitDefEqProofs only [TRef.toBuf, TRef.ofBuf, cast_cast, cast_eq]
    rfl

/-- What the last stretch leaves: each item's tile, owner, first row and end, and the number of items. -/
theorem read_last : at' (after hostOps0_8 W) main_v43 = Plan.Words.tileOf (at' W main_v12) (at' W main_v11) (at' W main_v2)
    ∧ at' (after hostOps0_8 W) main_v26 = Plan.Words.ownOf (at' W main_v12)
    ∧ at' (after hostOps0_8 W) main_v52 = Plan.Words.loOf (Plan.Words.ownOf (at' W main_v12))
        (Plan.Words.tileOf (at' W main_v12) (at' W main_v11) (at' W main_v2)) (at' W main_v1)
    ∧ at' (after hostOps0_8 W) main_v61 = Plan.Words.hiOf (Plan.Words.ownOf (at' W main_v12))
        (Plan.Words.tileOf (at' W main_v12) (at' W main_v11) (at' W main_v2)) (at' W main_v0)
    ∧ at' (after hostOps0_8 W) main_v67 = shapeCast S1 (Plan.Words.totalOf (at' W main_v12)) shapeCasts_S_S1 := by
  refine ⟨?_, ?_, ?_, ?_, ?_⟩
  all_goals
    after_reads_simp
    rfl

theorem read_opens_at (T : IVec S255 32) (hT : at' W main_v43 = T) :
    at' (after (hostOps0_8.drop 59) W) main_v66 = Plan.Words.opensOf T := by
  after_reads_simp
  subst hT
  rfl
theorem read_tile_at : at' (after (hostOps0_8.drop 59) W) main_v43 = at' W main_v43 := by
  after_reads_simp
theorem read_opens : at' (after hostOps0_8 W) main_v66 = Plan.Words.opensOf (at' (after hostOps0_8 W) main_v43) := by
  rw [← List.take_append_drop 59 hostOps0_8, after_append]
  exact read_opens_at _ _ (read_tile_at _).symm

end Cert.KernelIdeal.Items

end
-- ==== Proof.ItemsLaunch.lean ====
module

public import proofs.«01_k».proof.Proof.ItemsRun

@[expose] public section

set_option maxRecDepth 16384

/-! The routed experts' launch: the body at every grid point, the run, and the arguments unchanged. -/

noncomputable section

namespace Cert.KernelIdeal.Items

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' halves that the body is handed, one by one. -/
theorem PhiT_eq (c : Dev nD) : (Pipeline.ΦT pre0 (tbl m) c : sProp 𝕄) =
    iprop(table c (Memref.whole main_v43) (tbl m 0) ∗ table c (Memref.whole main_v26) (tbl m 1) ∗ table c (Memref.whole main_v52) (tbl m 2)
      ∗ table c (Memref.whole main_v61) (tbl m 3) ∗ table c (Memref.whole main_v66) (tbl m 4) ∗ table c (Memref.whole main_v67) (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

variable {n : ℕ → ℕ} (hP : Planned (tbl m) n)

/-- Each window's current staging buffer at point `t`. -/
abbrev ms_0 (t : Fin (cfgM m hP).N) : Memref sig .tc .vmem S256x2048 .f32 := spec0_0.stage ((cfgM m hP).slots t 0)
abbrev hs_0 (t : Fin (cfgM m hP).N) : (ms_0 m hP t).IsWhole := hstage0_0 (((cfgM m hP).slots t 0).cast nbuf0_0)
abbrev ms_1 (t : Fin (cfgM m hP).N) : Memref sig .tc .vmem S1x1x2048x512 .f32 := spec0_1.stage ((cfgM m hP).slots t 1)
abbrev hs_1 (t : Fin (cfgM m hP).N) : (ms_1 m hP t).IsWhole := hstage0_1 (((cfgM m hP).slots t 1).cast nbuf0_1)
abbrev ms_2 (t : Fin (cfgM m hP).N) : Memref sig .tc .vmem S1x1x2048x512 .f32 := spec0_2.stage ((cfgM m hP).slots t 2)
abbrev hs_2 (t : Fin (cfgM m hP).N) : (ms_2 m hP t).IsWhole := hstage0_2 (((cfgM m hP).slots t 2).cast nbuf0_2)
abbrev ms_3 (t : Fin (cfgM m hP).N) : Memref sig .tc .vmem S1x1x512x2048 .f32 := spec0_3.stage ((cfgM m hP).slots t 3)
abbrev hs_3 (t : Fin (cfgM m hP).N) : (ms_3 m hP t).IsWhole := hstage0_3 (((cfgM m hP).slots t 3).cast nbuf0_3)
abbrev ms_4 (t : Fin (cfgM m hP).N) : Memref sig .tc .vmem S256x2048 .f32 := spec0_4.stage ((cfgM m hP).slots t 4)
abbrev hs_4 (t : Fin (cfgM m hP).N) : (ms_4 m hP t).IsWhole := hstage0_4 (((cfgM m hP).slots t 4).cast nbuf0_4)

/-- At every point the body leaves `held` in the output's block. -/
theorem leaves_held (c : Dev nD) (t : Fin (cfgM m hP).N) (d : Vec F S256x2048 .f32) :
    Leaves c ((cfgM m hP).grid.coords t) (tbl m) (ms_0 m hP t) (hs_0 m hP t) (ms_1 m hP t) (hs_1 m hP t) (ms_2 m hP t) (hs_2 m hP t)
      (ms_3 m hP t) (hs_3 m hP t) (ms_4 m hP t) (hs_4 m hP t) (iblk m hP c 0 t) (iblk m hP c 1 t) (iblk m hP c 2 t) (iblk m hP c 3 t)
      ((dats m hP 0 c).before 4 t d) (held m hP c t.val) := by
  have e := coord_val m hP t
  have l : k0_cond1 ((cfgM m hP).grid.coords t) (totalW (tbl m)) = 1#1 ↔ t.val < Plan.total n := by
    rw [total_word hP]; exact (live_iff hP.sum _).trans (by rw [e])
  have o : k0_cond2 (opensW (tbl m) ((cfgM m hP).grid.coords t)) = 1#1 ↔ Plan.opens n t.val := by
    rw [opens_word hP]; exact (opens_iff _).trans (by rw [e])
  have a : k0_cond3 (opensW' (tbl m) ((cfgM m hP).grid.coords t)) = 1#1 ↔ ¬ Plan.opens n t.val := by
    rw [opens_word' hP]; exact (adds_iff _).trans (by rw [e])
  by_cases hl : t.val < Plan.total n
  · by_cases ho : Plan.opens n t.val
    · rw [held_opens m hP c t hl ho]
      exact run_opens c _ (tbl m) _ _ _ _ _ _ _ _ _ _ _ _ _ _ _ (l.mpr hl) (o.mpr ho) (fun h => a.mp h ho)
    · rw [held_adds m hP c t hl ho, before_4 m hP c t (fun h => ho h.2) d]
      exact run_adds c _ (tbl m) _ _ _ _ _ _ _ _ _ _ _ _ _ _ _ (l.mpr hl) (fun h => ho (o.mp h)) (a.mpr ho)
  · rw [before_4 m hP c t (fun h => hl h.1) d]
    have h0 : t.val ≠ 0 := fun h => hl (h ▸ Plan.total_pos hP.sum)
    rw [held_succ m hP c t.val h0 hl]
    exact run_rests c _ (tbl m) _ _ _ _ _ _ _ _ _ _ _ _ _ _ _ (fun h => hl (l.mp h))

/-- The output's block at `held` is what the pipeline asks of the point. -/
theorem leaves_4 (c : Dev nD) (t : Fin (cfgM m hP).N) (d : Vec F S256x2048 .f32) :
    owns (c : Thread nD τ) (ms_4 m hP t) fullShare (held m hP c t.val) ⊢ ((dats m hP 0 c).leavesExact 4 t : sProp 𝕄) := by
  by_cases hi : (cfgM m hP).idle 4 ((cfgM m hP).grid.coords t) = true
  · by_cases hf : ((cfgM m hP).win 4).flush t = true
    · unfold Dat.leavesExact; rw [hi, hf, after_4]
      exact .rfl
    · rw [(dats m hP 0 c).leavesExact_idle 4 t hi (Bool.eq_false_iff.mpr hf)]
      have hl := (idle_4 m hP t).mp hi
      have h0 : t.val ≠ 0 := fun h => hl (h ▸ Plan.total_pos hP.sum)
      iintro H
      iexists d
      rw [before_4 m hP c t (fun h => hl h.1) d, ← held_succ m hP c t.val h0 hl]
      iexact H
  · unfold Dat.leavesExact; rw [Bool.eq_false_iff.mpr hi, after_4]
    exact .rfl

/-- What the body is handed at point `t`. -/
def bodyPre (c : Dev nD) (t : Fin (cfgM m hP).N) : sProp 𝕄 :=
  iprop((dats m hP 0 c).Φ t.castSucc ∗ (dats m hP 0 c).owesAt () t.castSucc
    ∗ (∃ d, owns (c : Thread nD τ) (ms_0 m hP t) fullShare ((dats m hP 0 c).before 0 t d))
    ∗ (∃ d, owns (c : Thread nD τ) (ms_1 m hP t) fullShare ((dats m hP 0 c).before 1 t d))
    ∗ (∃ d, owns (c : Thread nD τ) (ms_2 m hP t) fullShare ((dats m hP 0 c).before 2 t d))
    ∗ (∃ d, owns (c : Thread nD τ) (ms_3 m hP t) fullShare ((dats m hP 0 c).before 3 t d))
    ∗ (∃ d, owns (c : Thread nD τ) (ms_4 m hP t) fullShare ((dats m hP 0 c).before 4 t d)))

/-- What it gives back. -/
def bodyPost (c : Dev nD) (t : Fin (cfgM m hP).N) : sProp 𝕄 :=
  iprop((dats m hP 0 c).Φ t.succ ∗ (dats m hP 0 c).owesAt () t.succ
    ∗ (dats m hP 0 c).leavesExact 0 t ∗ (dats m hP 0 c).leavesExact 1 t ∗ (dats m hP 0 c).leavesExact 2 t
    ∗ (dats m hP 0 c).leavesExact 3 t ∗ (dats m hP 0 c).leavesExact 4 t)

/-- The body at point `t`. -/
abbrev bodyAt (t : Fin (cfgM m hP).N) :=
  cc0_expert_ffn (F := F) ((cfgM m hP).grid.coords t) (Memref.whole main_v43) (Memref.isWhole_whole _) (Memref.whole main_v26) (Memref.isWhole_whole _)
    (Memref.whole main_v52) (Memref.isWhole_whole _) (Memref.whole main_v61) (Memref.isWhole_whole _)
    (Memref.whole main_v66) (Memref.isWhole_whole _) (Memref.whole main_v67) (Memref.isWhole_whole _)
    (ms_0 m hP t) (hs_0 m hP t) (ms_1 m hP t) (hs_1 m hP t) (ms_2 m hP t) (hs_2 m hP t) (ms_3 m hP t) (hs_3 m hP t) (ms_4 m hP t) (hs_4 m hP t)

theorem defs₀_row (t : Fin (cfgM m hP).N) :
    defs₀ (F := F) .tc (cfgM m hP).body ((cfgM m hP).bodyArgs t ((cfgM m hP).slots t)) = bodyAt m hP t := by
  unfold defs₀; rw [Defs.onTc_tc]

set_option maxHeartbeats 1600000 in
theorem sound_body (c : Dev nD) (t : Fin (cfgM m hP).N) :
    bodyPre m hP c t ⊢ wp frame (wpE (defs₀ (F := F)) Variants.none c none) Set.univ (bodyAt m hP t) fun _ => bodyPost m hP c t := by
  unfold bodyPre bodyPost
  simp only [(before_in m hP c t).1, (before_in m hP c t).2.1, (before_in m hP c t).2.2.1, (before_in m hP c t).2.2.2]
  rw [show (dats m hP 0 c).Φ t.succ = (dats m hP 0 c).Φ t.castSucc from rfl,
    show (dats m hP 0 c).owesAt () t.succ = (dats m hP 0 c).owesAt () t.castSucc from rfl,
    show (dats m hP 0 c).Φ t.castSucc = iprop(Pipeline.ΦA spec0 c ∗ Pipeline.ΦT pre0 (tbl m) c) from rfl, PhiT_eq m c,
    show (dats m hP 0 c).leavesExact 0 t = owns (c : Thread nD τ) (ms_0 m hP t) fullShare (iblk m hP c 0 t) from by
      unfold Dat.leavesExact; rw [show (cfgM m hP).idle 0 ((cfgM m hP).grid.coords t) = false from rfl, after_0]; rfl,
    show (dats m hP 0 c).leavesExact 1 t = owns (c : Thread nD τ) (ms_1 m hP t) fullShare (iblk m hP c 1 t) from by
      unfold Dat.leavesExact; rw [show (cfgM m hP).idle 1 ((cfgM m hP).grid.coords t) = false from rfl, after_1]; rfl,
    show (dats m hP 0 c).leavesExact 2 t = owns (c : Thread nD τ) (ms_2 m hP t) fullShare (iblk m hP c 2 t) from by
      unfold Dat.leavesExact; rw [show (cfgM m hP).idle 2 ((cfgM m hP).grid.coords t) = false from rfl, after_2]; rfl,
    show (dats m hP 0 c).leavesExact 3 t = owns (c : Thread nD τ) (ms_3 m hP t) fullShare (iblk m hP c 3 t) from by
      unfold Dat.leavesExact; rw [show (cfgM m hP).idle 3 ((cfgM m hP).grid.coords t) = false from rfl, after_3]; rfl]
  iintro ⟨⟨HA, T0, T1, T2, T3, T4, T5⟩, Ho, ⟨%d0, H0⟩, ⟨%d1, H1⟩, ⟨%d2, H2⟩, ⟨%d3, H3⟩, ⟨%d4, H4⟩⟩
  iapply ((leaves_held m hP c t d4) Set.univ _)
  isplitl [T2 T3 T4 T5]
  · isplitl [T2]; · iexact T2
    isplitl [T3]; · iexact T3
    isplitl [T4]; · iexact T4
    iexact T5
  isplitl [H0 H1 H2 H3 H4]
  · isplitl [H0]; · iexact H0
    isplitl [H1]; · iexact H1
    isplitl [H2]; · iexact H2
    isplitl [H3]; · iexact H3
    iexact H4
  iintro ⟨⟨T2, T3, T4, T5⟩, ⟨H0, H1, H2, H3, H4⟩⟩
  isplitl [HA T0 T1 T2 T3 T4 T5]
  · isplitl [HA]; · iexact HA
    isplitl [T0]; · iexact T0
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  isplitl [H3]; · iexact H3
  iapply (leaves_4 m hP c t d4)
  iexact H4

theorem body_obligation (c : Dev nD) : BodyObligation (dats (F := F) m hP 0 c) (defs₀ (F := F)) Variants.none () Set.univ := fun t => by
  rw [bigSep_W0, bigSep_W0, defs₀_row]
  exact triple_restated (sound_body m hP c t) rfl .rfl fun _ => .rfl

set_option backward.isDefEq.respectTransparency.types false in
/-- The run: every window's array ends as the proof data say, every other buffer as the launch found it, every
    semaphore at zero. -/
theorem run_main : θ_run defs (onTc (τ := τ) (main (F := F))) (s₀ m ρ) (fun r =>
    Pipeline.FramePost (Pipeline.pin pcfgs fun _ => adm m hP) (dats m hP) 0 (V m) r ∧ r.2.sem = fun _ => 0) :=
  Pipeline.θ_run_frameP (Q' := _) pcfgs (fun _ => adm m hP) (dats m hP) (0 : Fin 1) launch0 defs₀ Variants.none m ρ main
    (hbody := fun c => (body_obligation m hP c).loose) (hshare := fun c => (dats m hP 0 c).share_full fun _ => rfl)
    (howed := fun _ _ => rfl) (V := V m) (hmain := hmain m) (hA := A_eq m hP) (hpf := V_pre m) (hΦ := fun _ _ => rfl)
    (hQ' := fun _ h => h)

end Cert.KernelIdeal.Items

end
-- ==== Proof.Counted.lean ====
module

public import proofs.«01_k».proof.Proof.Words
public import proofs.«01_k».proof.Proof.Gen.Pre_counted
public import Idealize.ShloMosaic.Lib.ReduceAll

@[expose] public section

set_option maxRecDepth 16384

/-! The precondition read: the counts are natural numbers that sum to the number of rows. -/

noncomputable section

namespace Plan.Words

open Cert.KernelIdeal
open Idealize.ShloMosaic Idealize.ShloMosaic.Routing Idealize.ShloMosaic.ValueIdx

/-- The experts' numbers of rows. -/
def rowsOf (x : IVec S64 32) (e : ℕ) : ℕ := if h : e < 64 then (x (ix1 ⟨e, h⟩)).toNat else 0

theorem rowsOf_at (x : IVec S64 32) (e : Fin 64) : x (ix1 e) = BitVec.ofNat 32 (rowsOf x e.val) := by
  unfold rowsOf
  rw [dif_pos e.isLt, BitVec.ofNat_toNat, BitVec.setWidth_eq]

/-- Under the precondition the experts' numbers of rows sum to the rows there are. -/
theorem rowsOf_sum {F : FTy → Type} [FloatOps F] (a0 : FVec F Cert.Pre_counted.S49152x2048 .f32) (x : IVec S64 32)
    (a2 a3 : FVec F Cert.Pre_counted.S2x64x2048x512 .f32) (a4 : FVec F Cert.Pre_counted.S2x64x512x2048 .f32)
    (h : Cert.Pre_counted.fn (F := F) a0 x a2 a3 a4 = fun _ => 1#1) : upto (rowsOf x) 64 = 49152 := by
  haveI : Subsingleton S_.Idx := ⟨fun a b => funext fun k => k.elim0⟩
  have andi_one (a b : BitVec 1) : IntOp.andi a b = 1#1 ↔ a = 1#1 ∧ b = 1#1 := by revert a b; decide
  have h0 := congrFun h ix0
  obtain ⟨h1, h2⟩ := (andi_one _ _).1 h0
  obtain ⟨h3, h4⟩ := (andi_one _ _).1 h1
  have hle : ∀ e : Fin 64, rowsOf x e.val ≤ 49152 := by
    intro e
    have p := Host.reduce_andi_all _ _ _ _ _ h3 (ix1 e)
    have q := Host.reduce_andi_all _ _ _ _ _ h4 (ix1 e)
    have p' : BitVec.ofBool ((broadcastInDim S64 ![] Cert.Pre_counted.Facts.bcast_S_S64 (constantI S_ 32 0#32) (ix1 e)).sle (x (ix1 e))) = 1#1 := p
    have q' : BitVec.ofBool ((x (ix1 e)).sle (broadcastInDim S64 ![] Cert.Pre_counted.Facts.bcast_S_S64 (constantI S_ 32 49152#32) (ix1 e))) = 1#1 := q
    rw [bc0] at p' q'
    have p2 := BitVec.sle_iff_toInt_le.1 ((StableHlo.Predicate.ofBool_eq_one_iff _).1 p')
    have q2 := BitVec.sle_iff_toInt_le.1 ((StableHlo.Predicate.ofBool_eq_one_iff _).1 q')
    have e0 : (constantI S_ 32 0#32 ix0).toInt = 0 := rfl
    have e1 : (constantI S_ 32 49152#32 ix0).toInt = 49152 := rfl
    rw [e0] at p2
    rw [e1] at q2
    have hn : rowsOf x e.val = (x (ix1 e)).toNat := dif_pos e.isLt
    rw [hn]
    rw [BitVec.toInt_eq_toNat_cond] at p2 q2
    split at p2 <;> omega
  have hs : ∀ k, ((List.range k).map (rowsOf x)).sum = upto (rowsOf x) k := by
    intro k
    induction k with
    | zero => rw [upto_zero]; rfl
    | succ k ih => rw [List.range_succ, List.map_append, List.sum_append, ih, upto_succ]; simp
  have hb : ∀ k ≤ 64, upto (rowsOf x) k ≤ k * 49152 := by
    intro k
    induction k with
    | zero => intro _; rw [upto_zero, Nat.zero_mul]
    | succ k ih =>
      intro hk
      have := ih (by omega)
      have := hle ⟨k, by omega⟩
      rw [upto_succ]
      simp only at this
      omega
  have hsum : Host.reduce IntOp.addi x (constantI S_ 32 0#32) Cert.Pre_counted.Facts.reducesTo_S64_S_d0 Cert.Pre_counted.Facts.h_S_ ix0 = 49152#32 :=
    StableHlo.Predicate.cmpi_eq_iff.1 h2
  have hr := reduce_sum x (rowsOf x) (rowsOf_at x) Cert.Pre_counted.Facts.reducesTo_S64_S_d0 Cert.Pre_counted.Facts.h_S_
  rw [hs] at hr
  have he := congrArg BitVec.toNat (hr.symm.trans hsum)
  have := hb 64 (le_refl _)
  rw [BitVec.toNat_ofNat, BitVec.toNat_ofNat] at he
  omega

end Plan.Words

end
-- ==== Proof.ItemsPlan.lean ====
module

public import proofs.«01_k».proof.Proof.ItemsHost
public import proofs.«01_k».proof.Proof.ItemsLaunch
public import proofs.«01_k».proof.Proof.Counted

@[expose] public section

set_option maxRecDepth 16384

/-! The tables are the plan's, under the precondition; and the frame of the launch. -/

noncomputable section

namespace Cert.KernelIdeal.Items

open Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem at1_eq (t : Fin 255) : at1 t = ValueIdx.ix1 t := by
  funext (a : Fin 1)
  obtain rfl : a = 0 := Subsingleton.elim _ _
  rfl
theorem at0_eq : at0 = ValueIdx.ix1 (0 : Fin 1) := by
  funext (a : Fin 1)
  obtain rfl : a = 0 := Subsingleton.elim _ _
  rfl

/-- The launch finds what the last stretch leaves. -/
theorem V_eq (c : Dev nD) (b : Ref sig .tc) :
    V m c b = at' (StableHlo.after hostOps0_8 (early fun b => m (c, b))) b := by
  unfold V
  simp only [opss, List.flatten_cons, List.flatten_nil, List.append_nil, StableHlo.after_append]

/-- The experts' row counts. -/
abbrev counts (c : Dev nD) : IVec S64 32 := m ((c : Thread nD τ).loc main_arg1)

theorem V_tile (c : Dev nD) : V m c main_v43 = Plan.Words.tileWords (counts m c) := by
  rw [V_eq, (read_last _).1, (read_early _).2.2.2.2, (read_early _).2.2.2.1, (read_early _).2.2.1]; rfl
theorem V_own (c : Dev nD) : V m c main_v26 = Plan.Words.owns (counts m c) := by
  rw [V_eq, (read_last _).2.1, (read_early _).2.2.2.2]; rfl
theorem V_lo (c : Dev nD) : V m c main_v52 = Plan.Words.loOf (Plan.Words.owns (counts m c)) (Plan.Words.tileWords (counts m c))
    (subi (Plan.Words.cum (counts m c)) (counts m c)) := by
  rw [V_eq, (read_last _).2.2.1, (read_early _).2.2.2.2, (read_early _).2.2.2.1, (read_early _).2.2.1, (read_early _).2.1]; rfl
theorem V_hi (c : Dev nD) : V m c main_v61 = Plan.Words.hiOf (Plan.Words.owns (counts m c)) (Plan.Words.tileWords (counts m c))
    (Plan.Words.cum (counts m c)) := by
  rw [V_eq, (read_last _).2.2.2.1, (read_early _).2.2.2.2, (read_early _).2.2.2.1, (read_early _).2.2.1, (read_early _).1]; rfl
theorem V_opens (c : Dev nD) : V m c main_v66 = Plan.Words.opensOf (Plan.Words.tileWords (counts m c)) := by
  rw [V_eq, read_opens, (read_last _).1, (read_early _).2.2.2.2, (read_early _).2.2.2.1, (read_early _).2.2.1]; rfl
theorem V_total (c : Dev nD) : V m c main_v67 = shapeCast S1 (Plan.Words.totalOf (Plan.Words.itemEnds (counts m c))) shapeCasts_S_S1 := by
  rw [V_eq, (read_last _).2.2.2.2, (read_early _).2.2.2.2]

/-- The tables hold the plan of the counts. -/
theorem planned {n : ℕ → ℕ} (hx : ∀ e : Fin 64, counts m 0 (ValueIdx.ix1 e) = BitVec.ofNat 32 (n e.val)) (hs : Plan.upto n 64 = 49152) :
    Planned (tbl m) n where
  sum := hs
  tile t := (congrFun (V_tile m 0) (at1 t)).trans ((congrArg _ (at1_eq t)).trans (Plan.Words.tileWords_at hx hs t))
  own t := (congrFun (V_own m 0) (at1 t)).trans ((congrArg _ (at1_eq t)).trans (Plan.Words.owns_at hx hs t))
  lo t := (congrFun (V_lo m 0) (at1 t)).trans ((congrArg _ (at1_eq t)).trans (Plan.Words.lo_at hx hs t))
  hi t := (congrFun (V_hi m 0) (at1 t)).trans ((congrArg _ (at1_eq t)).trans (Plan.Words.hi_at hx hs t))
  opens t := by
    refine (congrFun (V_opens m 0) (at1 t)).trans ((congrArg _ (at1_eq t)).trans ?_)
    rcases Plan.Words.opens_at hx hs t with ⟨h, ho⟩ | ⟨h, ho⟩
    · rw [h, opensN, if_pos ho]
    · rw [h, opensN, if_neg ho]
  total := by
    refine (congrFun (V_total m 0) at0).trans ?_
    refine (shapeCast_apply _ _ _ ValueIdx.ix0 rfl).trans (Plan.Words.total_at hx hs)

/-! ## What the host operations leave of the arguments -/

theorem V_args (c : Dev nD) : V m c main_arg0 = m ((c : Thread nD τ).loc main_arg0)
    ∧ V m c main_arg1 = m ((c : Thread nD τ).loc main_arg1) ∧ V m c main_arg2 = m ((c : Thread nD τ).loc main_arg2)
    ∧ V m c main_arg3 = m ((c : Thread nD τ).loc main_arg3) ∧ V m c main_arg4 = m ((c : Thread nD τ).loc main_arg4) := by
  simp only [V_eq]
  refine ⟨?_, ?_, ?_, ?_, ?_⟩
  all_goals after_reads_simp

/-! ## The launch, its arguments unchanged -/

variable {n : ℕ → ℕ} (hP : Planned (tbl m) n)

/-- No window stages the counts. -/
theorem arg1_rest : ∀ w, (spec0 w).arr.view.ref ≠ main_arg1 := by decide

/-- Every run of the launch ends, with the output array holding what the last of its blocks left, the arguments unchanged
    and every semaphore at rest. -/
theorem run : θ_run defs (onTc (τ := τ) (main (F := F))) ⟨m, fun _ => 0, ρ⟩ (fun r => (∀ c : Dev nD,
      r.2.mem ((c : Thread nD τ).loc main_v68) = (dats m hP 0 c).arrAt 4 (cfgM m hP).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (run_main m ρ hP).mono fun r h => ⟨fun c => by
    have hw := (h.1 c).1
    refine ⟨hw 4, ?_, ?_, ?_, ?_, ?_⟩
    · exact (hw 0).trans ((Dat.arrAt_in (dats m hP 0 c) 0 rfl _).trans ((A_eq m hP c 0).trans (V_args m c).1))
    · exact ((h.1 c).2 main_arg1 (Pipeline.mem_restRefs_of main_arg1 (by decide) arg1_rest)).trans (V_args m c).2.1
    · exact (hw 1).trans ((Dat.arrAt_in (dats m hP 0 c) 1 rfl _).trans ((A_eq m hP c 1).trans (V_args m c).2.2.1))
    · exact (hw 2).trans ((Dat.arrAt_in (dats m hP 0 c) 2 rfl _).trans ((A_eq m hP c 2).trans (V_args m c).2.2.2.1))
    · exact (hw 3).trans ((Dat.arrAt_in (dats m hP 0 c) 3 rfl _).trans ((A_eq m hP c 3).trans (V_args m c).2.2.2.2)), h.2⟩

end Cert.KernelIdeal.Items

end
-- ==== Proof.SameRun.lean ====
/- The routed experts' two programs, at binary floats and idealized, are the same program (hand-written). -/
module

public import proofs.«01_k».proof.Proof.Gen.Kernel.Launch
public import proofs.«01_k».proof.Proof.Gen.KernelIdeal.Launch

@[expose] public section

noncomputable section

namespace Cert.Proof.Same

open Idealize.ShloMosaic Idealize.ShloMosaic.TcCoe Idealize.SL.Sem

variable {F : FTy → Type} [FloatOps F]

theorem ops0 : Cert.Kernel.Gen.hostOps0 (F := F) = Cert.KernelIdeal.Gen.hostOps0 := rfl
theorem ops1 : Cert.Kernel.Gen.hostOps0_1 (F := F) = Cert.KernelIdeal.Gen.hostOps0_1 := rfl
theorem ops2 : Cert.Kernel.Gen.hostOps0_2 (F := F) = Cert.KernelIdeal.Gen.hostOps0_2 := rfl
theorem ops3 : Cert.Kernel.Gen.hostOps0_3 (F := F) = Cert.KernelIdeal.Gen.hostOps0_3 := rfl
theorem ops4 : Cert.Kernel.Gen.hostOps0_4 (F := F) = Cert.KernelIdeal.Gen.hostOps0_4 := rfl
theorem ops5 : Cert.Kernel.Gen.hostOps0_5 (F := F) = Cert.KernelIdeal.Gen.hostOps0_5 := rfl
theorem ops6 : Cert.Kernel.Gen.hostOps0_6 (F := F) = Cert.KernelIdeal.Gen.hostOps0_6 := rfl
theorem ops7 : Cert.Kernel.Gen.hostOps0_7 (F := F) = Cert.KernelIdeal.Gen.hostOps0_7 := rfl

set_option maxHeartbeats 2000000 in
theorem ops8 : Cert.Kernel.Gen.hostOps0_8 (F := F) = Cert.KernelIdeal.Gen.hostOps0_8 := rfl

/-- The body tables agree. -/
theorem bodies : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

set_option maxHeartbeats 2000000 in
theorem defs : Cert.Kernel.defs (F := F) = Cert.KernelIdeal.defs (F := F) := by
  unfold Cert.Kernel.defs Cert.KernelIdeal.defs
  exact congrArg (Pipeline.defs Cert.KernelIdeal.pcfgs) bodies

set_option maxHeartbeats 2000000 in
/-- The mains agree: each is the chain of the same nine stretches and the launch. -/
theorem main : Cert.Kernel.main (F := F) = Cert.KernelIdeal.main (F := F) := by
  funext c
  refine (Cert.Kernel.Gen.main_chain c).trans (Eq.trans ?_ (Cert.KernelIdeal.Gen.main_chain c).symm)
  exact congrArg Pipeline.chain (congrArg₂ List.cons (congrArg StableHlo.seq ops0) (congrArg₂ List.cons (congrArg StableHlo.seq ops1)
    (congrArg₂ List.cons (congrArg StableHlo.seq ops2) (congrArg₂ List.cons (congrArg StableHlo.seq ops3)
    (congrArg₂ List.cons (congrArg StableHlo.seq ops4) (congrArg₂ List.cons (congrArg StableHlo.seq ops5)
    (congrArg₂ List.cons (congrArg StableHlo.seq ops6) (congrArg₂ List.cons (congrArg StableHlo.seq ops7)
    (congrArg₂ List.cons (congrArg StableHlo.seq ops8) rfl)))))))))

end Cert.Proof.Same

end
-- ==== Proof.KernelFrame.lean ====
/- The routed experts' frame at binary floats, from the run of the idealized program (hand-written). -/
module

public import proofs.«01_k».proof.Defs
public import proofs.«01_k».proof.Proof.Gen.Pre_counted
public import proofs.«01_k».proof.Proof.ItemsPlan
public import proofs.«01_k».proof.Proof.SameRun

@[expose] public section

noncomputable section

namespace Cert.Proof

open Idealize.ShloMosaic Idealize.ShloMosaic.TcCoe Idealize.SL.Sem

set_option maxHeartbeats 4000000 in
/-- The kernel's frame at binary floats: under the precondition the tables hold a plan, and the launch runs to its end. -/
theorem kernel_frame : Cert.quiescent_Kernel := fun m ρ hpre => by
  rw [Same.defs, Same.main]
  refine (θ_run Cert.KernelIdeal.defs _ _).mono ?_ (Cert.KernelIdeal.Items.run (F := Bits) m ρ
      (Cert.KernelIdeal.Items.planned m (Plan.Words.rowsOf_at _) (Plan.Words.rowsOf_sum _ _ _ _ _ (hpre 0))))
  intro r h
  refine ⟨fun c => ?_, ?_⟩
  · have e := (h.1 c).2
    exact ⟨e.1, e.2.1, e.2.2.1, e.2.2.2.1, e.2.2.2.2⟩
  · exact h.2

end Cert.Proof

end
-- ==== Proof.ItemsPay.lean ====
/- What one item's share of its block of rows is, entry by entry (hand-written). -/
module

public import proofs.«01_k».proof.Proof.Gen.KernelIdeal.Skeleton
public import Idealize.ShloMosaic.Lib.Pointwise

@[expose] public section

noncomputable section

namespace Cert.Proof.Routed

open Idealize.ShloMosaic Cert.KernelIdeal Cert.KernelIdeal.Gen

/-- The gated hidden unit `silu(x · wg) * (x · wu)` of one row of activations and one column of the two weights. -/
def hidden {K : ℕ} (x wg wu : Fin K → EReal) : EReal :=
  (∑ i, x i * wg i) * Ideal.logistic (∑ i, x i * wg i) * (∑ i, x i * wu i)

/-- An expert's output at one row and one column: the gated hidden units contracted with the down projection's column. -/
def expert (x : Fin 2048 → EReal) (wg wu : Fin 2048 → Fin 512 → EReal) (wd : Fin 512 → EReal) : EReal :=
  ∑ k, hidden x (fun i => wg i k) (fun i => wu i k) * wd k

/-- The item's payload at an entry, the mask still as bits of words. -/
theorem share_bits (x : Vec Ideal S256x2048 .f32) (lo hi : BitVec 32) (wg wu : Vec Ideal S1x1x2048x512 .f32)
    (wd : Vec Ideal S1x1x512x2048 .f32) (r : Fin 256) (l : Fin 2048) :
    k0_pay2 (F := Ideal) x lo hi wg wu wd (ix2 r l) =
      ∑ k : Fin 512, Scalar.select (IntOp.andi (IntOp.cmpi .sge (BitVec.ofNat 32 r.val) lo) (IntOp.cmpi .slt (BitVec.ofNat 32 r.val) hi))
        (hidden (fun i : Fin 2048 => x (ix2 r i)) (fun i => wg (ix4 0 0 i k)) (fun i => wu (ix4 0 0 i k)) * wd (ix4 0 0 k l)) 0 := by
  pointwise [k0_pay2, hidden]

/-- Two comparisons of small words joined: the bit says that `r` lies in `a .. b - 1`. -/
theorem between_word {a b r : ℕ} (ha : a < 2 ^ 31) (hb : b < 2 ^ 31) (hr : r < 2 ^ 31) :
    IntOp.andi (IntOp.cmpi .sge (BitVec.ofNat 32 r) (BitVec.ofNat 32 a)) (IntOp.cmpi .slt (BitVec.ofNat 32 r) (BitVec.ofNat 32 b)) = 1#1
      ↔ a ≤ r ∧ r < b := by
  have andi_one (a b : BitVec 1) : IntOp.andi a b = 1#1 ↔ a = 1#1 ∧ b = 1#1 := by revert a b; decide
  have one_iff (p : Bool) : BitVec.ofBool p = 1#1 ↔ p = true := by cases p <;> decide
  rw [andi_one]
  show BitVec.ofBool ((BitVec.ofNat 32 a).sle (BitVec.ofNat 32 r)) = 1#1 ∧ BitVec.ofBool ((BitVec.ofNat 32 r).slt (BitVec.ofNat 32 b)) = 1#1 ↔ _
  rw [one_iff, one_iff, BitVec.sle_iff_toInt_le, BitVec.slt_iff_toInt_lt,
    BitVec.toInt_eq_toNat_cond, BitVec.toInt_eq_toNat_cond, BitVec.toInt_eq_toNat_cond, BitVec.toNat_ofNat, BitVec.toNat_ofNat, BitVec.toNat_ofNat]
  omega

/-- The item's payload at an entry: the expert's output at rows from `a` up to `b`, zero at the others. -/
theorem share_entry (x : Vec Ideal S256x2048 .f32) {a b : ℕ} (ha : a < 2 ^ 31) (hb : b < 2 ^ 31) (wg wu : Vec Ideal S1x1x2048x512 .f32)
    (wd : Vec Ideal S1x1x512x2048 .f32) (r : Fin 256) (l : Fin 2048) :
    k0_pay2 (F := Ideal) x (BitVec.ofNat 32 a) (BitVec.ofNat 32 b) wg wu wd (ix2 r l) =
      if a ≤ r.val ∧ r.val < b then
        expert (fun i => x (ix2 r i)) (fun i k => wg (ix4 0 0 i k)) (fun i k => wu (ix4 0 0 i k)) (fun k => wd (ix4 0 0 k l))
      else 0 := by
  have hr : r.val < 2 ^ 31 := by have := r.isLt; omega
  rw [share_bits]
  unfold Scalar.select expert
  split
  · rename_i h
    rw [if_pos ((between_word ha hb hr).mp h)]
  · rename_i h
    rw [if_neg (mt (between_word ha hb hr).mpr h), Finset.sum_const_zero]

/-- Adding a share to what the block holds. -/
theorem add_entry (s h : Vec Ideal S256x2048 .f32) (r : Fin 256) (l : Fin 2048) :
    k0_pay1 (F := Ideal) s h (ix2 r l) = h (ix2 r l) + s (ix2 r l) := by
  pointwise [k0_pay1]

end Cert.Proof.Routed

end
-- ==== Proof.ItemsRef.lean ====
/- What the reference of the routed experts computes, entry by entry (hand-written). -/
module

public import proofs.«01_k».proof.Proof.Gen.ReferenceIdeal.Run
public import proofs.«01_k».proof.Proof.ItemsPay
public import Idealize.ShloMosaic.Lib.IdealHost

@[expose] public section

noncomputable section

namespace Cert.Proof.Routed

open Idealize.ShloMosaic Cert.ReferenceIdeal Cert.ReferenceIdeal.Gen

/-- The gate of each row and expert: one where the row's number lies in the expert's range, zero elsewhere. -/
def gates (starts ends : IVec S64 32) : FVec Ideal S49152x64 .f32 :=
  select (andi (cmpi .sge
      (broadcastInDim S49152x64 ![0, 1] bcast_S49152x1_S49152x64_0_1 (broadcastInDim S49152x1 ![0] bcast_S49152_S49152x1_0 (iotaInDim S49152 32 0)))
      (broadcastInDim S49152x64 ![0, 1] bcast_S1x64_S49152x64_0_1 (broadcastInDim S1x64 ![1] bcast_S64_S1x64_1 starts)))
    (cmpi .slt
      (broadcastInDim S49152x64 ![0, 1] bcast_S49152x1_S49152x64_0_1 (broadcastInDim S49152x1 ![0] bcast_S49152_S49152x1_0 (iotaInDim S49152 32 0)))
      (broadcastInDim S49152x64 ![0, 1] bcast_S1x64_S49152x64_0_1 (broadcastInDim S1x64 ![1] bcast_S64_S1x64_1 ends))))
    (broadcastInDim S49152x64 ![] bcast_S_S49152x64 (constant S_ .f32 0x3F800000#32))
    (broadcastInDim S49152x64 ![] bcast_S_S49152x64 (constant S_ .f32 0x00000000#32))

/-- A weight's first layer, as one array of the experts' matrices. -/
def layer1 (w : FVec Ideal S2x64x2048x512 .f32) : FVec Ideal S64x2048x512 .f32 :=
  shapeCast _ (extractStridedSlice S1x64x2048x512 ![0, 0, 0, 0] w slices_S2x64x2048x512_S1x64x2048x512_0_0_0_0)
    shapeCasts_S1x64x2048x512_S64x2048x512
/-- The down projection's first layer. -/
def layer2 (w : FVec Ideal S2x64x512x2048 .f32) : FVec Ideal S64x512x2048 .f32 :=
  shapeCast _ (extractStridedSlice S1x64x512x2048 ![0, 0, 0, 0] w slices_S2x64x512x2048_S1x64x512x2048_0_0_0_0)
    shapeCasts_S1x64x512x2048_S64x512x2048

/-- Every row through every expert, times its gate, added up: the reference's composed term. -/
def mix (x : FVec Ideal S49152x2048 .f32) (g : FVec Ideal S49152x64 .f32) (wg wu : FVec Ideal S2x64x2048x512 .f32)
    (wd : FVec Ideal S2x64x512x2048 .f32) : FVec Ideal S49152x2048 .f32 :=
  Host.dotGeneral dot_S49152x64x512_S64x512x2048_S49152x2048_12_01_0_2_n_n none
    (mulf (mulf (mulf (Host.dotGeneral dot_S49152x2048_S64x2048x512_S49152x64x512_1_1_0_02_n_n none x (layer1 wg))
      (Host.divf (broadcastInDim S49152x64x512 ![] bcast_S_S49152x64x512 (constant S_ .f32 0x3F800000#32))
        (addf (broadcastInDim S49152x64x512 ![] bcast_S_S49152x64x512 (constant S_ .f32 0x3F800000#32))
          (Host.exp (Host.negf (Host.dotGeneral dot_S49152x2048_S64x2048x512_S49152x64x512_1_1_0_02_n_n none x (layer1 wg)))))))
      (Host.dotGeneral dot_S49152x2048_S64x2048x512_S49152x64x512_1_1_0_02_n_n none x (layer1 wu)))
      (broadcastInDim S49152x64x512 ![0, 1, 2] bcast_S49152x64x1_S49152x64x512_0_1_2
        (broadcastInDim S49152x64x1 ![0, 1] bcast_S49152x64_S49152x64x1_0_1 g)))
    (layer2 wd)

theorem gates_apply (starts ends : IVec S64 32) (R : Fin 49152) (e : Fin 64) :
    gates starts ends (ix2 R e) = Scalar.select (IntOp.andi (IntOp.cmpi .sge (BitVec.ofNat 32 R.val) (starts (ix1 e)))
      (IntOp.cmpi .slt (BitVec.ofNat 32 R.val) (ends (ix1 e)))) 1 0 := by
  pointwise [gates, Ideal.ofBits_one_f32]

theorem layer1_apply (w : FVec Ideal S2x64x2048x512 .f32) (e : Fin 64) (i : Fin 2048) (k : Fin 512) :
    layer1 w (ix3 e i k) = w (ix4 0 e i k) := by
  pointwise [layer1]
theorem layer2_apply (w : FVec Ideal S2x64x512x2048 .f32) (e : Fin 64) (k : Fin 512) (l : Fin 2048) :
    layer2 w (ix3 e k l) = w (ix4 0 e k l) := by
  pointwise [layer2]

theorem mix_apply (x : FVec Ideal S49152x2048 .f32) (g : FVec Ideal S49152x64 .f32) (wg wu : FVec Ideal S2x64x2048x512 .f32)
    (wd : FVec Ideal S2x64x512x2048 .f32) (R : Fin 49152) (l : Fin 2048) :
    mix x g wg wu wd (ix2 R l) = ∑ e : Fin 64, ∑ k : Fin 512,
      hidden (fun i : Fin 2048 => x (ix2 R i)) (fun i => layer1 wg (ix3 e i k)) (fun i => layer1 wu (ix3 e i k)) * g (ix2 R e)
        * layer2 wd (ix3 e k l) := by
  pointwise [mix, hidden, Ideal.logistic, Ideal.ofBits_one_f32]

/-- With the gates of ranges that hold row `R` for expert `e` alone, the row is that expert's output. -/
theorem mix_row (x : FVec Ideal S49152x2048 .f32) (g : FVec Ideal S49152x64 .f32) (wg wu : FVec Ideal S2x64x2048x512 .f32)
    (wd : FVec Ideal S2x64x512x2048 .f32) (R : Fin 49152) (l : Fin 2048) (e : Fin 64) (h1 : g (ix2 R e) = 1)
    (h0 : ∀ f : Fin 64, f ≠ e → g (ix2 R f) = 0) :
    mix x g wg wu wd (ix2 R l) = expert (fun i => x (ix2 R i)) (fun i k => wg (ix4 0 e i k)) (fun i k => wu (ix4 0 e i k))
      (fun k => wd (ix4 0 e k l)) := by
  rw [mix_apply, Finset.sum_eq_single e]
  · simp only [h1, mul_one, layer1_apply, layer2_apply, expert]
  · intro f _ hf
    simp only [h0 f hf, mul_zero, zero_mul, Finset.sum_const_zero]
  · intro h
    exact absurd (Finset.mem_univ e) h

end Cert.Proof.Routed

end
-- ==== Proof.ItemsGoal.lean ====
/- The gates under the precondition, and the result that the kernel is to leave (hand-written). -/
module

public import proofs.«01_k».proof.Proof.ItemsPlan
public import proofs.«01_k».proof.Proof.ItemsRef

@[expose] public section

noncomputable section

namespace Cert.Proof.Routed

open Idealize.ShloMosaic Idealize.ShloMosaic.TcCoe Idealize.SL.Sem Cert.KernelIdeal Cert.KernelIdeal.Gen

theorem ix1_eq {K : ℕ} (e : Fin K) : ix1 e = ValueIdx.ix1 e := by
  funext (a : Fin 1)
  obtain rfl : a = 0 := Subsingleton.elim _ _
  rfl

/-- The gates made of the experts' row counts. -/
abbrev gatesOf (x : IVec S64 32) : FVec Ideal Cert.ReferenceIdeal.S49152x64 .f32 :=
  gates (subi (Plan.Words.cum x) x) (Plan.Words.cum x)

variable {x : IVec S64 32} {n : ℕ → ℕ} (hx : ∀ e : Fin 64, x (ValueIdx.ix1 e) = BitVec.ofNat 32 (n e.val)) (hs : Plan.upto n 64 = 49152)
include hx hs

theorem gate_bit (R : Fin 49152) (e : Fin 64) :
    IntOp.andi (IntOp.cmpi .sge (BitVec.ofNat 32 R.val) (subi (Plan.Words.cum x) x (ix1 e)))
      (IntOp.cmpi .slt (BitVec.ofNat 32 R.val) (Plan.Words.cum x (ix1 e))) = 1#1 ↔ Plan.upto n e ≤ R ∧ R < Plan.upto n (e.val + 1) := by
  have a := Plan.Words.upto_lt (x := x) hx hs e.val (by omega)
  have b := Plan.Words.upto_lt (x := x) hx hs (e.val + 1) (by omega)
  have hR : R.val < 2 ^ 31 := by have := R.isLt; omega
  rw [ix1_eq, Plan.Words.starts_at hx hs e, Plan.Words.ends_at hx hs e]
  exact between_word a b hR

/-- The gate is one at the rows of the expert. -/
theorem gate_one (R : Fin 49152) (e : Fin 64) (h : Plan.upto n e ≤ R ∧ R < Plan.upto n (e.val + 1)) : gatesOf x (ix2 R e) = 1 :=
  (gates_apply _ _ R e).trans (if_pos ((gate_bit hx hs R e).mpr h))

/-- The gate is zero at the others. -/
theorem gate_zero (R : Fin 49152) (e : Fin 64) (h : ¬ (Plan.upto n e ≤ R ∧ R < Plan.upto n (e.val + 1))) : gatesOf x (ix2 R e) = 0 :=
  (gates_apply _ _ R e).trans (if_neg (mt (gate_bit hx hs R e).mp h))

/-- A row of the mix is the output of the expert whose range holds the row. -/
theorem mix_own (a0 : FVec Ideal Cert.ReferenceIdeal.S49152x2048 .f32) (wg wu : FVec Ideal Cert.ReferenceIdeal.S2x64x2048x512 .f32)
    (wd : FVec Ideal Cert.ReferenceIdeal.S2x64x512x2048 .f32) (R : Fin 49152) (l : Fin 2048) (e : Fin 64)
    (h : Plan.upto n e ≤ R ∧ R < Plan.upto n (e.val + 1)) :
    mix a0 (gatesOf x) wg wu wd (ix2 R l) = expert (fun i => a0 (ix2 R i)) (fun i k => wg (ix4 0 e i k)) (fun i k => wu (ix4 0 e i k))
      (fun k => wd (ix4 0 e k l)) :=
  mix_row a0 _ wg wu wd R l e (gate_one hx hs R e h) fun f hf =>
    gate_zero hx hs R f fun h' => hf (Fin.ext (Plan.expert_unique h' h))

end Cert.Proof.Routed

end
-- ==== Proof.ItemsSum.lean ====
/- What the result's block holds from item to item: sums of shares, of which one is a row's own (hand-written). -/
module

public import proofs.«01_k».proof.Proof.Plan

@[expose] public section

namespace Plan

variable {c : ℕ → ℕ}

/-- Item `w` is the one of row `r` of its tile. -/
def mine (c : ℕ → ℕ) (w r : ℕ) : Prop := lo c w ≤ r ∧ r < hi c w

/-- Among the items up to `t` there is the one of row `r` of `t`'s tile. -/
def met (c : ℕ → ℕ) (t r : ℕ) : Prop := ∃ w ≤ t, w < total c ∧ tile c w = tile c t ∧ mine c w r

variable (h : upto c 64 = 49152)
include h

/-- Two items of one tile and one row are the same. -/
theorem mine_unique {v w r : ℕ} (hr : r < 256) (hv : v < total c) (hw : w < total c) (ht : tile c v = tile c w) (mv : mine c v r)
    (mw : mine c w r) : v = w := by
  have hd : (256 * tile c w + r) / 256 = tile c w := by omega
  have hm : (256 * tile c w + r) % 256 = r := by omega
  refine item_inj h hv hw ?_ ht
  have a := (mask_iff h v (256 * tile c w + r) (hd.trans ht.symm)).mp (by rw [hm]; exact mv)
  have b := (mask_iff h w (256 * tile c w + r) hd).mp (by rw [hm]; exact mw)
  exact expert_unique a b

/-- Where an item opens its tile, a row of it has been met exactly when the item is the row's own. -/
theorem met_opens {t r : ℕ} (hl : t < total c) (ho : opens c t) : met c t r ↔ mine c t r := by
  constructor
  · rintro ⟨w, hw, _, ht, hm⟩
    rcases Nat.lt_or_eq_of_le hw with hlt | rfl
    · exfalso
      rcases ho with h0 | hne
      · omega
      · have a := tile_mono h (show w ≤ t - 1 by omega)
        have b := tile_mono h (show t - 1 ≤ t by omega)
        omega
    · exact hm
  · intro hm
    exact ⟨t, le_refl _, hl, rfl, hm⟩

/-- Where an item continues its tile, its row is its own, or was met before; not both. -/
theorem met_adds {t r : ℕ} (hl : t < total c) (ho : ¬ opens c t) : met c t r ↔ met c (t - 1) r ∨ mine c t r := by
  have h0 : t ≠ 0 := fun e => ho (Or.inl e)
  have he : tile c t = tile c (t - 1) := by
    by_contra hne; exact ho (Or.inr hne)
  constructor
  · rintro ⟨w, hw, hwt, ht, hm⟩
    rcases Nat.lt_or_eq_of_le hw with hlt | rfl
    · exact Or.inl ⟨w, by omega, hwt, ht.trans he, hm⟩
    · exact Or.inr hm
  · rintro (⟨w, hw, hwt, ht, hm⟩ | hm)
    · exact ⟨w, by omega, hwt, ht.trans he.symm, hm⟩
    · exact ⟨t, le_refl _, hl, rfl, hm⟩

theorem met_once {t r : ℕ} (hr : r < 256) (hl : t < total c) (ho : ¬ opens c t) (hm : mine c t r) : ¬ met c (t - 1) r := by
  have h0 : t ≠ 0 := fun e => ho (Or.inl e)
  have he : tile c t = tile c (t - 1) := by
    by_contra hne; exact ho (Or.inr hne)
  rintro ⟨w, hw, hwt, ht, hm'⟩
  have := mine_unique h hr hwt hl (ht.trans he.symm) hm' hm
  omega

/-- After the last item nothing is met any more. -/
theorem met_rests {t r : ℕ} (hl : ¬ t < total c) (h0 : t ≠ 0) : met c t r ↔ met c (t - 1) r := by
  have he := tile_stays (c := c) (w := t) (by omega) (by omega)
  constructor
  · rintro ⟨w, hw, hwt, ht, hm⟩
    exact ⟨w, by omega, hwt, ht.trans he, hm⟩
  · rintro ⟨w, hw, hwt, ht, hm⟩
    exact ⟨w, by omega, hwt, ht.trans he.symm, hm⟩

/-- Where a tile is left, every row of it has been met. -/
theorem met_flush {t r : ℕ} (hr : r < 256) (hf : t = 254 ∨ tile c (t + 1) ≠ tile c t) : met c t r := by
  have hlt := tile_lt h t
  obtain ⟨w, hw, ht, hb, _⟩ := owner h (256 * tile c t + r) (by omega)
  have ht' : tile c w = tile c t := by omega
  have hm : (256 * tile c t + r) % 256 = r := by omega
  have := (mask_iff h w (256 * tile c t + r) (by omega)).mpr hb
  rw [hm] at this
  refine ⟨w, ?_, hw, ht', this⟩
  have hle := total_le h
  by_contra hgt
  rcases hf with rfl | hne
  · omega
  · have a := tile_mono h (show t ≤ t + 1 by omega)
    have b := tile_mono h (show t + 1 ≤ w by omega)
    omega

open Classical in
/-- Every tile is left at some grid point. -/
theorem tile_left (T : ℕ) (hT : T < 192) : ∃ t < 255, tile c t = T ∧ (t = 254 ∨ tile c (t + 1) ≠ tile c t) := by
  obtain ⟨w, hw, ht, _⟩ := owner h (256 * T) (by omega)
  have hle := total_le h
  have hwT : tile c w = T := by omega
  have hg := Nat.findGreatest_spec (P := fun t => tile c t = T) (show w ≤ 254 by omega) hwT
  have hb := Nat.findGreatest_le (P := fun t => tile c t = T) 254
  refine ⟨Nat.findGreatest (fun t => tile c t = T) 254, by omega, hg, ?_⟩
  by_cases h4 : Nat.findGreatest (fun t => tile c t = T) 254 = 254
  · exact Or.inl h4
  · exact Or.inr fun e => Nat.findGreatest_is_greatest (P := fun t => tile c t = T) (Nat.lt_succ_self _) (by omega) (e.trans hg)

end Plan
-- ==== Proof.Tile.lean ====
/- Blocks of a rank-2 array, for the calls whose launch is one product (hand-written). -/
module

public import Idealize.ShloMosaic.Lib.Pointwise

@[expose] public section

namespace Cert.Proof.Tile

open Idealize.ShloMosaic

theorem zeros : (![0, 0] : Fin 2 → Nat) = fun _ => 0 := funext fun a => by fin_cases a <;> rfl

/-- An index is the pair of its coordinates. -/
theorem eq_ix2 {n0 n1 : ℕ} {y : (⟨2, ![n0, n1]⟩ : Shape).Idx} {a : Fin n0} {b : Fin n1} (h0 : (y 0).val = a.val) (h1 : (y 1).val = b.val) :
    y = ix2 a b := by
  funext d
  apply Fin.ext
  match d with
  | ⟨0, _⟩ => exact h0
  | ⟨1, _⟩ => exact h1

theorem zeros3 : (![0, 0, 0] : Fin 3 → Nat) = fun _ => 0 := funext fun a => by fin_cases a <;> rfl

/-- An index is the triple of its coordinates. -/
theorem eq_ix3 {n0 n1 n2 : ℕ} {y : (⟨3, ![n0, n1, n2]⟩ : Shape).Idx} {a : Fin n0} {b : Fin n1} {d : Fin n2} (h0 : (y 0).val = a.val)
    (h1 : (y 1).val = b.val) (h2 : (y 2).val = d.val) : y = ix3 a b d := by
  funext e
  apply Fin.ext
  match e with
  | ⟨0, _⟩ => exact h0
  | ⟨1, _⟩ => exact h1
  | ⟨2, _⟩ => exact h2

/-- Two functions of a rank-2 index agree when they agree at every pair. -/
theorem ext_ix2 {n0 n1 : ℕ} {α : Type} {f g : (⟨2, ![n0, n1]⟩ : Shape).Idx → α} (h : ∀ a b, f (ix2 a b) = g (ix2 a b)) : f = g :=
  funext fun y => by rw [eq_ix2 (y := y) (a := y 0) (b := y 1) rfl rfl]; exact h _ _

/-- The `p`th place of block `k` of `n` places. -/
theorem at_block {k n p j : ℕ} (h : k = j) : k * n + 1 * p = n * j + p := by
  rw [h, Nat.mul_comm, Nat.one_mul]

/-- The same where the one block is the whole axis. -/
theorem at_whole {k n p : ℕ} (h : k = 0) : k * n + 1 * p = p := by
  rw [h, Nat.zero_mul, Nat.zero_add, Nat.one_mul]

/-- A place lies in the block its quotient names. -/
theorem in_block {k n i : ℕ} (hn : 0 < n) (h : k = i / n) : k * n ≤ i ∧ i < k * n + n := by
  subst h
  have := Nat.div_add_mod i n
  have := Nat.mod_lt i hn
  rw [Nat.mul_comm]
  omega

end Cert.Proof.Tile
-- ==== Proof.ItemsBlocks.lean ====
/- What the routed experts' kernel reads through its blocks: the rows of a tile, the matrices of an expert (hand-written). -/
module

public import proofs.«01_k».proof.Proof.ItemsGoal
public import proofs.«01_k».proof.Proof.ItemsSum
public import proofs.«01_k».proof.Proof.Tile

@[expose] public section

set_option maxRecDepth 16384

noncomputable section

namespace Cert.Proof.Routed

open Idealize.ShloMosaic Idealize.ShloMosaic.TcCoe Idealize.SL.Sem Cert.KernelIdeal Cert.KernelIdeal.Gen Cert.KernelIdeal.Items
open Idealize.ShloMosaic.Pipeline (Dat)

variable (m : (ℓ : Loc nD τ sig) → Buf (Elt Ideal) ℓ) {n : ℕ → ℕ} (hP : Planned (tbl m) n) (c : Dev nD)

/-- Row `r` of tile `T` in the whole array. -/
def row (T : Fin 192) (r : Fin 256) : Fin 49152 := ⟨256 * T.val + r.val, by have := T.isLt; have := r.isLt; omega⟩

/-- The tile and the expert of a grid point, in range. -/
def tileF (t : ℕ) : Fin 192 := ⟨Plan.tile n t, Plan.tile_lt hP.sum t⟩
def ownF (t : ℕ) : Fin 64 := ⟨Plan.own n t, (Plan.own_spec hP.sum t).1⟩

/-! ## Where the blocks sit -/

/-- An array of rows read through a block of 256 rows: the rows of the point's tile. -/
theorem rows_block0 (a : (pcfg0 (F := Ideal)).Adm) (h : Planned a.1 n) (G : S49152x2048.Idx → EReal) (t : Fin (cfg0 a).N) (T : Fin 192)
    (hT : Plan.tile n ((cfg0 a).grid.coords t 0) = T.val) (r : Fin 256) (i : Fin 2048) :
    ((((cfg0 a).win 0).blk t).view.read (Elt Ideal) G : Vec Ideal S256x2048 .f32) (ix2 r i) = G (ix2 (row T r) i) :=
  (View.read_apply ..).trans (congrArg G (Tile.eq_ix2
    (Tile.at_block ((congrFun (rows_index h ((cfg0 a).grid.coords t)) 0).trans hT))
    (Tile.at_whole (congrFun (rows_index h ((cfg0 a).grid.coords t)) 1))))

theorem rows_block4 (a : (pcfg0 (F := Ideal)).Adm) (h : Planned a.1 n) (G : S49152x2048.Idx → EReal) (t : Fin (cfg0 a).N) (T : Fin 192)
    (hT : Plan.tile n ((cfg0 a).grid.coords t 0) = T.val) (r : Fin 256) (i : Fin 2048) :
    ((((cfg0 a).win 4).blk t).view.read (Elt Ideal) G : Vec Ideal S256x2048 .f32) (ix2 r i) = G (ix2 (row T r) i) :=
  rows_block0 a h G t T hT r i

/-- The place of entry `(i, k)` of an expert's block in the whole weight. -/
theorem expert_place {A B : ℕ} {y : (⟨4, ![2, 64, A, B]⟩ : Shape).Idx} {f : Fin 4 → ℕ} {e : Fin 64} {i : Fin A} {k : Fin B}
    (q : f = ![0, e.val, 0, 0]) (h0 : (y 0).val = f 0 * 1 + 1 * 0) (h1 : (y 1).val = f 1 * 1 + 1 * 0)
    (h2 : (y 2).val = f 2 * A + 1 * i.val) (h3 : (y 3).val = f 3 * B + 1 * k.val) : y = ix4 0 e i k := by
  subst q
  funext b
  apply Fin.ext
  match b with
  | ⟨0, _⟩ => exact h0.trans (Tile.at_whole rfl)
  | ⟨1, _⟩ => exact h1.trans (Nat.mul_one _)
  | ⟨2, _⟩ => exact h2.trans (Tile.at_whole rfl)
  | ⟨3, _⟩ => exact h3.trans (Tile.at_whole rfl)

/-- A weight read through the block of one expert: the matrix of the point's expert. -/
theorem expert_block1 (a : (pcfg0 (F := Ideal)).Adm) (h : Planned a.1 n) (G : S2x64x2048x512.Idx → EReal) (t : Fin (cfg0 a).N) (e : Fin 64)
    (he : Plan.own n ((cfg0 a).grid.coords t 0) = e.val) (i : Fin 2048) (k : Fin 512) :
    ((((cfg0 a).win 1).blk t).view.read (Elt Ideal) G : Vec Ideal S1x1x2048x512 .f32) (ix4 0 0 i k) = G (ix4 0 e i k) :=
  (View.read_apply ..).trans (congrArg G (expert_place
    ((expert_index h ((cfg0 a).grid.coords t)).trans (congrArg (fun x => ![0, x, 0, 0]) he)) rfl rfl rfl rfl))

theorem expert_block2 (a : (pcfg0 (F := Ideal)).Adm) (h : Planned a.1 n) (G : S2x64x2048x512.Idx → EReal) (t : Fin (cfg0 a).N) (e : Fin 64)
    (he : Plan.own n ((cfg0 a).grid.coords t 0) = e.val) (i : Fin 2048) (k : Fin 512) :
    ((((cfg0 a).win 2).blk t).view.read (Elt Ideal) G : Vec Ideal S1x1x2048x512 .f32) (ix4 0 0 i k) = G (ix4 0 e i k) :=
  expert_block1 a h G t e he i k

theorem expert_block3 (a : (pcfg0 (F := Ideal)).Adm) (h : Planned a.1 n) (G : S2x64x512x2048.Idx → EReal) (t : Fin (cfg0 a).N) (e : Fin 64)
    (he : Plan.own n ((cfg0 a).grid.coords t 0) = e.val) (i : Fin 512) (k : Fin 2048) :
    ((((cfg0 a).win 3).blk t).view.read (Elt Ideal) G : Vec Ideal S1x1x512x2048 .f32) (ix4 0 0 i k) = G (ix4 0 e i k) :=
  (View.read_apply ..).trans (congrArg G (expert_place
    ((expert_index h ((cfg0 a).grid.coords t)).trans (congrArg (fun x => ![0, x, 0, 0]) he)) rfl rfl rfl rfl))

/-! ## The inputs' blocks -/

theorem tile_at (t : Fin (cfgM m hP).N) : Plan.tile n ((cfgM m hP).grid.coords t 0) = (tileF m hP t.val).val :=
  congrArg (Plan.tile n) (coord_val m hP t)
theorem own_at (t : Fin (cfgM m hP).N) : Plan.own n ((cfgM m hP).grid.coords t 0) = (ownF m hP t.val).val :=
  congrArg (Plan.own n) (coord_val m hP t)

/-- The activations' block at a point: the rows of its tile. -/
theorem block0 (t : Fin (cfgM m hP).N) (r : Fin 256) (i : Fin 2048) :
    (iblk m hP c 0 t : Vec Ideal S256x2048 .f32) (ix2 r i) = m ((c : Thread nD τ).loc main_arg0) (ix2 (row (tileF m hP t.val) r) i) := by
  unfold iblk
  exact (rows_block0 (adm m hP) hP _ t _ (tile_at m hP t) r i).trans (congrFun (V_args m c).1 _)
/-- The weights' blocks at a point: the matrices of its expert. -/
theorem block1 (t : Fin (cfgM m hP).N) (i : Fin 2048) (k : Fin 512) :
    (iblk m hP c 1 t : Vec Ideal S1x1x2048x512 .f32) (ix4 0 0 i k) = m ((c : Thread nD τ).loc main_arg2) (ix4 0 (ownF m hP t.val) i k) := by
  unfold iblk
  exact (expert_block1 (adm m hP) hP _ t _ (own_at m hP t) i k).trans (congrFun (V_args m c).2.2.1 _)
theorem block2 (t : Fin (cfgM m hP).N) (i : Fin 2048) (k : Fin 512) :
    (iblk m hP c 2 t : Vec Ideal S1x1x2048x512 .f32) (ix4 0 0 i k) = m ((c : Thread nD τ).loc main_arg3) (ix4 0 (ownF m hP t.val) i k) := by
  unfold iblk
  exact (expert_block2 (adm m hP) hP _ t _ (own_at m hP t) i k).trans (congrFun (V_args m c).2.2.2.1 _)
theorem block3 (t : Fin (cfgM m hP).N) (k : Fin 512) (l : Fin 2048) :
    (iblk m hP c 3 t : Vec Ideal S1x1x512x2048 .f32) (ix4 0 0 k l) = m ((c : Thread nD τ).loc main_arg4) (ix4 0 (ownF m hP t.val) k l) := by
  unfold iblk
  exact (expert_block3 (adm m hP) hP _ t _ (own_at m hP t) k l).trans (congrFun (V_args m c).2.2.2.2 _)

end Cert.Proof.Routed

end
-- ==== Proof.ItemsArray.lean ====
/- What the routed experts' result array holds after the kernel's run (hand-written). -/
module

public import proofs.«01_k».proof.Proof.ItemsBlocks

@[expose] public section

set_option maxRecDepth 16384

noncomputable section

namespace Cert.Proof.Routed

open Idealize.ShloMosaic Idealize.ShloMosaic.TcCoe Idealize.SL.Sem Cert.KernelIdeal Cert.KernelIdeal.Gen Cert.KernelIdeal.Items
open Idealize.ShloMosaic.Pipeline (Dat)

variable (m : (ℓ : Loc nD τ sig) → Buf (Elt Ideal) ℓ) {n : ℕ → ℕ} (hP : Planned (tbl m) n) (c : Dev nD)

/-- The result the kernel is to leave: the reference's function of the five arguments. -/
abbrev goal : S49152x2048.Idx → EReal :=
  mix (m ((c : Thread nD τ).loc main_arg0)) (gatesOf (m ((c : Thread nD τ).loc main_arg1))) (m ((c : Thread nD τ).loc main_arg2))
    (m ((c : Thread nD τ).loc main_arg3)) (m ((c : Thread nD τ).loc main_arg4))

variable (hx : ∀ e : Fin 64, counts m c (ValueIdx.ix1 e) = BitVec.ofNat 32 (n e.val))

include hx in
/-- An item's share at an entry: the goal's entry at the item's own rows, zero at the others. -/
theorem share_goal (t : Fin (cfgM m hP).N) (r : Fin 256) (l : Fin 2048) [Decidable (Plan.mine n t.val r.val)] :
    share m hP c t (ix2 r l) = if Plan.mine n t.val r.val then goal m c (ix2 (row (tileF m hP t.val) r) l) else 0 := by
  have hlo : Plan.lo n t.val < 2 ^ 31 := by
    have := Plan.upto_mono n (show Plan.own n t.val ≤ 64 from (Plan.own_spec hP.sum t.val).1.le)
    have hs := hP.sum
    unfold Plan.lo; omega
  have hhi : Plan.hi n t.val < 2 ^ 31 := by unfold Plan.hi; omega
  have wl : lowW (tbl m) ((cfgM m hP).grid.coords t) = BitVec.ofNat 32 (Plan.lo n t.val) :=
    (low_word hP _).trans (congrArg (fun k => BitVec.ofNat 32 (Plan.lo n k)) (coord_val m hP t))
  have wh : highW (tbl m) ((cfgM m hP).grid.coords t) = BitVec.ofNat 32 (Plan.hi n t.val) :=
    (high_word hP _).trans (congrArg (fun k => BitVec.ofNat 32 (Plan.hi n k)) (coord_val m hP t))
  unfold share
  rw [wl, wh]
  refine (share_entry _ hlo hhi _ _ _ r l).trans ?_
  simp only [block0, block1, block2, block3]
  by_cases hm : Plan.mine n t.val r.val
  · rw [if_pos hm]
    refine (if_pos hm).trans ?_
    refine (mix_own hx hP.sum _ _ _ _ (row (tileF m hP t.val) r) l (ownF m hP t.val) ?_).symm
    have hd : (256 * Plan.tile n t.val + r.val) / 256 = Plan.tile n t.val := by have := r.isLt; omega
    have hr : (256 * Plan.tile n t.val + r.val) % 256 = r.val := by have := r.isLt; omega
    exact (Plan.mask_iff hP.sum t.val _ hd).mp (by rw [hr]; exact hm)
  · rw [if_neg hm]
    exact if_neg hm

open Classical in
include hx in
/-- What the block holds after a point: the goal's rows of the tile that have been met, zero at the others. -/
theorem held_goal (r : Fin 256) (l : Fin 2048) : ∀ (k : ℕ) (hk : k < (cfgM m hP).N), held m hP c k (ix2 r l) =
    if Plan.met n k r.val then goal m c (ix2 (row (tileF m hP k) r) l) else 0 := by
  intro k
  induction k with
  | zero =>
    intro hk
    have hl := Plan.total_pos hP.sum
    rw [held_opens m hP c ⟨0, hk⟩ hl (Or.inl rfl), share_goal m hP c hx]
    exact if_congr (Plan.met_opens hP.sum hl (Or.inl rfl)).symm rfl rfl
  | succ k ih =>
    intro hk
    have ih := ih (by omega)
    by_cases hl : k + 1 < Plan.total n
    · by_cases ho : Plan.opens n (k + 1)
      · rw [held_opens m hP c ⟨k + 1, hk⟩ hl ho, share_goal m hP c hx]
        exact if_congr (Plan.met_opens hP.sum hl ho).symm rfl rfl
      · have he : tileF m hP (k + 1) = tileF m hP k := by
          refine Fin.ext ?_
          by_contra hne
          exact ho (Or.inr hne)
        rw [held_adds m hP c ⟨k + 1, hk⟩ hl ho, add_entry]
        show held m hP c k (ix2 r l) + share m hP c ⟨k + 1, hk⟩ (ix2 r l) = _
        rw [ih, share_goal m hP c hx, he]
        have ha := Plan.met_adds (r := r.val) hP.sum hl ho
        have hb := Plan.met_once hP.sum r.isLt hl ho
        rw [Nat.add_sub_cancel] at ha hb
        by_cases hm : Plan.mine n (k + 1) r.val
        · rw [if_neg (hb hm), if_pos hm, if_pos (ha.mpr (Or.inr hm)), zero_add]
        · rw [if_neg hm, add_zero]
          exact if_congr ((or_iff_left hm).symm.trans ha.symm) rfl rfl
    · have he : tileF m hP (k + 1) = tileF m hP k := Fin.ext (Plan.tile_stays (c := n) (w := k + 1) (by omega) (by omega))
      rw [held_succ m hP c (k + 1) (by omega) hl, he]
      exact ih.trans (if_congr (Plan.met_rests hP.sum hl (by omega)).symm rfl rfl)

include hx in
/-- What a point writes back is its block of the goal. -/
theorem flushed_eq (t : Fin (cfgM m hP).N) (hf : ((cfgM m hP).win 4).flush t = true) :
    (dats m hP 0 c).flushed 4 t = (((cfgM m hP).win 4).blk t).view.read (Elt Ideal) (goal m c) := by
  show (dats m hP 0 c).after 4 t = _
  rw [after_4]
  funext j
  obtain ⟨r, l, rfl⟩ : ∃ (r : Fin 256) (l : Fin 2048), j = ix2 r l := ⟨j 0, j 1, by funext a; fin_cases a <;> rfl⟩
  refine Eq.trans ?_ (rows_block4 (adm m hP) hP (goal m c) t _ (tile_at m hP t) r l).symm
  classical
  rw [held_goal m hP c hx r l t.val t.isLt]
  exact if_pos (Plan.met_flush hP.sum r.isLt ((flush_4 m hP t).mp hf))

/-- An entry lies in the block of a point whose tile its row falls to. -/
theorem mem_block (a : (pcfg0 (F := Ideal)).Adm) (h : Planned a.1 n) (t : Fin (cfg0 a).N) (i : S49152x2048.Idx)
    (hT : Plan.tile n ((cfg0 a).grid.coords t 0) = (i 0 : Nat) / 256) : i ∈ (((cfg0 a).win 4).blk t).view.set := by
  have h0 : (i 0 : Nat) < 49152 := (i 0).isLt
  have h1 : (i 1 : Nat) < 2048 := (i 1).isLt
  have e := rows_index h ((cfg0 a).grid.coords t)
  rw [hT] at e
  have sl : ∀ R : Rect S49152x2048, i ∈ ((View.whole main_v68).slice R).set ↔ i ∈ R.set := fun R => by rw [View.set_slice_whole]
  refine (sl _).mpr ((Rect.mem_set_unit ..).mpr ?_)
  intro b
  match b with
  | ⟨0, _⟩ =>
    show cc0_transform_0 k0_off1_inb numel1_S1 a.1 ((cfg0 a).grid.coords t) 0 * 256 ≤ (i 0 : Nat)
      ∧ (i 0 : Nat) < cc0_transform_0 k0_off1_inb numel1_S1 a.1 ((cfg0 a).grid.coords t) 0 * 256 + 256
    rw [e]; show (i 0 : Nat) / 256 * 256 ≤ (i 0 : Nat) ∧ (i 0 : Nat) < (i 0 : Nat) / 256 * 256 + 256; omega
  | ⟨1, _⟩ =>
    show cc0_transform_0 k0_off1_inb numel1_S1 a.1 ((cfg0 a).grid.coords t) 1 * 2048 ≤ (i 1 : Nat)
      ∧ (i 1 : Nat) < cc0_transform_0 k0_off1_inb numel1_S1 a.1 ((cfg0 a).grid.coords t) 1 * 2048 + 2048
    rw [e]; show 0 * 2048 ≤ (i 1 : Nat) ∧ (i 1 : Nat) < 0 * 2048 + 2048; omega

/-- Every entry of the result lies in a block that is written back. -/
theorem cover (i : S49152x2048.Idx) :
    ∃ t : Fin (cfgM m hP).N, ((cfgM m hP).win 4).flush t = true ∧ i ∈ (((cfgM m hP).win 4).blk t).view.set := by
  have h0 : (i 0 : Nat) < 49152 := (i 0).isLt
  obtain ⟨t, ht, hT, hf⟩ := Plan.tile_left hP.sum ((i 0 : Nat) / 256) (by omega)
  have hN := N_eq m hP
  refine ⟨⟨t, by rw [hN]; exact ht⟩, (flush_4 m hP _).mpr hf, ?_⟩
  exact mem_block (adm m hP) hP _ i ((tile_at m hP _).trans hT)

include hx in
/-- The result array ends holding the reference's function of the arguments. -/
theorem final : (dats m hP 0 c).arrAt 4 (cfgM m hP).N = goal m c :=
  (dats m hP 0 c).arrAt_eq_of_cover 4 (goal m c) (fun t hf => flushed_eq m hP c hx t hf) (cover m hP)

end Cert.Proof.Routed

end
-- ==== Proof.SharedBlock.lean ====
/- What one block of the shared expert's kernel computes, entry by entry (hand-written). -/
module

public import proofs.«01_k».proof.Proof.Gen.Kernel2Ideal.Skeleton
public import Idealize.ShloMosaic.Lib.Pointwise

@[expose] public section

noncomputable section

namespace Cert.Proof.Shared

open Idealize.ShloMosaic Cert.Kernel2Ideal Cert.Kernel2Ideal.Gen

/-- The gated hidden unit `silu(x · wg) * (x · wu)` of one row of activations and one column of the two weights. -/
def hidden {K : ℕ} (x wg wu : Fin K → EReal) : EReal :=
  (∑ i, x i * wg i) * Ideal.logistic (∑ i, x i * wg i) * (∑ i, x i * wu i)

/-- The block's payload at an entry: the gated hidden units of the row, contracted with the down projection's column. -/
theorem pay_apply (v0 : Vec Ideal S256x2048 .f32) (v2 v5 : Vec Ideal S2048x512 .f32) (v12 : Vec Ideal S512x2048 .f32)
    (r : Fin 256) (l : Fin 2048) :
    k0_pay1 (F := Ideal) v0 v2 v5 v12 (ix2 r l) =
      ∑ k : Fin 512, hidden (fun i : Fin 2048 => v0 (ix2 r i)) (fun i => v2 (ix2 i k)) (fun i => v5 (ix2 i k)) * v12 (ix2 k l) := by
  pointwise [k0_pay1, hidden]

end Cert.Proof.Shared

end
-- ==== Proof.SharedRef.lean ====
/- What the reference of the shared expert computes, entry by entry (hand-written). -/
module

public import proofs.«01_k».proof.Proof.Gen.Reference2Ideal.Run
public import proofs.«01_k».proof.Proof.SharedBlock
public import Idealize.ShloMosaic.Lib.IdealHost

@[expose] public section

noncomputable section

namespace Cert.Proof.Shared

open Idealize.ShloMosaic Cert.Reference2Ideal Cert.Reference2Ideal.Gen

/-- The shared expert as one function of its four arguments: the reference's composed term. -/
def whole (x : FVec Ideal S8192x2048 .f32) (wg wu : FVec Ideal S2048x512 .f32) (wd : FVec Ideal S512x2048 .f32) :
    FVec Ideal S8192x2048 .f32 :=
  Host.dotGeneral dot_S8192x512_S512x2048_S8192x2048_1_0_0_1_n_n none
    (mulf (mulf (Host.dotGeneral dot_S8192x2048_S2048x512_S8192x512_1_0_0_1_n_n none x wg)
      (Host.divf (broadcastInDim S8192x512 ![] bcast_S_S8192x512 (constant S_ .f32 0x3F800000#32))
        (addf (broadcastInDim S8192x512 ![] bcast_S_S8192x512 (constant S_ .f32 0x3F800000#32))
          (Host.exp (Host.negf (Host.dotGeneral dot_S8192x2048_S2048x512_S8192x512_1_0_0_1_n_n none x wg))))))
      (Host.dotGeneral dot_S8192x2048_S2048x512_S8192x512_1_0_0_1_n_n none x wu)) wd

/-- The reference at an entry: the same sum of gated hidden units the kernel's block computes. -/
theorem whole_apply (x : FVec Ideal S8192x2048 .f32) (wg wu : FVec Ideal S2048x512 .f32) (wd : FVec Ideal S512x2048 .f32)
    (r : Fin 8192) (l : Fin 2048) :
    whole x wg wu wd (ix2 r l) =
      ∑ k : Fin 512, hidden (fun i : Fin 2048 => x (ix2 r i)) (fun i => wg (ix2 i k)) (fun i => wu (ix2 i k)) * wd (ix2 k l) := by
  pointwise [whole, hidden, Ideal.logistic, Ideal.ofBits_one_f32]

end Cert.Proof.Shared

end
-- ==== Proof.SharedArray.lean ====
/- What the shared expert's result array holds after the kernel's run (hand-written). -/
module

public import proofs.«01_k».proof.Proof.Gen.Kernel2Ideal.Value
public import proofs.«01_k».proof.Proof.SharedRef

@[expose] public section

noncomputable section

namespace Cert.Proof.Shared

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

theorem zeros : (![0, 0] : Fin 2 → Nat) = fun _ => 0 := funext fun a => by fin_cases a <;> rfl

/-- The result the kernel is to leave: the reference's function of the four arguments. -/
abbrev goal : Buf (Elt Ideal) ((c : Thread nD τ).loc main_v0) :=
  whole (m ((c : Thread nD τ).loc main_arg0)) (m ((c : Thread nD τ).loc main_arg1)) (m ((c : Thread nD τ).loc main_arg2))
    (m ((c : Thread nD τ).loc main_arg3))

/-- Where each window's block sits: the activations' and the result's rows move with the point, the weights stay. -/
theorem index_facts : ∀ t : Fin grid0.N,
    (win0_0.index t 0 = t.val ∧ win0_0.index t 1 = 0) ∧ (win0_4.index t 0 = t.val ∧ win0_4.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) := by
  decide +kernel

/-- Row `256 t + r` of the whole array, in range. -/
def row (t : Fin cfg0.N) (r : Fin 256) : Fin 8192 :=
  ⟨256 * t.val + r.val, by have := t.isLt; have : cfg0.N = 32 := N_0; have := r.isLt; omega⟩

/-- The activations' block at point `t` is rows `256 t …` of the argument. -/
theorem block0 (t : Fin cfg0.N) (r : Fin 256) (i : Fin 2048) :
    (iblk m c 0 t : Vec Ideal S256x2048 .f32) (ix2 r i) = m ((c : Thread nD τ).loc main_arg0) (ix2 (row t r) i) := by
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * t.val + r.val; rw [(index_facts t).1.1]; omega
  | ⟨1, _⟩ => show win0_0.index t 1 * 2048 + 1 * i.val = i.val; rw [(index_facts t).1.2]; omega

/-- The gate weight's block at any point is the whole argument. -/
theorem block1 (t : Fin cfg0.N) (i : Fin 2048) (k : Fin 512) :
    (iblk m c 1 t : Vec Ideal S2048x512 .f32) (ix2 i k) = m ((c : Thread nD τ).loc main_arg1) (ix2 i k) := by
  unfold iblk
  rw [View.read_apply]
  show V m c main_arg1 _ = m (c.tc.loc main_arg1) _
  unfold V
  congr 1
  funext a
  apply Fin.ext
  match a with
  | ⟨0, _⟩ => show win0_1.index t 0 * 2048 + 1 * i.val = i.val; rw [(index_facts t).2.2.1.1]; omega
  | ⟨1, _⟩ => show win0_1.index t 1 * 512 + 1 * k.val = k.val; rw [(index_facts t).2.2.1.2]; omega

/-- The up weight's block at any point is the whole argument. -/
theorem block2 (t : Fin cfg0.N) (i : Fin 2048) (k : Fin 512) :
    (iblk m c 2 t : Vec Ideal S2048x512 .f32) (ix2 i k) = m ((c : Thread nD τ).loc main_arg2) (ix2 i k) := by
  unfold iblk
  rw [View.read_apply]
  show V m c main_arg2 _ = m (c.tc.loc main_arg2) _
  unfold V
  congr 1
  funext a
  apply Fin.ext
  match a with
  | ⟨0, _⟩ => show win0_2.index t 0 * 2048 + 1 * i.val = i.val; rw [(index_facts t).2.2.2.1.1]; omega
  | ⟨1, _⟩ => show win0_2.index t 1 * 512 + 1 * k.val = k.val; rw [(index_facts t).2.2.2.1.2]; omega

/-- The down weight's block at any point is the whole argument. -/
theorem block3 (t : Fin cfg0.N) (k : Fin 512) (l : Fin 2048) :
    (iblk m c 3 t : Vec Ideal S512x2048 .f32) (ix2 k l) = m ((c : Thread nD τ).loc main_arg3) (ix2 k l) := by
  unfold iblk
  rw [View.read_apply]
  show V m c main_arg3 _ = m (c.tc.loc main_arg3) _
  unfold V
  congr 1
  funext a
  apply Fin.ext
  match a with
  | ⟨0, _⟩ => show win0_3.index t 0 * 512 + 1 * k.val = k.val; rw [(index_facts t).2.2.2.2.1]; omega
  | ⟨1, _⟩ => show win0_3.index t 1 * 2048 + 1 * l.val = l.val; rw [(index_facts t).2.2.2.2.2]; omega

/-- An array read through the result's block at point `t`: rows `256 t …`. -/
theorem result_block (G : S8192x2048.Idx → EReal) (t : Fin cfg0.N) (r : Fin 256) (l : Fin 2048) :
    (((cfg0.win 4).blk t).view.read (Elt Ideal) G : Vec Ideal S256x2048 .f32) (ix2 r l) = G (ix2 (row t r) l) := by
  rw [View.read_apply]
  show G _ = G _
  congr 1
  funext a
  apply Fin.ext
  match a with
  | ⟨0, _⟩ => show win0_4.index t 0 * 256 + 1 * r.val = 256 * t.val + r.val; rw [(index_facts t).2.1.1]; omega
  | ⟨1, _⟩ => show win0_4.index t 1 * 2048 + 1 * l.val = l.val; rw [(index_facts t).2.1.2]; omega

/-- What point `t` writes back is its block of the goal. -/
theorem flushed_eq (t : Fin cfg0.N) :
    (dats m 0 c).flushed 4 t = ((cfg0.win 4).blk t).view.read (Elt Ideal) (goal m c) := by
  rw [Cert.Kernel2Ideal.Value.flushed4]
  show (out0_4 (iblk m c 0 t) (iblk m c 1 t) (iblk m c 2 t) (iblk m c 3 t) : Vec Ideal S256x2048 .f32) = _
  unfold out0_4
  rw [View.canon_unit_zero zeros, View.ld_unit_zero zeros, View.ld_unit_zero zeros, View.ld_unit_zero zeros, View.ld_unit_zero zeros]
  funext j
  obtain ⟨r, l, rfl⟩ : ∃ (r : Fin 256) (l : Fin 2048), j = ix2 r l := ⟨j 0, j 1, by funext a; fin_cases a <;> rfl⟩
  refine Eq.trans (pay_apply _ _ _ _ r l) (Eq.trans ?_ (result_block (goal m c) t r l).symm)
  refine Eq.trans ?_ (whole_apply _ _ _ _ (row t r) l).symm
  simp only [block0, block1, block2, block3]

/-- Every entry of the result lies in the block of the point its row falls to. -/
theorem cover (i : S8192x2048.Idx) :
    ∃ t : Fin cfg0.N, (cfg0.win 4).flush t = true ∧ i ∈ ((cfg0.win 4).blk t).view.set := by
  have h0 : (i 0 : Nat) < 8192 := (i 0).isLt
  have h1 : (i 1 : Nat) < 2048 := (i 1).isLt
  have hN : cfg0.N = 32 := N_0
  have ht : (i 0 : Nat) / 256 < cfg0.N := by omega
  refine ⟨⟨(i 0 : Nat) / 256, ht⟩, flush0_4 _, ?_⟩
  show i ∈ ((View.whole main_v0).slice (win0_4.rect ⟨(i 0 : Nat) / 256, ht⟩)).set
  rw [View.set_slice_whole, Rect.mem_set_unit]
  have e := (index_facts ⟨(i 0 : Nat) / 256, ht⟩).2.1
  intro a
  match a with
  | ⟨0, _⟩ =>
    show win0_4.index ⟨(i 0 : Nat) / 256, ht⟩ 0 * 256 ≤ (i 0 : Nat) ∧ (i 0 : Nat) < win0_4.index ⟨(i 0 : Nat) / 256, ht⟩ 0 * 256 + 256
    rw [e.1]; dsimp only; omega
  | ⟨1, _⟩ =>
    show win0_4.index ⟨(i 0 : Nat) / 256, ht⟩ 1 * 2048 ≤ (i 1 : Nat) ∧ (i 1 : Nat) < win0_4.index ⟨(i 0 : Nat) / 256, ht⟩ 1 * 2048 + 2048
    rw [e.2]; omega

/-- The result array ends holding the reference's function of the arguments. -/
theorem final : (dats m 0 c).arrAt 4 cfg0.N = goal m c :=
  (dats m 0 c).arrAt_eq_of_cover 4 (goal m c) (fun t _ => flushed_eq m c t) cover

end Cert.Proof.Shared

end
-- ==== Proof.Projection.lean ====
/- The projection: what its blocks compute, and what its result array holds after the run (hand-written). -/
module

public import proofs.«01_k».proof.Proof.Gen.Kernel3Ideal.Value
public import proofs.«01_k».proof.Proof.Gen.Reference3Ideal.Run
public import Idealize.ShloMosaic.Lib.Pointwise
public import Idealize.ShloMosaic.Lib.IdealHost

@[expose] public section

noncomputable section

namespace Cert.Proof.Projection

open Idealize.ShloMosaic Idealize.ShloMosaic.TcCoe Idealize.SL.Sem Cert.Kernel3Ideal Cert.Kernel3Ideal.Gen
open Idealize.ShloMosaic.Pipeline (Dat)

/-- The block's payload at an entry: the row of activations contracted with the weight's column. -/
theorem pay_apply (v0 : Vec Ideal S1024x2048 .bf16) (v2 : Vec Ideal S2048x512 .f32) (r : Fin 1024) (l : Fin 512) :
    k0_pay1 (F := Ideal) v0 v2 (ix2 r l) = ∑ k : Fin 2048, v0 (ix2 r k) * v2 (ix2 k l) := by
  pointwise [k0_pay1]

/-- The projection as one function of its two arguments: the reference's term. -/
def whole (x : FVec Ideal S8192x2048 .bf16) (w : FVec Ideal S2048x2048 .f32) : FVec Ideal S8192x2048 .f32 :=
  Host.dotGeneral Cert.Reference3Ideal.dot_S8192x2048_S2048x2048_S8192x2048_1_0_0_1_n_n none x w

/-- The reference at an entry: the same contraction. -/
theorem whole_apply (x : FVec Ideal S8192x2048 .bf16) (w : FVec Ideal S2048x2048 .f32) (r : Fin 8192) (l : Fin 2048) :
    whole x w (ix2 r l) = ∑ k : Fin 2048, x (ix2 r k) * w (ix2 k l) := by
  pointwise [whole]

variable (m : (ℓ : Loc nD τ sig) → Buf (Elt Ideal) ℓ) (c : Dev nD)

theorem zeros : (![0, 0] : Fin 2 → Nat) = fun _ => 0 := funext fun a => by fin_cases a <;> rfl

/-- The result the kernel is to leave: the reference's function of the arguments. -/
abbrev goal : Buf (Elt Ideal) ((c : Thread nD τ).loc main_v0) :=
  whole (m ((c : Thread nD τ).loc main_arg0)) (m ((c : Thread nD τ).loc main_arg1))

/-- Where each window's block sits: the points run over the eight row blocks within each of the four column blocks. -/
theorem index_facts : ∀ t : Fin grid0.N,
    (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) := by
  decide +kernel

/-- Row `1024 (t % 8) + r` of the whole array, in range. -/
def row (t : Fin cfg0.N) (r : Fin 1024) : Fin 8192 :=
  ⟨1024 * (t.val % 8) + r.val, by have := r.isLt; omega⟩

/-- Column `512 (t / 8) + l` of the whole array, in range. -/
def col (t : Fin cfg0.N) (l : Fin 512) : Fin 2048 :=
  ⟨512 * (t.val / 8) + l.val, by have := t.isLt; have : cfg0.N = 32 := N_0; have := l.isLt; omega⟩

/-- The activations' block at point `t` is its row block of the argument. -/
theorem block0 (t : Fin cfg0.N) (r : Fin 1024) (k : Fin 2048) :
    (iblk m c 0 t : Vec Ideal S1024x2048 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val % 8) + r.val; rw [(index_facts t).1.1]; omega
  | ⟨1, _⟩ => show win0_0.index t 1 * 2048 + 1 * k.val = k.val; rw [(index_facts t).1.2]; omega

/-- The weight's block at point `t` is its column block of the argument. -/
theorem block1 (t : Fin cfg0.N) (k : Fin 2048) (l : Fin 512) :
    (iblk m c 1 t : Vec Ideal S2048x512 .f32) (ix2 k l) = m ((c : Thread nD τ).loc main_arg1) (ix2 k (col t l)) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [(index_facts t).2.1.1]; omega
  | ⟨1, _⟩ => show win0_1.index t 1 * 512 + 1 * l.val = 512 * (t.val / 8) + l.val; rw [(index_facts t).2.1.2]; omega

/-- An array read through the result's block at point `t`. -/
theorem result_block (G : S8192x2048.Idx → EReal) (t : Fin cfg0.N) (r : Fin 1024) (l : Fin 512) :
    (((cfg0.win 2).blk t).view.read (Elt Ideal) G : Vec Ideal S1024x512 .f32) (ix2 r l) = G (ix2 (row t r) (col t l)) := by
  rw [View.read_apply]
  show G _ = G _
  congr 1
  funext a
  apply Fin.ext
  match a with
  | ⟨0, _⟩ => show win0_2.index t 0 * 1024 + 1 * r.val = 1024 * (t.val % 8) + r.val; rw [(index_facts t).2.2.1]; omega
  | ⟨1, _⟩ => show win0_2.index t 1 * 512 + 1 * l.val = 512 * (t.val / 8) + l.val; rw [(index_facts t).2.2.2]; omega

/-- What point `t` writes back is its block of the goal. -/
theorem flushed_eq (t : Fin cfg0.N) :
    (dats m 0 c).flushed 2 t = ((cfg0.win 2).blk t).view.read (Elt Ideal) (goal m c) := by
  rw [Cert.Kernel3Ideal.Value.flushed2]
  show (out0_2 (iblk m c 0 t) (iblk m c 1 t) : Vec Ideal S1024x512 .f32) = _
  unfold out0_2
  rw [View.canon_unit_zero zeros, View.ld_unit_zero zeros, View.ld_unit_zero zeros]
  funext j
  obtain ⟨r, l, rfl⟩ : ∃ (r : Fin 1024) (l : Fin 512), j = ix2 r l := ⟨j 0, j 1, by funext a; fin_cases a <;> rfl⟩
  refine Eq.trans (pay_apply _ _ r l) (Eq.trans ?_ (result_block (goal m c) t r l).symm)
  refine Eq.trans ?_ (whole_apply _ _ (row t r) (col t l)).symm
  simp only [block0, block1]

/-- Every entry of the result lies in the block of the point its row and column fall to. -/
theorem cover (i : S8192x2048.Idx) :
    ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 32 := N_0
  obtain ⟨n, hn⟩ : ∃ n, n = 8 * ((i 1 : Nat) / 512) + (i 0 : Nat) / 1024 := ⟨_, rfl⟩
  have ht : n < cfg0.N := by omega
  refine ⟨⟨n, ht⟩, flush0_2 _, ?_⟩
  show i ∈ ((View.whole main_v0).slice (win0_2.rect ⟨n, ht⟩)).set
  rw [View.set_slice_whole, Rect.mem_set_unit]
  have e := (index_facts ⟨n, ht⟩).2.2
  intro a
  match a with
  | ⟨0, _⟩ =>
    show win0_2.index ⟨n, ht⟩ 0 * 1024 ≤ (i 0 : Nat) ∧ (i 0 : Nat) < win0_2.index ⟨n, ht⟩ 0 * 1024 + 1024
    rw [e.1]; dsimp only; omega
  | ⟨1, _⟩ =>
    show win0_2.index ⟨n, ht⟩ 1 * 512 ≤ (i 1 : Nat) ∧ (i 1 : Nat) < win0_2.index ⟨n, ht⟩ 1 * 512 + 512
    rw [e.2]; dsimp only; omega

/-- The result array ends holding the reference's function of the arguments. -/
theorem final : (dats m 0 c).arrAt 2 cfg0.N = goal m c :=
  (dats m 0 c).arrAt_eq_of_cover 2 (goal m c) (fun t _ => flushed_eq m c t) cover

end Cert.Proof.Projection

end
-- ==== Proof.NormBlock.lean ====
/- What one block of the residual layer norm computes, and what its reference computes, entry by entry (hand-written). -/
module

public import proofs.«01_k».proof.Proof.Gen.Kernel4Ideal.Skeleton
public import proofs.«01_k».proof.Proof.Gen.Reference4Ideal.Run
public import Idealize.ShloMosaic.Lib.Pointwise
public import Idealize.ShloMosaic.Lib.IdealHost

@[expose] public section

noncomputable section

namespace Cert.Proof.Norm

open Idealize.ShloMosaic

/-- The mean of a row of 2048. -/
def mean (z : Fin 2048 → EReal) : EReal := Ideal.div (∑ k, z k) (Scalar.ofBits (F := Ideal) .f32 0x45000000#32)

/-- The layer norm of a row at one of its entries, with that entry's gain and offset. -/
def norm (z : Fin 2048 → EReal) (g b : EReal) (l : Fin 2048) : EReal :=
  (z l - mean z) * Ideal.rsqrt (mean (fun k => (z k - mean z) * (z k - mean z)) + Scalar.ofBits (F := Ideal) .f32 0x3727C5AC#32) * g + b

/-- The residual sum a row is normed from: the scaled input plus the gated mixer output. -/
def residual (x y gate : Fin 2048 → EReal) (k : Fin 2048) : EReal :=
  Scalar.ofBits (F := Ideal) .f32 0x3FB504F3#32 * x k + gate k * y k

section
open Cert.Kernel4Ideal Cert.Kernel4Ideal.Gen

/-- The first payload at an entry: the layer norm of the residual row. -/
theorem pay2_apply (v0 v1 : Vec Ideal S256x2048 .f32) (v2 : Vec Ideal S1x1x2048 .f32) (v4 v6 : Vec Ideal S1x2048 .f32)
    (r : Fin 256) (l : Fin 2048) :
    k0_pay2 (F := Ideal) v0 v1 v2 v4 v6 (ix2 r l) =
      norm (residual (fun k => v0 (ix2 r k)) (fun k => v1 (ix2 r k)) (fun k => v2 (ix3 0 0 k))) (v4 (ix2 0 l)) (v6 (ix2 0 l)) l := by
  pointwise [k0_pay2, norm, residual, mean]

/-- The second payload at an entry: the first, modulated. -/
theorem pay1_apply (v32 : Vec Ideal S256x2048 .f32) (v34 v40 : Vec Ideal S1x1x2048 .f32) (r : Fin 256) (l : Fin 2048) :
    k0_pay1 (F := Ideal) v32 (k0_pay3 v34) v40 (ix2 r l) =
      v32 (ix2 r l) * (1 + v34 (ix3 0 0 l)) + v40 (ix3 0 0 l) := by
  pointwise [k0_pay1, k0_pay3, Ideal.ofBits_one_f32]

end

section
open Cert.Reference4Ideal Cert.Reference4Ideal.Gen

/-- Every token's six modulation rows: the context's condition first, then one condition for each latent sequence. -/
def perToken (mods : FVec Ideal S8x6x2048 .f32) : FVec Ideal S8192x6x2048 .f32 :=
  concatenate S8192x6x2048 0
    [⟨S4096x6x2048, broadcastInDim S4096x6x2048 ![1, 2] bcast_S6x2048_S4096x6x2048_1_2 (shapeCast S6x2048 (extractStridedSlice S1x6x2048 ![0, 0, 0] mods slices_S8x6x2048_S1x6x2048_0_0_0) shapeCasts_S1x6x2048_S6x2048)⟩,
     ⟨S1024x6x2048, broadcastInDim S1024x6x2048 ![1, 2] bcast_S6x2048_S1024x6x2048_1_2 (shapeCast S6x2048 (extractStridedSlice S1x6x2048 ![1, 0, 0] mods slices_S8x6x2048_S1x6x2048_1_0_0) shapeCasts_S1x6x2048_S6x2048)⟩,
     ⟨S1024x6x2048, broadcastInDim S1024x6x2048 ![1, 2] bcast_S6x2048_S1024x6x2048_1_2 (shapeCast S6x2048 (extractStridedSlice S1x6x2048 ![2, 0, 0] mods slices_S8x6x2048_S1x6x2048_2_0_0) shapeCasts_S1x6x2048_S6x2048)⟩,
     ⟨S1024x6x2048, broadcastInDim S1024x6x2048 ![1, 2] bcast_S6x2048_S1024x6x2048_1_2 (shapeCast S6x2048 (extractStridedSlice S1x6x2048 ![3, 0, 0] mods slices_S8x6x2048_S1x6x2048_3_0_0) shapeCasts_S1x6x2048_S6x2048)⟩,
     ⟨S1024x6x2048, broadcastInDim S1024x6x2048 ![1, 2] bcast_S6x2048_S1024x6x2048_1_2 (shapeCast S6x2048 (extractStridedSlice S1x6x2048 ![4, 0, 0] mods slices_S8x6x2048_S1x6x2048_4_0_0) shapeCasts_S1x6x2048_S6x2048)⟩]
    concatenates_S4096x6x2048_S1024x6x2048_S1024x6x2048_S1024x6x2048_S1024x6x2048_S8192x6x2048_d0

/-- The condition of a token: none of the first 4096 differ, then every 1024 share one. -/
def cond (n : Fin 8192) : Fin 8 := ⟨n.val / 1024 - 3, by have := n.isLt; omega⟩

theorem perToken_apply (mods : FVec Ideal S8x6x2048 .f32) (n : Fin 8192) (i : Fin 6) (l : Fin 2048) :
    perToken mods (ix3 n i l) = mods (ix3 (cond n) i l) := by
  pointwise [perToken]
  have hn := n.isLt
  have e : ∀ q : Fin 8, q.val = n.val / 1024 - 3 → mods (ix3 q i l) = mods (ix3 (cond n) i l) := fun q h => by
    rw [show q = cond n from Fin.ext h]
  split_ifs
  · exact e 0 (by show 0 = _; omega)
  · exact e 1 (by show 1 = _; omega)
  · exact e 2 (by show 2 = _; omega)
  · exact e 3 (by show 3 = _; omega)
  · exact e 4 (by show 4 = _; omega)

/-- The residual sum of all the tokens. -/
def mixed (x y : FVec Ideal S8192x2048 .f32) (p : FVec Ideal S8192x6x2048 .f32) : FVec Ideal S8192x2048 .f32 :=
  addf (mulf (broadcastInDim S8192x2048 ![] bcast_S_S8192x2048 (constant S_ .f32 0x3FB504F3#32)) x)
    (mulf (shapeCast S8192x2048 (extractStridedSlice S8192x1x2048 ![0, 2, 0] p slices_S8192x6x2048_S8192x1x2048_0_2_0) shapeCasts_S8192x1x2048_S8192x2048) y)

/-- The mean of every token's row, as a column. -/
def means (z : FVec Ideal S8192x2048 .f32) : FVec Ideal S8192x1 .f32 :=
  Host.divf (broadcastInDim S8192x1 ![0] bcast_S8192_S8192x1_0
      (Host.reduceAdd z (constant S_ .f32 0x00000000#32) reducesTo_S8192x2048_S8192_d1 h_S_))
    (broadcastInDim S8192x1 ![] bcast_S_S8192x1 (constant S_ .f32 0x45000000#32))

/-- Every token's row less its mean. -/
def centred (z : FVec Ideal S8192x2048 .f32) : FVec Ideal S8192x2048 .f32 :=
  subf z (broadcastInDim S8192x2048 ![0, 1] bcast_S8192x1_S8192x2048_0_1 (means z))

/-- The layer norm of every row. -/
def normed (z : FVec Ideal S8192x2048 .f32) (g b : FVec Ideal S2048 .f32) : FVec Ideal S8192x2048 .f32 :=
  addf (mulf (mulf (centred z) (broadcastInDim S8192x2048 ![0, 1] bcast_S8192x1_S8192x2048_0_1
      (Host.rsqrt (addf (means (mulf (centred z) (centred z))) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

/-- The reference's first result. -/
def whole (x y : FVec Ideal S8192x2048 .f32) (mods : FVec Ideal S8x6x2048 .f32) (g b : FVec Ideal S2048 .f32) :
    FVec Ideal S8192x2048 .f32 :=
  normed (mixed x y (perToken mods)) g b

/-- The modulation of the next sub-layer's input. -/
def modulated (v : FVec Ideal S8192x2048 .f32) (p : FVec Ideal S8192x6x2048 .f32) : FVec Ideal S8192x2048 .f32 :=
  addf (mulf v (addf (broadcastInDim S8192x2048 ![] bcast_S_S8192x2048 (constant S_ .f32 0x3F800000#32))
      (shapeCast S8192x2048 (extractStridedSlice S8192x1x2048 ![0, 4, 0] p slices_S8192x6x2048_S8192x1x2048_0_4_0) shapeCasts_S8192x1x2048_S8192x2048)))
    (shapeCast S8192x2048 (extractStridedSlice S8192x1x2048 ![0, 3, 0] p slices_S8192x6x2048_S8192x1x2048_0_3_0) shapeCasts_S8192x1x2048_S8192x2048)

/-- The reference's second result. -/
def whole' (x y : FVec Ideal S8192x2048 .f32) (mods : FVec Ideal S8x6x2048 .f32) (g b : FVec Ideal S2048 .f32) :
    FVec Ideal S8192x2048 .f32 :=
  modulated (whole x y mods g b) (perToken mods)

theorem mixed_apply (x y : FVec Ideal S8192x2048 .f32) (p : FVec Ideal S8192x6x2048 .f32) (n : Fin 8192) (l : Fin 2048) :
    mixed x y p (ix2 n l) = residual (fun k => x (ix2 n k)) (fun k => y (ix2 n k)) (fun k => p (ix3 n 2 k)) l := by
  pointwise [mixed, residual]

theorem normed_apply (z : FVec Ideal S8192x2048 .f32) (g b : FVec Ideal S2048 .f32) (n : Fin 8192) (l : Fin 2048) :
    normed z g b (ix2 n l) = norm (fun k => z (ix2 n k)) (g (ix1 l)) (b (ix1 l)) l := by
  pointwise [normed, centred, means, norm, mean]

theorem modulated_apply (v : FVec Ideal S8192x2048 .f32) (p : FVec Ideal S8192x6x2048 .f32) (n : Fin 8192) (l : Fin 2048) :
    modulated v p (ix2 n l) = v (ix2 n l) * (1 + p (ix3 n 4 l)) + p (ix3 n 3 l) := by
  pointwise [modulated, Ideal.ofBits_one_f32]

/-- The reference's first result at an entry. -/
theorem whole_apply (x y : FVec Ideal S8192x2048 .f32) (mods : FVec Ideal S8x6x2048 .f32) (g b : FVec Ideal S2048 .f32)
    (n : Fin 8192) (l : Fin 2048) :
    whole x y mods g b (ix2 n l) =
      norm (residual (fun k => x (ix2 n k)) (fun k => y (ix2 n k)) (fun k => mods (ix3 (cond n) 2 k))) (g (ix1 l)) (b (ix1 l)) l := by
  unfold whole
  rw [normed_apply]
  simp only [mixed_apply, perToken_apply]

/-- The reference's second result at an entry. -/
theorem whole'_apply (x y : FVec Ideal S8192x2048 .f32) (mods : FVec Ideal S8x6x2048 .f32) (g b : FVec Ideal S2048 .f32)
    (n : Fin 8192) (l : Fin 2048) :
    whole' x y mods g b (ix2 n l) =
      whole x y mods g b (ix2 n l) * (1 + mods (ix3 (cond n) 4 l)) + mods (ix3 (cond n) 3 l) := by
  unfold whole'
  rw [modulated_apply, perToken_apply, perToken_apply]

end

end Cert.Proof.Norm

end
-- ==== Proof.NormArray.lean ====
/- What the two results of the residual layer norm hold after the run (hand-written). -/
module

public import proofs.«01_k».proof.Proof.Gen.Kernel4Ideal.Value
public import proofs.«01_k».proof.Proof.NormBlock
public import proofs.«01_k».proof.Proof.Tile

@[expose] public section

noncomputable section

namespace Cert.Proof.Norm

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ) (c : Dev nD)

theorem zeros : (![0, 0] : Fin 2 → Nat) = fun _ => 0 := funext fun a => by fin_cases a <;> rfl

/-- The first result the kernel is to leave. -/
abbrev goal : Buf (Elt Ideal) ((c : Thread nD τ).loc main_v2_0) :=
  whole (m ((c : Thread nD τ).loc main_arg0)) (m ((c : Thread nD τ).loc main_arg1)) (m ((c : Thread nD τ).loc main_arg2))
    (m ((c : Thread nD τ).loc main_arg3)) (m ((c : Thread nD τ).loc main_arg4))

/-- The second result the kernel is to leave. -/
abbrev goal' : Buf (Elt Ideal) ((c : Thread nD τ).loc main_v2_1) :=
  whole' (m ((c : Thread nD τ).loc main_arg0)) (m ((c : Thread nD τ).loc main_arg1)) (m ((c : Thread nD τ).loc main_arg2))
    (m ((c : Thread nD τ).loc main_arg3)) (m ((c : Thread nD τ).loc main_arg4))

/-- Where each window's block sits: the tokens' rows move with the point, the modulation's row is the tile's condition. -/
theorem index_facts : ∀ t : Fin grid0.N,
    ((win0_0.index t 0 = t.val ∧ win0_0.index t 1 = 0) ∧ (win0_1.index t 0 = t.val ∧ win0_1.index t 1 = 0))
    ∧ (win0_2.index t 0 = t.val / 4 - 3 ∧ win0_2.index t 1 = 0 ∧ win0_2.index t 2 = 0)
    ∧ ((win0_3.index t 0 = 0 ∧ win0_3.index t 1 = 0) ∧ (win0_4.index t 0 = 0 ∧ win0_4.index t 1 = 0))
    ∧ ((win0_5.index t 0 = t.val ∧ win0_5.index t 1 = 0) ∧ (win0_6.index t 0 = t.val ∧ win0_6.index t 1 = 0)) := by
  decide +kernel

/-- Row `256 t + r` of the whole array, in range. -/
def row (t : Fin cfg0.N) (r : Fin 256) : Fin 8192 :=
  ⟨256 * t.val + r.val, by have := t.isLt; have : cfg0.N = 32 := N_0; have := r.isLt; omega⟩

theorem cond_row (t : Fin cfg0.N) (r : Fin 256) : (cond (row t r)).val = t.val / 4 - 3 := by
  have := r.isLt
  simp only [cond, row]
  omega

/-- The tokens' block at point `t` is rows `256 t …` of the argument. -/
theorem block0 (t : Fin cfg0.N) (r : Fin 256) (k : Fin 2048) :
    (iblk m c 0 t : Vec Ideal S256x2048 .f32) (ix2 r k) = m ((c : Thread nD τ).loc main_arg0) (ix2 (row t r) k) :=
  (View.read_apply ..).trans ((congrFun (V_main_arg0 m c) _).trans (congrArg (m ((c : Thread nD τ).loc main_arg0))
    (Tile.eq_ix2 (Tile.at_block (index_facts t).1.1.1) (Tile.at_whole (index_facts t).1.1.2))))

/-- The mixer output's block at point `t` is rows `256 t …` of the argument. -/
theorem block1 (t : Fin cfg0.N) (r : Fin 256) (k : Fin 2048) :
    (iblk m c 1 t : Vec Ideal S256x2048 .f32) (ix2 r k) = m ((c : Thread nD τ).loc main_arg1) (ix2 (row t r) k) :=
  (View.read_apply ..).trans ((congrFun (V_main_arg1 m c) _).trans (congrArg (m ((c : Thread nD τ).loc main_arg1))
    (Tile.eq_ix2 (Tile.at_block (index_facts t).1.2.1) (Tile.at_whole (index_facts t).1.2.2))))

/-- The modulation's block at point `t`: the six rows of the tile's condition. -/
theorem block2 (t : Fin cfg0.N) (r : Fin 256) (i : Fin 6) (k : Fin 2048) :
    (iblk m c 2 t : Vec Ideal S1x6x2048 .f32) (ix3 0 i k) = m ((c : Thread nD τ).loc main_arg2) (ix3 (cond (row t r)) i k) := by
  unfold iblk
  refine Eq.trans (View.read_apply ..) ?_
  refine Eq.trans (congrFun (V_main_arg2 m c) _) ?_
  congr 1
  funext a
  apply Fin.ext
  match a with
  | ⟨0, _⟩ => show win0_2.index t 0 * 1 + 1 * 0 = (cond (row t r)).val; rw [(index_facts t).2.1.1, cond_row]; omega
  | ⟨1, _⟩ => show win0_2.index t 1 * 6 + 1 * i.val = i.val; rw [(index_facts t).2.1.2.1]; omega
  | ⟨2, _⟩ => show win0_2.index t 2 * 2048 + 1 * k.val = k.val; rw [(index_facts t).2.1.2.2]; omega

/-- The host's row of gains is the argument. -/
theorem gain (l : Fin 2048) : V m c main_v0 (ix2 0 l) = m ((c : Thread nD τ).loc main_arg3) (ix1 l) := by
  have e : V m c main_v0 = broadcastInDim S1x2048 ![1] bcast_S2048_S1x2048_1 (m ((c : Thread nD τ).loc main_arg3)) := by
    unfold V hostOps0
    after_results_simp <;> rfl
  rw [e]
  pointwise

/-- The host's row of offsets is the argument. -/
theorem offset (l : Fin 2048) : V m c main_v1 (ix2 0 l) = m ((c : Thread nD τ).loc main_arg4) (ix1 l) := by
  have e : V m c main_v1 = broadcastInDim S1x2048 ![1] bcast_S2048_S1x2048_1 (m ((c : Thread nD τ).loc main_arg4)) := by
    unfold V hostOps0
    after_results_simp <;> rfl
  rw [e]
  pointwise

/-- The gains' block at any point is the argument. -/
theorem block3 (t : Fin cfg0.N) (l : Fin 2048) :
    (iblk m c 3 t : Vec Ideal S1x2048 .f32) (ix2 0 l) = m ((c : Thread nD τ).loc main_arg3) (ix1 l) := by
  unfold iblk
  refine Eq.trans (View.read_apply ..) (Eq.trans ?_ (gain m c l))
  show V m c main_v0 _ = V m c main_v0 _
  congr 1
  funext a
  apply Fin.ext
  match a with
  | ⟨0, _⟩ => show win0_3.index t 0 * 1 + 1 * 0 = 0; rw [(index_facts t).2.2.1.1.1]
  | ⟨1, _⟩ => show win0_3.index t 1 * 2048 + 1 * l.val = l.val; rw [(index_facts t).2.2.1.1.2]; omega

/-- The offsets' block at any point is the argument. -/
theorem block4 (t : Fin cfg0.N) (l : Fin 2048) :
    (iblk m c 4 t : Vec Ideal S1x2048 .f32) (ix2 0 l) = m ((c : Thread nD τ).loc main_arg4) (ix1 l) := by
  unfold iblk
  refine Eq.trans (View.read_apply ..) (Eq.trans ?_ (offset m c l))
  show V m c main_v1 _ = V m c main_v1 _
  congr 1
  funext a
  apply Fin.ext
  match a with
  | ⟨0, _⟩ => show win0_4.index t 0 * 1 + 1 * 0 = 0; rw [(index_facts t).2.2.1.2.1]
  | ⟨1, _⟩ => show win0_4.index t 1 * 2048 + 1 * l.val = l.val; rw [(index_facts t).2.2.1.2.2]; omega

/-- An array read through either result's block at point `t`: rows `256 t …`. -/
theorem result_block5 (G : S8192x2048.Idx → EReal) (t : Fin cfg0.N) (r : Fin 256) (l : Fin 2048) :
    (((cfg0.win 5).blk t).view.read (Elt Ideal) G : Vec Ideal S256x2048 .f32) (ix2 r l) = G (ix2 (row t r) l) :=
  (View.read_apply ..).trans (congrArg G (Tile.eq_ix2 (Tile.at_block (index_facts t).2.2.2.1.1) (Tile.at_whole (index_facts t).2.2.2.1.2)))

theorem result_block6 (G : S8192x2048.Idx → EReal) (t : Fin cfg0.N) (r : Fin 256) (l : Fin 2048) :
    (((cfg0.win 6).blk t).view.read (Elt Ideal) G : Vec Ideal S256x2048 .f32) (ix2 r l) = G (ix2 (row t r) l) :=
  (View.read_apply ..).trans (congrArg G (Tile.eq_ix2 (Tile.at_block (index_facts t).2.2.2.2.1) (Tile.at_whole (index_facts t).2.2.2.2.2)))

/-- A load of one of the six rows of a modulation block. -/
theorem load_row (x : Vec Ideal S1x6x2048 .f32) (i : Fin 6) (h) (k : Fin 2048) :
    View.ld x (Rect.unit (s := S1x6x2048) ![0, i.val, 0] S1x1x2048.size h) (ix3 0 0 k) = x (ix3 0 i k) := by
  show x _ = x _
  congr 1
  funext a
  apply Fin.ext
  match a with
  | ⟨0, _⟩ => rfl
  | ⟨1, _⟩ => show i.val + 1 * 0 = i.val; omega
  | ⟨2, _⟩ => show 0 + 1 * k.val = k.val; omega

/-- The first payload of point `t`, at an entry, is the goal's. -/
theorem first_eq (t : Fin cfg0.N) (r : Fin 256) (l : Fin 2048) :
    k0_pay2 (F := Ideal) (iblk m c 0 t) (iblk m c 1 t) (View.ld (iblk m c 2 t : Vec Ideal S1x6x2048 .f32) r0_1) (iblk m c 3 t) (iblk m c 4 t) (ix2 r l)
      = goal m c (ix2 (row t r) l) := by
  refine Eq.trans (pay2_apply _ _ _ _ _ r l) (Eq.trans ?_ (whole_apply _ _ _ _ _ (row t r) l).symm)
  have e : ∀ k : Fin 2048, View.ld (iblk m c 2 t : Vec Ideal S1x6x2048 .f32) r0_1 (ix3 0 0 k) = m ((c : Thread nD τ).loc main_arg2) (ix3 (cond (row t r)) 2 k) :=
    fun k => (load_row _ 2 _ k).trans (block2 m c t r 2 k)
  simp only [block0, block1, block3, block4, e]

/-- What point `t` writes back to the first result is its block of the goal. -/
theorem flushed5_eq (t : Fin cfg0.N) :
    (dats m 0 c).flushed 5 t = ((cfg0.win 5).blk t).view.read (Elt Ideal) (goal m c) := by
  rw [Cert.Kernel4Ideal.Value.flushed5]
  show (out0_5 (iblk m c 0 t) (iblk m c 1 t) (iblk m c 2 t) (iblk m c 3 t) (iblk m c 4 t) : Vec Ideal S256x2048 .f32) = _
  unfold out0_5
  rw [View.canon_unit_zero zeros, View.ld_unit_zero zeros, View.ld_unit_zero zeros, View.ld_unit_zero zeros, View.ld_unit_zero zeros]
  funext j
  obtain ⟨r, l, rfl⟩ : ∃ (r : Fin 256) (l : Fin 2048), j = ix2 r l := ⟨j 0, j 1, by funext a; fin_cases a <;> rfl⟩
  exact (first_eq m c t r l).trans (result_block5 (goal m c) t r l).symm

/-- What point `t` writes back to the second result is its block of the goal. -/
theorem flushed6_eq (t : Fin cfg0.N) :
    (dats m 0 c).flushed 6 t = ((cfg0.win 6).blk t).view.read (Elt Ideal) (goal' m c) := by
  rw [Cert.Kernel4Ideal.Value.flushed6]
  show (out0_6 (iblk m c 0 t) (iblk m c 1 t) (iblk m c 2 t) (iblk m c 3 t) (iblk m c 4 t) : Vec Ideal S256x2048 .f32) = _
  unfold out0_6
  rw [View.canon_unit_zero zeros, View.ld_unit_zero zeros, View.ld_unit_zero zeros, View.ld_unit_zero zeros, View.ld_unit_zero zeros]
  funext j
  obtain ⟨r, l, rfl⟩ : ∃ (r : Fin 256) (l : Fin 2048), j = ix2 r l := ⟨j 0, j 1, by funext a; fin_cases a <;> rfl⟩
  refine Eq.trans (pay1_apply _ _ _ r l) (Eq.trans ?_ (result_block6 (goal' m c) t r l).symm)
  refine Eq.trans ?_ (whole'_apply _ _ _ _ _ (row t r) l).symm
  have e4 : View.ld (iblk m c 2 t : Vec Ideal S1x6x2048 .f32) r0_3 (ix3 0 0 l) = m ((c : Thread nD τ).loc main_arg2) (ix3 (cond (row t r)) 4 l) :=
    (load_row _ 4 _ l).trans (block2 m c t r 4 l)
  have e3 : View.ld (iblk m c 2 t : Vec Ideal S1x6x2048 .f32) r0_4 (ix3 0 0 l) = m ((c : Thread nD τ).loc main_arg2) (ix3 (cond (row t r)) 3 l) :=
    (load_row _ 3 _ l).trans (block2 m c t r 3 l)
  exact congrArg₂ (fun p q : EReal => p + q) (congrArg₂ (fun p q : EReal => p * q) (first_eq m c t r l) (congrArg (fun q : EReal => 1 + q) e4)) e3

/-- Every row falls to a point. -/
theorem point (i : S8192x2048.Idx) : (i 0 : Nat) / 256 < cfg0.N := by
  have h0 : (i 0 : Nat) < 8192 := (i 0).isLt
  have hN : cfg0.N = 32 := N_0
  omega

/-- A place lies in the block of its row's point, for a window whose blocks are the rows' tiles. -/
theorem mem_rows (i : S8192x2048.Idx) {f : Fin 2 → ℕ} (h0 : f 0 = (i 0 : Nat) / 256) (h1 : f 1 = 0) (a : Fin 2) :
    f a * (![256, 2048] : Fin 2 → ℕ) a ≤ (i a : Nat) ∧ (i a : Nat) < f a * (![256, 2048] : Fin 2 → ℕ) a + (![256, 2048] : Fin 2 → ℕ) a :=
  match a with
  | ⟨0, _⟩ => Tile.in_block (n := 256) (by decide) h0
  | ⟨1, _⟩ => Tile.in_block (n := 2048) (by decide) (h1.trans (Nat.div_eq_of_lt (i 1).isLt).symm)

theorem cover5 (i : S8192x2048.Idx) :
    ∃ t : Fin cfg0.N, (cfg0.win 5).flush t = true ∧ i ∈ ((cfg0.win 5).blk t).view.set := by
  refine ⟨⟨(i 0 : Nat) / 256, point i⟩, flush0_5 _, ?_⟩
  show i ∈ ((View.whole main_v2_0).slice (win0_5.rect ⟨(i 0 : Nat) / 256, point i⟩)).set
  rw [View.set_slice_whole, Rect.mem_set_unit]
  exact mem_rows i (index_facts ⟨(i 0 : Nat) / 256, point i⟩).2.2.2.1.1 (index_facts ⟨(i 0 : Nat) / 256, point i⟩).2.2.2.1.2

theorem cover6 (i : S8192x2048.Idx) :
    ∃ t : Fin cfg0.N, (cfg0.win 6).flush t = true ∧ i ∈ ((cfg0.win 6).blk t).view.set := by
  refine ⟨⟨(i 0 : Nat) / 256, point i⟩, flush0_6 _, ?_⟩
  show i ∈ ((View.whole main_v2_1).slice (win0_6.rect ⟨(i 0 : Nat) / 256, point i⟩)).set
  rw [View.set_slice_whole, Rect.mem_set_unit]
  exact mem_rows i (index_facts ⟨(i 0 : Nat) / 256, point i⟩).2.2.2.2.1 (index_facts ⟨(i 0 : Nat) / 256, point i⟩).2.2.2.2.2

/-- The first result array ends holding the reference's function of the arguments. -/
theorem final5 : (dats m 0 c).arrAt 5 cfg0.N = goal m c :=
  (dats m 0 c).arrAt_eq_of_cover 5 (goal m c) (fun t _ => flushed5_eq m c t) cover5

/-- The second result array ends holding the reference's function of the arguments. -/
theorem final6 : (dats m 0 c).arrAt 6 cfg0.N = goal' m c :=
  (dats m 0 c).arrAt_eq_of_cover 6 (goal' m c) (fun t _ => flushed6_eq m c t) cover6

end Cert.Proof.Norm

end
-- ==== Proof.PremixBlock.lean ====
/- What one block of the token shift computes, and what its reference computes, entry by entry (hand-written). -/
module

public import proofs.«01_k».proof.Proof.Gen.Kernel5Ideal.Frame
public import proofs.«01_k».proof.Proof.Gen.Reference5Ideal.Run
public import Idealize.ShloMosaic.Lib.Pointwise
public import Idealize.ShloMosaic.Lib.IdealHost
public import Idealize.ShloMosaic.Lib.WordCmp

@[expose] public section

noncomputable section

namespace Cert.Proof.Premix

open Idealize.ShloMosaic

/-- A token's input, modulated by its scale and shift. -/
def modded (x scale shift : EReal) : EReal := x * (1 + scale) + shift

/-- The mix of a token's value with those of the tokens before and after it. -/
def mix (h before after p n : EReal) : EReal := h + p * (before - h) + n * (after - h)

section
open Cert.Kernel5Ideal Cert.Kernel5Ideal.Gen

/-- The modulated block at an entry. -/
theorem pay7_apply (shift scale : Vec Ideal S1x1x2048 .f32) (x : Vec Ideal S256x2048 .f32) (r : Fin 256) (l : Fin 2048) :
    k0_pay7 (F := Ideal) (k0_pay5 scale x) (k0_pay6 shift) (ix2 r l) =
      modded (x (ix2 r l)) (scale (ix3 0 0 l)) (shift (ix3 0 0 l)) := by
  pointwise [k0_pay7, k0_pay6, k0_pay5, k0_pay4, k0_pay3, modded, Ideal.ofBits_one_f32]

/-- The row before, within the block and around its end. -/
def up (r : Fin 256) : Fin 256 := ⟨(r.val + 256 - 1) % 256, Nat.mod_lt _ (by decide)⟩

/-- The row after, within the block and around its end. -/
def down (r : Fin 256) : Fin 256 := ⟨(r.val + 256 - 255) % 256, Nat.mod_lt _ (by decide)⟩

theorem is_first : ∀ r : Fin 256, IntOp.cmpi .eq (BitVec.ofNat 32 r.val) 0#32 = BitVec.ofBool (decide (r.val = 0)) := by
  decide +kernel

theorem is_last : ∀ r : Fin 256, IntOp.cmpi .eq (BitVec.ofNat 32 r.val) 255#32 = BitVec.ofBool (decide (r.val = 255)) := by
  decide +kernel

/-- The difference to the token before: in the first row it is the edge row, or nothing where a sequence starts. -/
theorem pay8_apply (pos : BitVec 32) (q : Bool) (hq : Scalar.cmpi .sgt pos 0#32 = BitVec.ofBool q)
    (shift scale edge : Vec Ideal S1x1x2048 .f32) (h32 h33 : FVec Ideal S256x2048 .f32) (r : Fin 256) (l : Fin 2048) :
    k0_pay8 (F := Ideal) pos (k0_pay3 shift) (k0_pay4 scale) h32 h33 edge (ix2 r l) =
      (if r.val = 0 then (if q = true then modded (edge (ix3 0 0 l)) (scale (ix3 0 0 l)) (shift (ix3 0 0 l)) else 0)
        else k0_pay7 (F := Ideal) h32 h33 (ix2 (up r) l)) - k0_pay7 (F := Ideal) h32 h33 (ix2 r l) := by
  pointwise [k0_pay8, k0_pay4, k0_pay3, modded, Ideal.ofBits_one_f32]
  rw [is_first, hq, WordCmp.select_ofBool, WordCmp.select_ofBool]
  simp only [decide_eq_true_eq]
  rfl

/-- The difference to the token after: in the last row it is the edge row, or nothing where a sequence ends. -/
theorem pay9_apply (pos len : BitVec 32) (q : Bool) (hq : Scalar.cmpi .slt pos (Scalar.subi len 1#32) = BitVec.ofBool q)
    (shift scale edge : Vec Ideal S1x1x2048 .f32) (h32 h33 : FVec Ideal S256x2048 .f32) (r : Fin 256) (l : Fin 2048) :
    k0_pay9 (F := Ideal) pos len (k0_pay3 shift) (k0_pay4 scale) h32 h33 edge (ix2 r l) =
      (if r.val = 255 then (if q = true then modded (edge (ix3 0 0 l)) (scale (ix3 0 0 l)) (shift (ix3 0 0 l)) else 0)
        else k0_pay7 (F := Ideal) h32 h33 (ix2 (down r) l)) - k0_pay7 (F := Ideal) h32 h33 (ix2 r l) := by
  pointwise [k0_pay9, k0_pay4, k0_pay3, modded, Ideal.ofBits_one_f32]
  rw [is_last, hq, WordCmp.select_ofBool, WordCmp.select_ofBool]
  simp only [decide_eq_true_eq]
  rfl

/-- A tile that does not start its sequence. -/
def inner (t : Nat) : Bool := decide (16 ≤ t ∧ t % 4 ≠ 0)

/-- A tile that does not end its sequence. -/
def outer (t : Nat) : Bool := decide (16 ≤ t ∧ t % 4 ≠ 3)

theorem load_mod (x : Vec Ideal S1x6x2048 .f32) (i : Fin 6) (h) (k : Fin 2048) :
    View.ld x (Rect.unit (s := S1x6x2048) ![0, i.val, 0] S1x1x2048.size h) (ix3 0 0 k) = x (ix3 0 i k) := by
  show x _ = x _
  congr 1
  funext a
  apply Fin.ext
  match a with
  | ⟨0, _⟩ => rfl
  | ⟨1, _⟩ => show i.val + 1 * 0 = i.val; omega
  | ⟨2, _⟩ => show 0 + 1 * k.val = k.val; omega

theorem load_mix (x : Vec Ideal S6x2048 .f32) (i : Fin 6) (h) (k : Fin 2048) :
    View.ld x (Rect.unit (s := S6x2048) ![i.val, 0] S1x2048.size h) (ix2 0 k) = x (ix2 i k) := by
  show x _ = x _
  congr 1
  funext a
  apply Fin.ext
  match a with
  | ⟨0, _⟩ => show i.val + 1 * 0 = i.val; omega
  | ⟨1, _⟩ => show 0 + 1 * k.val = k.val; omega

theorem zeros2 : (![0, 0] : Fin 2 → Nat) = fun _ => 0 := funext fun a => by fin_cases a <;> rfl
theorem zeros3 : (![0, 0, 0] : Fin 3 → Nat) = fun _ => 0 := funext fun a => by fin_cases a <;> rfl

section
variable (t : Fin grid0.N) (x0 : Vec Ideal S256x2048 .f32) (x1 x2 : Vec Ideal S1x1x2048 .f32) (x3 : Vec Ideal S1x6x2048 .f32)
  (x4 x5 : Vec Ideal S6x2048 .f32) (r : Fin 256) (l : Fin 2048)

/-- A value modulated by the tile's condition. -/
def tiled (x : EReal) : EReal := modded x (x3 (ix3 0 1 l)) (x3 (ix3 0 0 l))

theorem pay19_apply : k0_pay19 (F := Ideal) (grid0.coords t) x0 x1 x2 x3 x4 x5 (ix2 r l) = tiled x3 l (x0 (ix2 r l)) := by
  unfold k0_pay19 k0_pay17 k0_pay18
  rw [View.ld_unit_zero zeros2, pay7_apply]
  exact congrArg₂ (modded _) (load_mod x3 1 _ l) (load_mod x3 0 _ l)

theorem pay20_apply : k0_pay20 (F := Ideal) (grid0.coords t) x0 x1 x2 x3 x4 x5 (ix2 r l) =
    (if r.val = 0 then (if inner t.val = true then tiled x3 l (x1 (ix3 0 0 l)) else 0)
      else tiled x3 l (x0 (ix2 (up r) l))) - tiled x3 l (x0 (ix2 r l)) := by
  rw [← pay19_apply t x0 x1 x2 x3 x4 x5 (up r), ← pay19_apply t x0 x1 x2 x3 x4 x5 r]
  unfold k0_pay20
  refine (pay8_apply _ (inner t.val) ?_ _ _ _ _ _ r l).trans ?_
  · revert t; decide +kernel
  rw [View.ld_unit_zero zeros3]
  have e : modded (x1 (ix3 0 0 l)) (View.ld x3 r0_1 (ix3 0 0 l)) (View.ld x3 r0_0 (ix3 0 0 l)) = tiled x3 l (x1 (ix3 0 0 l)) :=
    congrArg₂ (modded _) (load_mod x3 1 _ l) (load_mod x3 0 _ l)
  rw [e]
  rfl

theorem pay21_apply : k0_pay21 (F := Ideal) (grid0.coords t) x0 x1 x2 x3 x4 x5 (ix2 r l) =
    (if r.val = 255 then (if outer t.val = true then tiled x3 l (x2 (ix3 0 0 l)) else 0)
      else tiled x3 l (x0 (ix2 (down r) l))) - tiled x3 l (x0 (ix2 r l)) := by
  rw [← pay19_apply t x0 x1 x2 x3 x4 x5 (down r), ← pay19_apply t x0 x1 x2 x3 x4 x5 r]
  unfold k0_pay21
  refine (pay9_apply _ _ (outer t.val) ?_ _ _ _ _ _ r l).trans ?_
  · revert t; decide +kernel
  rw [View.ld_unit_zero zeros3]
  have e : modded (x2 (ix3 0 0 l)) (View.ld x3 r0_1 (ix3 0 0 l)) (View.ld x3 r0_0 (ix3 0 0 l)) = tiled x3 l (x2 (ix3 0 0 l)) :=
    congrArg₂ (modded _) (load_mod x3 1 _ l) (load_mod x3 0 _ l)
  rw [e]
  rfl

theorem pay12_apply (h d e : FVec Ideal S256x2048 .f32) (p n : Vec Ideal S1x2048 .f32) :
    k0_pay12 (F := Ideal) h d e p n (ix2 r l) = h (ix2 r l) + p (ix2 0 l) * d (ix2 r l) + n (ix2 0 l) * e (ix2 r l) := by
  pointwise [k0_pay12]

/-- One of the six results of a tile, as the body stores it. -/
abbrev stored (i : Fin 6) (h : ∀ a, (![i.val, 0] : Fin 2 → Nat) a + S1x2048.size a ≤ S6x2048.size a) : FVec Ideal S256x2048 .bf16 :=
  k0_pay12 (k0_pay19 (grid0.coords t) x0 x1 x2 x3 x4 x5) (k0_pay20 (grid0.coords t) x0 x1 x2 x3 x4 x5)
    (k0_pay21 (grid0.coords t) x0 x1 x2 x3 x4 x5) (View.ld x4 (Rect.unit (s := S6x2048) ![i.val, 0] S1x2048.size h))
    (View.ld x5 (Rect.unit (s := S6x2048) ![i.val, 0] S1x2048.size h))

theorem stored_apply (i : Fin 6) (h) : stored t x0 x1 x2 x3 x4 x5 i h (ix2 r l) =
    mix (tiled x3 l (x0 (ix2 r l)))
      (if r.val = 0 then (if inner t.val = true then tiled x3 l (x1 (ix3 0 0 l)) else 0) else tiled x3 l (x0 (ix2 (up r) l)))
      (if r.val = 255 then (if outer t.val = true then tiled x3 l (x2 (ix3 0 0 l)) else 0) else tiled x3 l (x0 (ix2 (down r) l)))
      (x4 (ix2 i l)) (x5 (ix2 i l)) := by
  unfold stored
  rw [pay12_apply, pay19_apply, pay20_apply, pay21_apply]
  exact congrArg₂ (mix _ _ _) (load_mix x4 i _ l) (load_mix x5 i _ l)

end

end

end Cert.Proof.Premix

end
-- ==== Proof.PremixRef.lean ====
/- What the reference of the token shift computes, entry by entry (hand-written). -/
module

public import proofs.«01_k».proof.Proof.PremixBlock

@[expose] public section

noncomputable section

namespace Cert.Proof.Premix

open Idealize.ShloMosaic Cert.Reference5Ideal Cert.Reference5Ideal.Gen

variable (x : FVec Ideal S8192x2048 .f32) (mods : FVec Ideal S8x6x2048 .f32) (mp mn : FVec Ideal S6x2048 .f32)

/-- The context's modulated tokens, sequence by sequence. -/
def ctx : FVec Ideal S16x256x2048 .f32 :=
  addf (mulf (shapeCast _ (extractStridedSlice S4096x2048 ![0, 0] x slices_S8192x2048_S4096x2048_0_0) shapeCasts_S4096x2048_S16x256x2048) (broadcastInDim S16x256x2048 ![0, 1, 2] bcast_S1x1x2048_S16x256x2048_0_1_2 (broadcastInDim S1x1x2048 ![2] bcast_S2048_S1x1x2048_2 (addf (broadcastInDim S2048 ![] bcast_S_S2048 (constant S_ .f32 0x3F800000#32)) (shapeCast _ (extractStridedSlice S1x1x2048 ![0, 1, 0] mods slices_S8x6x2048_S1x1x2048_0_1_0) shapeCasts_S1x1x2048_S2048))))) (broadcastInDim S16x256x2048 ![0, 1, 2] bcast_S1x1x2048_S16x256x2048_0_1_2 (broadcastInDim S1x1x2048 ![2] bcast_S2048_S1x1x2048_2 (shapeCast _ (extractStridedSlice S1x1x2048 ![0, 0, 0] mods slices_S8x6x2048_S1x1x2048_0_0_0) shapeCasts_S1x1x2048_S2048)))

/-- The latent sequences' modulated tokens. -/
def lat : FVec Ideal S4x1024x2048 .f32 :=
  addf (mulf (shapeCast _ (extractStridedSlice S4096x2048 ![4096, 0] x slices_S8192x2048_S4096x2048_4096_0) shapeCasts_S4096x2048_S4x1024x2048) (broadcastInDim S4x1024x2048 ![0, 1, 2] bcast_S4x1x2048_S4x1024x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S4x1x2048 ![1, 1, 0] mods slices_S8x6x2048_S4x1x2048_1_1_0) shapeCasts_S4x1x2048_S4x2048))))) (broadcastInDim S4x1024x2048 ![0, 1, 2] bcast_S4x1x2048_S4x1024x2048_0_1_2 (broadcastInDim S4x1x2048 ![0, 2] bcast_S4x2048_S4x1x2048_0_2 (shapeCast _ (extractStridedSlice S4x1x2048 ![1, 0, 0] mods slices_S8x6x2048_S4x1x2048_1_0_0) shapeCasts_S4x1x2048_S4x2048)))

/-- The context's tokens less the tokens before them shifted in, and after them. -/
def ctxBefore (h : FVec Ideal S16x256x2048 .f32) : FVec Ideal S16x256x2048 .f32 :=
  subf (pad S16x256x2048 ![0, 1, 0] ![0, 0, 0] ![0, 0, 0] (extractStridedSlice S16x255x2048 ![0, 0, 0] h slices_S16x256x2048_S16x255x2048_0_0_0) (sitofp .f32 (constantI S_ 32 0#32)) pads_S16x255x2048_S16x256x2048_000_100_000 h_S_) h

def ctxAfter (h : FVec Ideal S16x256x2048 .f32) : FVec Ideal S16x256x2048 .f32 :=
  subf (pad S16x256x2048 ![0, 0, 0] ![0, 1, 0] ![0, 0, 0] (extractStridedSlice S16x255x2048 ![0, 1, 0] h slices_S16x256x2048_S16x255x2048_0_1_0) (sitofp .f32 (constantI S_ 32 0#32)) pads_S16x255x2048_S16x256x2048_000_010_000 h_S_) h

/-- The same of the latent sequences. -/
def latBefore (h : FVec Ideal S4x1024x2048 .f32) : FVec Ideal S4x1024x2048 .f32 :=
  subf (pad S4x1024x2048 ![0, 1, 0] ![0, 0, 0] ![0, 0, 0] (extractStridedSlice S4x1023x2048 ![0, 0, 0] h slices_S4x1024x2048_S4x1023x2048_0_0_0) (sitofp .f32 (constantI S_ 32 0#32)) pads_S4x1023x2048_S4x1024x2048_000_100_000 h_S_) h

def latAfter (h : FVec Ideal S4x1024x2048 .f32) : FVec Ideal S4x1024x2048 .f32 :=
  subf (pad S4x1024x2048 ![0, 0, 0] ![0, 1, 0] ![0, 0, 0] (extractStridedSlice S4x1023x2048 ![0, 1, 0] h slices_S4x1024x2048_S4x1023x2048_0_1_0) (sitofp .f32 (constantI S_ 32 0#32)) pads_S4x1023x2048_S4x1024x2048_000_010_000 h_S_) h

/-- One of the six mixes of the context's tokens, and of the latent sequences'. -/
def ctxMix (i : Nat) (hi : S6x2048.Slices ![i, 0] S1x2048) : FVec Ideal S16x256x2048 .f32 :=
  addf (addf (ctx x mods) (mulf (broadcastInDim S16x256x2048 ![0, 1, 2] bcast_S1x1x2048_S16x256x2048_0_1_2 (broadcastInDim S1x1x2048 ![2] bcast_S2048_S1x1x2048_2 (shapeCast _ (extractStridedSlice S1x2048 ![i, 0] mp hi) shapeCasts_S1x2048_S2048))) (ctxBefore (ctx x mods)))) (mulf (broadcastInDim S16x256x2048 ![0, 1, 2] bcast_S1x1x2048_S16x256x2048_0_1_2 (broadcastInDim S1x1x2048 ![2] bcast_S2048_S1x1x2048_2 (shapeCast _ (extractStridedSlice S1x2048 ![i, 0] mn hi) shapeCasts_S1x2048_S2048))) (ctxAfter (ctx x mods)))

def latMix (i : Nat) (hi : S6x2048.Slices ![i, 0] S1x2048) : FVec Ideal S4x1024x2048 .f32 :=
  addf (addf (lat x mods) (mulf (broadcastInDim S4x1024x2048 ![0, 1, 2] bcast_S1x1x2048_S4x1024x2048_0_1_2 (broadcastInDim S1x1x2048 ![2] bcast_S2048_S1x1x2048_2 (shapeCast _ (extractStridedSlice S1x2048 ![i, 0] mp hi) shapeCasts_S1x2048_S2048))) (latBefore (lat x mods)))) (mulf (broadcastInDim S4x1024x2048 ![0, 1, 2] bcast_S1x1x2048_S4x1024x2048_0_1_2 (broadcastInDim S1x1x2048 ![2] bcast_S2048_S1x1x2048_2 (shapeCast _ (extractStridedSlice S1x2048 ![i, 0] mn hi) shapeCasts_S1x2048_S2048))) (latAfter (lat x mods)))

/-- One of the reference's six results. -/
def whole (i : Nat) (hi : S6x2048.Slices ![i, 0] S1x2048) : FVec Ideal S8192x2048 .bf16 :=
  truncf .bf16 (concatenate S8192x2048 0 [⟨S4096x2048, (shapeCast _ (ctxMix x mods mp mn i hi) shapeCasts_S16x256x2048_S4096x2048)⟩, ⟨S4096x2048, (shapeCast _ (latMix x mods mp mn i hi) shapeCasts_S4x1024x2048_S4096x2048)⟩] concatenates_S4096x2048_S4096x2048_S8192x2048_d0) bitsLt_bf16_f32

/-- The condition of a token: the first 4096 share one, then every 1024 have their own. -/
def cond (n : Nat) (h : n < 8192) : Fin 8 := ⟨n / 1024 - 3, by omega⟩

/-- A token's modulated input. -/
def token (n : Nat) (h : n < 8192) (l : Fin 2048) : EReal :=
  modded (x (ix2 ⟨n, h⟩ l)) (mods (ix3 (cond n h) 1 l)) (mods (ix3 (cond n h) 0 l))

/-- A token that starts its sequence, and one that ends it. -/
def starts (n : Nat) : Prop := n % 1024 = 0 ∨ (n < 4096 ∧ n % 256 = 0)
def ends (n : Nat) : Prop := n % 1024 = 1023 ∨ (n < 4096 ∧ n % 256 = 255)

instance (n : Nat) : Decidable (starts n) := inferInstanceAs (Decidable (_ ∨ _))
instance (n : Nat) : Decidable (ends n) := inferInstanceAs (Decidable (_ ∨ _))

/-- The modulated input of the token before, nothing where a sequence starts. -/
def before (n : Nat) (h : n < 8192) (l : Fin 2048) : EReal :=
  if starts n then 0 else token x mods (n - 1) (by omega) l

/-- The modulated input of the token after, nothing where a sequence ends. -/
def after (n : Nat) (h : n < 8192) (l : Fin 2048) : EReal :=
  if h' : ends n then 0 else token x mods (n + 1) (by unfold ends at h'; omega) l

theorem ctx_apply (s : Fin 16) (p : Fin 256) (l : Fin 2048) :
    ctx x mods (ix3 s p l) = token x mods (s.val * 256 + p.val) (by have := s.isLt; have := p.isLt; omega) l := by
  pointwise [ctx, Ideal.ofBits_one_f32]
  have hs := s.isLt
  have hp := p.isLt
  have e : cond (s.val * 256 + p.val) (by omega) = 0 := Fin.ext (show (s.val * 256 + p.val) / 1024 - 3 = 0 by omega)
  unfold token modded
  rw [e]

theorem lat_apply (s : Fin 4) (p : Fin 1024) (l : Fin 2048) :
    lat x mods (ix3 s p l) = token x mods (4096 + (s.val * 1024 + p.val)) (by have := s.isLt; have := p.isLt; omega) l := by
  pointwise [lat, Ideal.ofBits_one_f32]
  have hs := s.isLt
  have hp := p.isLt
  have e : cond (4096 + (s.val * 1024 + p.val)) (by omega) = ⟨1 + s.val, by omega⟩ :=
    Fin.ext (show (4096 + (s.val * 1024 + p.val)) / 1024 - 3 = 1 + s.val by omega)
  unfold token modded
  rw [e]

theorem zero_eq : FloatOps.sitofp (F := Ideal) .f32 (0#32) = 0 := by
  show ((((0#32 : BitVec 32).toInt : ℤ) : ℝ) : EReal) = 0
  simp

theorem ctxBefore_apply (h : FVec Ideal S16x256x2048 .f32) (s : Fin 16) (p : Fin 256) (l : Fin 2048) :
    ctxBefore h (ix3 s p l) = (if h' : 1 ≤ p.val ∧ p.val - 1 < 255 then h (ix3 s ⟨p.val - 1, by omega⟩ l) else 0) - h (ix3 s p l) := by
  rw [← zero_eq]
  pointwise [ctxBefore]

theorem ctxAfter_apply (h : FVec Ideal S16x256x2048 .f32) (s : Fin 16) (p : Fin 256) (l : Fin 2048) :
    ctxAfter h (ix3 s p l) = (if h' : p.val < 255 then h (ix3 s ⟨1 + p.val, by omega⟩ l) else 0) - h (ix3 s p l) := by
  rw [← zero_eq]
  pointwise [ctxAfter]

theorem latBefore_apply (h : FVec Ideal S4x1024x2048 .f32) (s : Fin 4) (p : Fin 1024) (l : Fin 2048) :
    latBefore h (ix3 s p l) = (if h' : 1 ≤ p.val ∧ p.val - 1 < 1023 then h (ix3 s ⟨p.val - 1, by omega⟩ l) else 0) - h (ix3 s p l) := by
  rw [← zero_eq]
  pointwise [latBefore]

theorem latAfter_apply (h : FVec Ideal S4x1024x2048 .f32) (s : Fin 4) (p : Fin 1024) (l : Fin 2048) :
    latAfter h (ix3 s p l) = (if h' : p.val < 1023 then h (ix3 s ⟨1 + p.val, by omega⟩ l) else 0) - h (ix3 s p l) := by
  rw [← zero_eq]
  pointwise [latAfter]

theorem ctxMix_apply (i : Fin 6) (hi) (s : Fin 16) (p : Fin 256) (l : Fin 2048) :
    ctxMix x mods mp mn i.val hi (ix3 s p l) = ctx x mods (ix3 s p l) + mp (ix2 i l) * ctxBefore (ctx x mods) (ix3 s p l)
      + mn (ix2 i l) * ctxAfter (ctx x mods) (ix3 s p l) := by
  pointwise [ctxMix]

theorem latMix_apply (i : Fin 6) (hi) (s : Fin 4) (p : Fin 1024) (l : Fin 2048) :
    latMix x mods mp mn i.val hi (ix3 s p l) = lat x mods (ix3 s p l) + mp (ix2 i l) * latBefore (lat x mods) (ix3 s p l)
      + mn (ix2 i l) * latAfter (lat x mods) (ix3 s p l) := by
  pointwise [latMix]

theorem token_congr {n n' : Nat} (h : n < 8192) (h' : n' < 8192) (e : n = n') (l : Fin 2048) :
    token x mods n h l = token x mods n' h' l := by
  subst e
  rfl

/-- A mix of the context's tokens at a token's place. -/
theorem ctxMix_eq (i : Fin 6) (hi) (n : Nat) (hn : n < 4096) (l : Fin 2048) :
    ctxMix x mods mp mn i.val hi (ix3 ⟨n / 256, by omega⟩ ⟨n % 256, by omega⟩ l) =
      mix (token x mods n (by omega) l) (before x mods n (by omega) l) (after x mods n (by omega) l) (mp (ix2 i l)) (mn (ix2 i l)) := by
  have e : ctx x mods (ix3 ⟨n / 256, by omega⟩ ⟨n % 256, by omega⟩ l) = token x mods n (by omega) l :=
    (ctx_apply x mods _ _ l).trans (token_congr x mods _ _ (show n / 256 * 256 + n % 256 = n by omega) l)
  have eb : (if h' : 1 ≤ n % 256 ∧ n % 256 - 1 < 255 then ctx x mods (ix3 ⟨n / 256, by omega⟩ ⟨n % 256 - 1, by omega⟩ l) else 0)
      = before x mods n (by omega) l := by
    unfold before
    by_cases h' : 1 ≤ n % 256 ∧ n % 256 - 1 < 255
    · rw [dif_pos h', if_neg (by unfold starts; omega)]
      exact (ctx_apply x mods _ _ l).trans (token_congr x mods _ _ (show n / 256 * 256 + (n % 256 - 1) = n - 1 by omega) l)
    · rw [dif_neg h', if_pos (by unfold starts; omega)]
  have ea : (if h' : n % 256 < 255 then ctx x mods (ix3 ⟨n / 256, by omega⟩ ⟨1 + n % 256, by omega⟩ l) else 0)
      = after x mods n (by omega) l := by
    unfold after
    by_cases h' : n % 256 < 255
    · rw [dif_pos h', dif_neg (by unfold ends; omega)]
      exact (ctx_apply x mods _ _ l).trans (token_congr x mods _ _ (show n / 256 * 256 + (1 + n % 256) = n + 1 by omega) l)
    · rw [dif_neg h', dif_pos (by unfold ends; omega)]
  rw [ctxMix_apply, ctxBefore_apply, ctxAfter_apply, e, eb, ea]
  rfl

/-- A mix of the latent sequences' tokens at a token's place. -/
theorem latMix_eq (i : Fin 6) (hi) (n : Nat) (hn : ¬ n < 4096) (h8 : n < 8192) (l : Fin 2048) :
    latMix x mods mp mn i.val hi (ix3 ⟨(n - 4096) / 1024, by omega⟩ ⟨(n - 4096) % 1024, by omega⟩ l) =
      mix (token x mods n h8 l) (before x mods n h8 l) (after x mods n h8 l) (mp (ix2 i l)) (mn (ix2 i l)) := by
  have e : lat x mods (ix3 ⟨(n - 4096) / 1024, by omega⟩ ⟨(n - 4096) % 1024, by omega⟩ l) = token x mods n h8 l :=
    (lat_apply x mods _ _ l).trans
      (token_congr x mods _ _ (show 4096 + ((n - 4096) / 1024 * 1024 + (n - 4096) % 1024) = n by omega) l)
  have eb : (if h' : 1 ≤ (n - 4096) % 1024 ∧ (n - 4096) % 1024 - 1 < 1023 then
      lat x mods (ix3 ⟨(n - 4096) / 1024, by omega⟩ ⟨(n - 4096) % 1024 - 1, by omega⟩ l) else 0) = before x mods n h8 l := by
    unfold before
    by_cases h' : 1 ≤ (n - 4096) % 1024 ∧ (n - 4096) % 1024 - 1 < 1023
    · rw [dif_pos h', if_neg (by unfold starts; omega)]
      exact (lat_apply x mods _ _ l).trans
        (token_congr x mods _ _ (show 4096 + ((n - 4096) / 1024 * 1024 + ((n - 4096) % 1024 - 1)) = n - 1 by omega) l)
    · rw [dif_neg h', if_pos (by unfold starts; omega)]
  have ea : (if h' : (n - 4096) % 1024 < 1023 then
      lat x mods (ix3 ⟨(n - 4096) / 1024, by omega⟩ ⟨1 + (n - 4096) % 1024, by omega⟩ l) else 0) = after x mods n h8 l := by
    unfold after
    by_cases h' : (n - 4096) % 1024 < 1023
    · rw [dif_pos h', dif_neg (by unfold ends; omega)]
      exact (lat_apply x mods _ _ l).trans
        (token_congr x mods _ _ (show 4096 + ((n - 4096) / 1024 * 1024 + (1 + (n - 4096) % 1024)) = n + 1 by omega) l)
    · rw [dif_neg h', dif_pos (by unfold ends; omega)]
  rw [latMix_apply, latBefore_apply, latAfter_apply, e, eb, ea]
  rfl

/-- One of the reference's results at an entry. -/
theorem whole_apply (i : Fin 6) (hi) (n : Fin 8192) (l : Fin 2048) :
    whole x mods mp mn i.val hi (ix2 n l) =
      mix (token x mods n.val n.isLt l) (before x mods n.val n.isLt l) (after x mods n.val n.isLt l) (mp (ix2 i l)) (mn (ix2 i l)) := by
  pointwise [whole]
  by_cases h : n.val < 4096
  · rw [dif_pos h]
    exact ctxMix_eq x mods mp mn i hi n.val h l
  · rw [dif_neg h]
    exact latMix_eq x mods mp mn i hi n.val h n.isLt l

end Cert.Proof.Premix

end
-- ==== Proof.PremixArray.lean ====
/- What the six results of the token shift hold after the run (hand-written). -/
module

public import proofs.«01_k».proof.Proof.Gen.Kernel5Ideal.Value
public import proofs.«01_k».proof.Proof.PremixRef
public import proofs.«01_k».proof.Proof.Tile

@[expose] public section

noncomputable section

namespace Cert.Proof.Premix

open Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ) (c : Dev nD)

/-- One of the six results the kernel is to leave. -/
abbrev goal (i : Nat) (hi : Cert.Reference5Ideal.S6x2048.Slices ![i, 0] Cert.Reference5Ideal.S1x2048) : FVec Ideal S8192x2048 .bf16 :=
  whole (m ((c : Thread nD τ).loc main_arg0)) (m ((c : Thread nD τ).loc main_arg1)) (m ((c : Thread nD τ).loc main_arg2))
    (m ((c : Thread nD τ).loc main_arg3)) i hi

/-- Where each window's block sits: the tokens' rows and the edge rows move with the point, the modulation's row is the
    tile's condition, the mixes stay. -/
theorem index_facts : ∀ t : Fin grid0.N,
    (win0_0.index t 0 = t.val ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val / 4 - 3 ∧ win0_3.index t 1 = 0 ∧ win0_3.index t 2 = 0)
    ∧ (win0_4.index t 0 = 0 ∧ win0_4.index t 1 = 0) ∧ (win0_5.index t 0 = 0 ∧ win0_5.index t 1 = 0) := by
  decide +kernel

/-- Where the six results' blocks sit: rows `256 t …`. -/
theorem result_facts : ∀ t : Fin grid0.N,
    (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by
  decide +kernel

theorem row_lt (t : Fin cfg0.N) (r : Fin 256) : 256 * t.val + r.val < 8192 := by
  have := t.isLt; have : cfg0.N = 32 := N_0; have := r.isLt; omega

/-- Row `256 t + r` of the whole array. -/
def row (t : Fin cfg0.N) (r : Fin 256) : Fin 8192 := ⟨256 * t.val + r.val, row_lt t r⟩

/-- The tokens' block at point `t` is rows `256 t …` of the argument. -/
theorem block0 (t : Fin cfg0.N) (r : Fin 256) (k : Fin 2048) :
    (iblk m c 0 t : Vec Ideal S256x2048 .f32) (ix2 r k) = m ((c : Thread nD τ).loc main_arg0) (ix2 (row t r) k) := by
  unfold iblk
  refine Eq.trans (View.read_apply ..) ?_
  refine Eq.trans (congrFun (V_main_arg0 m c) _) ?_
  congr 1
  funext a
  apply Fin.ext
  match a with
  | ⟨0, _⟩ => show win0_0.index t 0 * 256 + 1 * r.val = 256 * t.val + r.val; rw [(index_facts t).1.1]; omega
  | ⟨1, _⟩ => show win0_0.index t 1 * 2048 + 1 * k.val = k.val; rw [(index_facts t).1.2]; omega

/-- The row before each tile, as the host lays it out. -/
theorem edge_before (t : Fin 32) (ht : 0 < t.val) (l : Fin 2048) :
    V m c main_v4 (ix3 t 0 l) = m ((c : Thread nD τ).loc main_arg0) (ix2 ⟨256 * t.val - 1, by have := t.isLt; omega⟩ l) := by
  have e : V m c main_v4 = broadcastInDim S32x1x2048 ![0, 2] bcast_S32x2048_S32x1x2048_0_2
      (concatenate S32x2048 0 [⟨S1x2048, broadcastInDim S1x2048 ![] bcast_S_S1x2048 (constant (F := Ideal) S_ .f32 0x00000000#32)⟩,
        ⟨S31x2048, extractStridedSlice S31x2048 ![0, 0] (Host.slice S32x2048 ![255, 0] ![256, 1] (m ((c : Thread nD τ).loc main_arg0)) slicesBy_S8192x2048_S32x2048_255s256_0s1) slices_S32x2048_S31x2048_0_0⟩]
        concatenates_S1x2048_S31x2048_S32x2048_d0) := by
    unfold V hostOps0
    after_results_simp <;> rfl
  rw [e]
  pointwise
  rw [dif_neg (by omega)]
  congr 3
  omega

/-- The row after each tile, as the host lays it out. -/
theorem edge_after (t : Fin 32) (ht : t.val < 31) (l : Fin 2048) :
    V m c main_v8 (ix3 t 0 l) = m ((c : Thread nD τ).loc main_arg0) (ix2 ⟨256 * t.val + 256, by have := t.isLt; omega⟩ l) := by
  have e : V m c main_v8 = broadcastInDim S32x1x2048 ![0, 2] bcast_S32x2048_S32x1x2048_0_2
      (concatenate S32x2048 0 [⟨S31x2048, extractStridedSlice S31x2048 ![1, 0] (Host.slice S32x2048 ![0, 0] ![256, 1] (m ((c : Thread nD τ).loc main_arg0)) slicesBy_S8192x2048_S32x2048_0s256_0s1) slices_S32x2048_S31x2048_1_0⟩,
        ⟨S1x2048, broadcastInDim S1x2048 ![] bcast_S_S1x2048 (constant (F := Ideal) S_ .f32 0x00000000#32)⟩]
        concatenates_S31x2048_S1x2048_S32x2048_d0) := by
    unfold V hostOps0
    after_results_simp <;> rfl
  rw [e]
  pointwise
  rw [dif_pos ht]
  congr 3
  omega

/-- The point's number as a row of the edge arrays. -/
def tile (t : Fin cfg0.N) : Fin 32 := ⟨t.val, by have := t.isLt; have : cfg0.N = 32 := N_0; omega⟩

/-- The edge rows' blocks at point `t`. -/
theorem block1 (t : Fin cfg0.N) (l : Fin 2048) :
    (iblk m c 1 t : Vec Ideal S1x1x2048 .f32) (ix3 0 0 l) = V m c main_v4 (ix3 (tile t) 0 l) := by
  unfold iblk
  refine Eq.trans (View.read_apply ..) ?_
  show V m c main_v4 _ = V m c main_v4 _
  congr 1
  funext a
  apply Fin.ext
  match a with
  | ⟨0, _⟩ => show win0_1.index t 0 * 1 + 1 * 0 = t.val; rw [(index_facts t).2.1.1]; omega
  | ⟨1, _⟩ => show win0_1.index t 1 * 1 + 1 * 0 = 0; rw [(index_facts t).2.1.2.1]
  | ⟨2, _⟩ => show win0_1.index t 2 * 2048 + 1 * l.val = l.val; rw [(index_facts t).2.1.2.2]; omega

theorem block2 (t : Fin cfg0.N) (l : Fin 2048) :
    (iblk m c 2 t : Vec Ideal S1x1x2048 .f32) (ix3 0 0 l) = V m c main_v8 (ix3 (tile t) 0 l) := by
  unfold iblk
  refine Eq.trans (View.read_apply ..) ?_
  show V m c main_v8 _ = V m c main_v8 _
  congr 1
  funext a
  apply Fin.ext
  match a with
  | ⟨0, _⟩ => show win0_2.index t 0 * 1 + 1 * 0 = t.val; rw [(index_facts t).2.2.1.1]; omega
  | ⟨1, _⟩ => show win0_2.index t 1 * 1 + 1 * 0 = 0; rw [(index_facts t).2.2.1.2.1]
  | ⟨2, _⟩ => show win0_2.index t 2 * 2048 + 1 * l.val = l.val; rw [(index_facts t).2.2.1.2.2]; omega

/-- The modulation's block at point `t`: the six rows of the condition of any token `n` of the tile's sequence. -/
theorem block3 (t : Fin cfg0.N) (n : Nat) (h : n < 8192) (hn : n / 1024 - 3 = t.val / 4 - 3) (i : Fin 6) (k : Fin 2048) :
    (iblk m c 3 t : Vec Ideal S1x6x2048 .f32) (ix3 0 i k) = m ((c : Thread nD τ).loc main_arg1) (ix3 (cond n h) i k) := by
  unfold iblk
  refine Eq.trans (View.read_apply ..) ?_
  refine Eq.trans (congrFun (V_main_arg1 m c) _) ?_
  congr 1
  funext a
  apply Fin.ext
  match a with
  | ⟨0, _⟩ => show win0_3.index t 0 * 1 + 1 * 0 = n / 1024 - 3; rw [(index_facts t).2.2.2.1.1]; omega
  | ⟨1, _⟩ => show win0_3.index t 1 * 6 + 1 * i.val = i.val; rw [(index_facts t).2.2.2.1.2.1]; omega
  | ⟨2, _⟩ => show win0_3.index t 2 * 2048 + 1 * k.val = k.val; rw [(index_facts t).2.2.2.1.2.2]; omega

/-- The mixes' blocks at any point are the arguments. -/
theorem block4 (t : Fin cfg0.N) (i : Fin 6) (l : Fin 2048) :
    (iblk m c 4 t : Vec Ideal S6x2048 .f32) (ix2 i l) = m ((c : Thread nD τ).loc main_arg2) (ix2 i l) :=
  (View.read_apply ..).trans ((congrFun (V_main_arg2 m c) _).trans (congrArg (m ((c : Thread nD τ).loc main_arg2))
    (Tile.eq_ix2 (Tile.at_whole (index_facts t).2.2.2.2.1.1) (Tile.at_whole (index_facts t).2.2.2.2.1.2))))

theorem block5 (t : Fin cfg0.N) (i : Fin 6) (l : Fin 2048) :
    (iblk m c 5 t : Vec Ideal S6x2048 .f32) (ix2 i l) = m ((c : Thread nD τ).loc main_arg3) (ix2 i l) :=
  (View.read_apply ..).trans ((congrFun (V_main_arg3 m c) _).trans (congrArg (m ((c : Thread nD τ).loc main_arg3))
    (Tile.eq_ix2 (Tile.at_whole (index_facts t).2.2.2.2.2.1) (Tile.at_whole (index_facts t).2.2.2.2.2.2))))

/-- A value of a token of the tile's sequence, modulated by the tile's condition. -/
theorem tiled_eq (t : Fin cfg0.N) (n : Nat) (h : n < 8192) (hn : n / 1024 - 3 = t.val / 4 - 3) (l : Fin 2048) (v : EReal)
    (hv : v = m ((c : Thread nD τ).loc main_arg0) (ix2 ⟨n, h⟩ l)) :
    tiled (iblk m c 3 t : Vec Ideal S1x6x2048 .f32) l v
      = token (m ((c : Thread nD τ).loc main_arg0)) (m ((c : Thread nD τ).loc main_arg1)) n h l := by
  unfold tiled token
  rw [hv, block3 m c t n h hn 1 l, block3 m c t n h hn 0 l]

/-- What the body takes for the token before is that token's value. -/
theorem before_eq (t : Fin cfg0.N) (r : Fin 256) (l : Fin 2048) :
    (if r.val = 0 then
        (if inner t.val = true then tiled (iblk m c 3 t : Vec Ideal S1x6x2048 .f32) l ((iblk m c 1 t : Vec Ideal S1x1x2048 .f32) (ix3 0 0 l)) else 0)
      else tiled (iblk m c 3 t : Vec Ideal S1x6x2048 .f32) l ((iblk m c 0 t : Vec Ideal S256x2048 .f32) (ix2 (up r) l)))
    = before (m ((c : Thread nD τ).loc main_arg0)) (m ((c : Thread nD τ).loc main_arg1)) (256 * t.val + r.val) (row_lt t r) l := by
  have hr := r.isLt
  have ht : t.val < 32 := (tile t).isLt
  unfold before inner
  simp only [decide_eq_true_eq]
  by_cases h0 : r.val = 0
  · rw [if_pos h0]
    by_cases h1 : 16 ≤ t.val ∧ t.val % 4 ≠ 0
    · rw [if_pos h1, if_neg (by unfold starts; omega)]
      refine tiled_eq m c t _ _ (by omega) l _ ((block1 m c t l).trans ((edge_before m c (tile t) (by show 0 < t.val; omega) l).trans ?_))
      congr 3
      show 256 * t.val - 1 = 256 * t.val + r.val - 1
      omega
    · rw [if_neg h1, if_pos (by unfold starts; omega)]
  · rw [if_neg h0, if_neg (by unfold starts; omega)]
    refine tiled_eq m c t _ _ (by omega) l _ ((block0 m c t (up r) l).trans ?_)
    congr 2
    apply Fin.ext
    show 256 * t.val + (r.val + 256 - 1) % 256 = 256 * t.val + r.val - 1
    omega

/-- What the body takes for the token after is that token's value. -/
theorem after_eq (t : Fin cfg0.N) (r : Fin 256) (l : Fin 2048) :
    (if r.val = 255 then
        (if outer t.val = true then tiled (iblk m c 3 t : Vec Ideal S1x6x2048 .f32) l ((iblk m c 2 t : Vec Ideal S1x1x2048 .f32) (ix3 0 0 l)) else 0)
      else tiled (iblk m c 3 t : Vec Ideal S1x6x2048 .f32) l ((iblk m c 0 t : Vec Ideal S256x2048 .f32) (ix2 (down r) l)))
    = after (m ((c : Thread nD τ).loc main_arg0)) (m ((c : Thread nD τ).loc main_arg1)) (256 * t.val + r.val) (row_lt t r) l := by
  have hr := r.isLt
  have ht : t.val < 32 := (tile t).isLt
  unfold after outer
  simp only [decide_eq_true_eq]
  by_cases h0 : r.val = 255
  · rw [if_pos h0]
    by_cases h1 : 16 ≤ t.val ∧ t.val % 4 ≠ 3
    · rw [if_pos h1, dif_neg (by unfold ends; omega)]
      refine tiled_eq m c t _ _ (by omega) l _ ((block2 m c t l).trans ((edge_after m c (tile t) (by show t.val < 31; omega) l).trans ?_))
      congr 3
      show 256 * t.val + 256 = 256 * t.val + r.val + 1
      omega
    · rw [if_neg h1, dif_pos (by unfold ends; omega)]
  · rw [if_neg h0, dif_neg (by unfold ends; omega)]
    refine tiled_eq m c t _ _ (by omega) l _ ((block0 m c t (down r) l).trans ?_)
    congr 2
    apply Fin.ext
    show 256 * t.val + (r.val + 256 - 255) % 256 = 256 * t.val + r.val + 1
    omega

/-- A result of point `t`, at an entry, is the goal's. -/
theorem stored_eq (t : Fin cfg0.N) (i : Fin 6) (h) (hi) (r : Fin 256) (l : Fin 2048) :
    stored t (iblk m c 0 t) (iblk m c 1 t) (iblk m c 2 t) (iblk m c 3 t) (iblk m c 4 t) (iblk m c 5 t) i h (ix2 r l)
      = goal m c i.val hi (ix2 (row t r) l) := by
  have hr := r.isLt
  refine (stored_apply ..).trans (Eq.trans ?_ (whole_apply _ _ _ _ i hi (row t r) l).symm)
  rw [before_eq, after_eq, block4, block5, tiled_eq m c t _ (row_lt t r) (by omega) l _ (block0 m c t r l)]
  rfl

/-- The stored block, compared with any block that holds the goal's rows `256 t …`. -/
theorem stored_block (t : Fin cfg0.N) (i : Fin 6) (h) (hi) (q : FVec Ideal S256x2048 .bf16)
    (hq : ∀ r l, q (ix2 r l) = goal m c i.val hi (ix2 (row t r) l)) :
    (View.canon [⟨r0_2, stored t (iblk m c 0 t) (iblk m c 1 t) (iblk m c 2 t) (iblk m c 3 t) (iblk m c 4 t) (iblk m c 5 t) i h⟩] : Vec Ideal S256x2048 .bf16) = q := by
  rw [View.canon_unit_zero zeros2]
  funext j
  obtain ⟨r, l, rfl⟩ : ∃ (r : Fin 256) (l : Fin 2048), j = ix2 r l := ⟨j 0, j 1, by funext a; fin_cases a <;> rfl⟩
  exact (stored_eq m c t i h hi r l).trans (hq r l).symm

/-- The place of an entry of a result's block. -/
theorem place (t : Fin cfg0.N) (f : Fin 2 → Nat) (hf : f 0 = t.val ∧ f 1 = 0) (r : Fin 256) (l : Fin 2048) (j : S8192x2048.Idx)
    (h0 : (j 0).val = f 0 * 256 + 1 * r.val) (h1 : (j 1).val = f 1 * 2048 + 1 * l.val) : j = ix2 (row t r) l := by
  funext a
  apply Fin.ext
  match a with
  | ⟨0, _⟩ => show (j 0).val = 256 * t.val + r.val; rw [h0, hf.1]; omega
  | ⟨1, _⟩ => show (j 1).val = l.val; rw [h1, hf.2]; omega

/-- The point whose block an entry lies in. -/
def at_point (j : S8192x2048.Idx) : Fin cfg0.N :=
  ⟨(j 0).val / 256, by have : (j 0).val < 8192 := (j 0).isLt; have : cfg0.N = 32 := N_0; omega⟩

theorem within (j : S8192x2048.Idx) (f : Fin 2 → Nat) (hf : f 0 = (at_point j).val ∧ f 1 = 0) (a : Fin 2) :
    f a * S256x2048.size a ≤ (j a).val ∧ (j a).val < f a * S256x2048.size a + S256x2048.size a := by
  have h0 : (j 0).val < 8192 := (j 0).isLt
  have h1 : (j 1).val < 2048 := (j 1).isLt
  have e : (at_point j).val = (j 0).val / 256 := rfl
  match a with
  | ⟨0, _⟩ => show f 0 * 256 ≤ (j 0).val ∧ (j 0).val < f 0 * 256 + 256; rw [hf.1, e]; omega
  | ⟨1, _⟩ => show f 1 * 2048 ≤ (j 1).val ∧ (j 1).val < f 1 * 2048 + 2048; rw [hf.2]; omega

/-- An entry's place in a set of rows and columns that holds its point's block. -/
theorem mem_block {s t : Finset S8192x2048.Idx} {j : S8192x2048.Idx} (e : s = t) (h : j ∈ t) : j ∈ s := e ▸ h

/-- The first result array ends holding the reference's. -/
theorem final0 (hi) : (dats m 0 c).arrAt 6 cfg0.N = goal m c 0 hi :=
  (dats m 0 c).arrAt_eq_of_cover 6 (goal m c 0 hi)
    (fun t _ => (Cert.Kernel5Ideal.Value.flushed6 m c t).trans (stored_block m c t 0 _ hi _ fun r l => (View.read_apply ..).trans
      (congrArg (goal m c 0 hi) (place t (win0_6.index t) (result_facts t).1 r l _ rfl rfl))))
    fun j => ⟨at_point j, flush0_6 _, mem_block (View.set_slice_whole main_v9_0 (win0_6.rect (at_point j)))
      (Rect.mem_set_unit.mpr (within j _ (result_facts _).1))⟩

/-- The second one. -/
theorem final1 (hi) : (dats m 0 c).arrAt 7 cfg0.N = goal m c 1 hi :=
  (dats m 0 c).arrAt_eq_of_cover 7 (goal m c 1 hi)
    (fun t _ => (Cert.Kernel5Ideal.Value.flushed7 m c t).trans (stored_block m c t 1 _ hi _ fun r l => (View.read_apply ..).trans
      (congrArg (goal m c 1 hi) (place t (win0_7.index t) (result_facts t).2.1 r l _ rfl rfl))))
    fun j => ⟨at_point j, flush0_7 _, mem_block (View.set_slice_whole main_v9_1 (win0_7.rect (at_point j)))
      (Rect.mem_set_unit.mpr (within j _ (result_facts _).2.1))⟩

/-- The third one. -/
theorem final2 (hi) : (dats m 0 c).arrAt 8 cfg0.N = goal m c 2 hi :=
  (dats m 0 c).arrAt_eq_of_cover 8 (goal m c 2 hi)
    (fun t _ => (Cert.Kernel5Ideal.Value.flushed8 m c t).trans (stored_block m c t 2 _ hi _ fun r l => (View.read_apply ..).trans
      (congrArg (goal m c 2 hi) (place t (win0_8.index t) (result_facts t).2.2.1 r l _ rfl rfl))))
    fun j => ⟨at_point j, flush0_8 _, mem_block (View.set_slice_whole main_v9_2 (win0_8.rect (at_point j)))
      (Rect.mem_set_unit.mpr (within j _ (result_facts _).2.2.1))⟩

/-- The fourth one. -/
theorem final3 (hi) : (dats m 0 c).arrAt 9 cfg0.N = goal m c 3 hi :=
  (dats m 0 c).arrAt_eq_of_cover 9 (goal m c 3 hi)
    (fun t _ => (Cert.Kernel5Ideal.Value.flushed9 m c t).trans (stored_block m c t 3 _ hi _ fun r l => (View.read_apply ..).trans
      (congrArg (goal m c 3 hi) (place t (win0_9.index t) (result_facts t).2.2.2.1 r l _ rfl rfl))))
    fun j => ⟨at_point j, flush0_9 _, mem_block (View.set_slice_whole main_v9_3 (win0_9.rect (at_point j)))
      (Rect.mem_set_unit.mpr (within j _ (result_facts _).2.2.2.1))⟩

/-- The fifth one. -/
theorem final4 (hi) : (dats m 0 c).arrAt 10 cfg0.N = goal m c 4 hi :=
  (dats m 0 c).arrAt_eq_of_cover 10 (goal m c 4 hi)
    (fun t _ => (Cert.Kernel5Ideal.Value.flushed10 m c t).trans (stored_block m c t 4 _ hi _ fun r l => (View.read_apply ..).trans
      (congrArg (goal m c 4 hi) (place t (win0_10.index t) (result_facts t).2.2.2.2.1 r l _ rfl rfl))))
    fun j => ⟨at_point j, flush0_10 _, mem_block (View.set_slice_whole main_v9_4 (win0_10.rect (at_point j)))
      (Rect.mem_set_unit.mpr (within j _ (result_facts _).2.2.2.2.1))⟩

/-- The sixth one. -/
theorem final5 (hi) : (dats m 0 c).arrAt 11 cfg0.N = goal m c 5 hi :=
  (dats m 0 c).arrAt_eq_of_cover 11 (goal m c 5 hi)
    (fun t _ => (Cert.Kernel5Ideal.Value.flushed11 m c t).trans (stored_block m c t 5 _ hi _ fun r l => (View.read_apply ..).trans
      (congrArg (goal m c 5 hi) (place t (win0_11.index t) (result_facts t).2.2.2.2.2 r l _ rfl rfl))))
    fun j => ⟨at_point j, flush0_11 _, mem_block (View.set_slice_whole main_v9_5 (win0_11.rect (at_point j)))
      (Rect.mem_set_unit.mpr (within j _ (result_facts _).2.2.2.2.2))⟩

end Cert.Proof.Premix

end
-- ==== Proof.PoolBlock.lean ====
/- The windowed sums of the pooling, and what one block of it computes, entry by entry (hand-written). -/
module

public import proofs.«01_k».proof.Proof.Gen.Kernel6Ideal.Frame
public import Idealize.ShloMosaic.Lib.Pointwise
public import Idealize.ShloMosaic.Lib.IdealHost
public import Idealize.ShloMosaic.Lib.WordCmp
public import Idealize.ShloMosaic.Lib.KernelVsHost

@[expose] public section

noncomputable section

namespace Cert.Proof.Pool

open Idealize.ShloMosaic

/-- A sequence's entry at a place, nothing outside the sequence. -/
def place (v : Fin 256 → EReal) (i : ℤ) : EReal := if h : 0 ≤ i ∧ i < 256 then v ⟨i.toNat, by omega⟩ else 0

theorem place_in (v : Fin 256 → EReal) (r : Fin 256) (i : ℤ) (e : i = r.val) : place v i = v r := by
  subst e
  unfold place
  rw [dif_pos ⟨by omega, by omega⟩]
  rfl

theorem place_out (v : Fin 256 → EReal) (i : ℤ) (h : ¬ (0 ≤ i ∧ i < 256)) : place v i = 0 := dif_neg h

/-- `a` holds, at every place, the sum of the `k` entries of `v` from that place on. -/
def Ahead (v a : Fin 256 → EReal) (k : ℕ) : Prop := ∀ i : ℤ, 0 ≤ i → place a i = ∑ j ∈ Finset.range k, place v (i + j)

/-- `b` holds, at every place, the sum of the `k` entries of `v` up to that place. -/
def Behind (v b : Fin 256 → EReal) (k : ℕ) : Prop := ∀ i : ℤ, i < 256 → place b i = ∑ j ∈ Finset.range k, place v (i - j)

theorem ahead_one (v : Fin 256 → EReal) : Ahead v v 1 := fun i _ => by simp

theorem behind_one (v : Fin 256 → EReal) : Behind v v 1 := fun i _ => by simp

/-- Adding what lies `k` places on doubles the window ahead. -/
theorem ahead_double {v a b : Fin 256 → EReal} {k : ℕ} (ha : Ahead v a k) (hb : ∀ r : Fin 256, b r = a r + place a (r.val + k)) :
    Ahead v b (k + k) := by
  intro i hi
  by_cases h : i < 256
  · have e : i = ((⟨i.toNat, by omega⟩ : Fin 256).val : ℤ) := by show i = (i.toNat : ℤ); omega
    rw [place_in b _ i e, hb, ← place_in a _ i e, ← e, ha i hi, ha (i + k) (by omega), Finset.sum_range_add]
    simp only [Nat.cast_add, add_assoc]
  · rw [place_out b i (by omega)]
    exact (Finset.sum_eq_zero fun j _ => place_out v _ (by omega)).symm

/-- Adding what lies `k` places back doubles the window behind. -/
theorem behind_double {v a b : Fin 256 → EReal} {k : ℕ} (ha : Behind v a k) (hb : ∀ r : Fin 256, b r = a r + place a (r.val - k)) :
    Behind v b (k + k) := by
  intro i hi
  by_cases h : 0 ≤ i
  · have e : i = ((⟨i.toNat, by omega⟩ : Fin 256).val : ℤ) := by show i = (i.toNat : ℤ); omega
    rw [place_in b _ i e, hb, ← place_in a _ i e, ← e, ha i hi, ha (i - k) (by omega), Finset.sum_range_add]
    simp only [Nat.cast_add, sub_sub]
  · rw [place_out b i (by omega)]
    exact (Finset.sum_eq_zero fun j _ => place_out v _ (by omega)).symm

/-- The sum over the centred window of a place: `m` entries before it, itself and the `m - 1` after it. -/
def window (v : Fin 256 → EReal) (m : ℕ) (r : Fin 256) : EReal :=
  ∑ s : Fin 256, if r.val ≤ s.val + m ∧ s.val < r.val + m then v s else 0

theorem sum_single (v : Fin 256 → EReal) (i : ℤ) : (∑ s : Fin 256, if (s.val : ℤ) = i then v s else 0) = place v i := by
  by_cases h : 0 ≤ i ∧ i < 256
  · have e : i = ((⟨i.toNat, by omega⟩ : Fin 256).val : ℤ) := by show i = (i.toNat : ℤ); omega
    rw [place_in v _ i e, Finset.sum_eq_single (⟨i.toNat, by omega⟩ : Fin 256)]
    · rw [if_pos e.symm]
    · intro s _ hs
      rw [if_neg]
      intro e'
      exact hs (Fin.ext (by show s.val = i.toNat; omega))
    · intro hs
      exact absurd (Finset.mem_univ _) hs
  · rw [place_out v i h]
    exact Finset.sum_eq_zero fun s _ => if_neg (by omega)

/-- The centred window is the window ahead and the window behind the place before. -/
theorem window_eq (v : Fin 256 → EReal) (m : ℕ) (r : Fin 256) :
    window v m r = ∑ j ∈ Finset.range m, place v (r.val + j) + ∑ j ∈ Finset.range m, place v (r.val - 1 - j) := by
  induction m with
  | zero =>
    simp only [Finset.range_zero, Finset.sum_empty, add_zero]
    exact Finset.sum_eq_zero fun s _ => if_neg (by omega)
  | succ m ih =>
    rw [Finset.sum_range_succ, Finset.sum_range_succ, add_add_add_comm, ← ih, ← sum_single, ← sum_single,
      ← Finset.sum_add_distrib]
    unfold window
    rw [← Finset.sum_add_distrib]
    refine Finset.sum_congr rfl fun s _ => ?_
    split_ifs <;> first | omega | simp

/-- The two windows make the centred one. -/
theorem window_of {v a b : Fin 256 → EReal} {m : ℕ} (ha : Ahead v a m) (hb : Behind v b m) (r : Fin 256) :
    a r + place b (r.val - 1) = window v m r := by
  rw [window_eq, ← ha r.val (by omega), ← hb (r.val - 1) (by omega), place_in a r _ rfl]

section
open Cert.Kernel6Ideal Cert.Kernel6Ideal.Gen

variable (v : FVec Ideal S256x512 .f32) (r : Fin 256) (l : Fin 512)

/-- One column of a block. -/
def column (r : Fin 256) : EReal := v (ix2 r l)

/-- The rows' numbers. -/
abbrev rows : IVec S256x512 32 := iota .tc S256x512 32 [0] iota_S256x512_d0_w32

/-- The rows turned up, nothing where they come around. -/
def forward (k : BitVec 32) : FVec Ideal S256x512 .f32 :=
  select (cmpi .slt rows (broadcast S256x512 k)) (dynamicRotate 0 k none v rotates_S256x512_d0)
    (broadcast S256x512 (Scalar.ofBits (F := Ideal) .f32 0x00000000#32))

/-- The rows turned down, nothing where they come around. -/
def back (k : BitVec 32) : FVec Ideal S256x512 .f32 :=
  select (cmpi .sge rows (broadcast S256x512 k)) (dynamicRotate 0 k none v rotates_S256x512_d0)
    (broadcast S256x512 (Scalar.ofBits (F := Ideal) .f32 0x00000000#32))

theorem zero_word : (Scalar.ofBits (F := Ideal) .f32 0x00000000#32 : EReal) = 0 := Ideal.ofBits_zero_f32

theorem forward_apply (k : ℕ) (h0 : 0 < k) (hk : k < 256) :
    forward v (BitVec.ofNat 32 (256 - k)) (ix2 r l) = place (column v l) (r.val + k) := by
  have hr := r.isLt
  have e : cmpi .slt rows (broadcast S256x512 (BitVec.ofNat 32 (256 - k))) (ix2 r l) = BitVec.ofBool (decide (r.val < 256 - k)) := by
    refine Eq.trans ?_ (WordCmp.cmpi_slt_ofNat (w := 32) (by omega) (by omega))
    pointwise [rows]
  unfold forward
  show Scalar.select (cmpi .slt rows (broadcast S256x512 (BitVec.ofNat 32 (256 - k))) (ix2 r l)) _ (Scalar.ofBits (F := Ideal) .f32 0x00000000#32 : EReal) = _
  rw [e, WordCmp.select_decide, zero_word]
  by_cases h : r.val < 256 - k
  · rw [if_pos h, place_in _ ⟨r.val + k, by omega⟩ _ (by simp)]
    refine dynamicRotate_apply 0 _ v _ _ (ix2 ⟨r.val + k, by omega⟩ l) fun b => ?_
    match b with
    | ⟨0, _⟩ =>
      show r.val + k = (r.val + 256 - (BitVec.ofNat 32 (256 - k)).toNat % 256) % 256
      rw [WordCmp.toNat_ofNat_of_lt (by omega)]
      omega
    | ⟨1, _⟩ => rfl
  · rw [if_neg h, place_out _ _ (by omega)]

theorem back_apply (k : ℕ) (h0 : 0 < k) (hk : k < 256) :
    back v (BitVec.ofNat 32 k) (ix2 r l) = place (column v l) (r.val - k) := by
  have hr := r.isLt
  have e : cmpi .sge rows (broadcast S256x512 (BitVec.ofNat 32 k)) (ix2 r l) = BitVec.ofBool (decide (k ≤ r.val)) := by
    refine Eq.trans ?_ (WordCmp.cmpi_sge_ofNat (w := 32) (by omega) (by omega))
    pointwise [rows]
  unfold back
  show Scalar.select (cmpi .sge rows (broadcast S256x512 (BitVec.ofNat 32 k)) (ix2 r l)) _ (Scalar.ofBits (F := Ideal) .f32 0x00000000#32 : EReal) = _
  rw [e, WordCmp.select_decide, zero_word]
  by_cases h : k ≤ r.val
  · rw [if_pos h, place_in _ ⟨r.val - k, by omega⟩ _ (by simp; omega)]
    refine dynamicRotate_apply 0 _ v _ _ (ix2 ⟨r.val - k, by omega⟩ l) fun b => ?_
    match b with
    | ⟨0, _⟩ =>
      show r.val - k = (r.val + 256 - (BitVec.ofNat 32 k).toNat % 256) % 256
      rw [WordCmp.toNat_ofNat_of_lt (by omega)]
      omega
    | ⟨1, _⟩ => rfl
  · rw [if_neg h, place_out _ _ (by omega)]

/-- The windows ahead of two, four and eight rows. -/
def ahead2 : FVec Ideal S256x512 .f32 := addf v (forward v 255#32)
def ahead4 : FVec Ideal S256x512 .f32 := addf (ahead2 v) (forward (ahead2 v) 254#32)
def ahead8 : FVec Ideal S256x512 .f32 := addf (ahead4 v) (forward (ahead4 v) 252#32)

/-- The windows behind of two, four and eight rows. -/
def behind2 : FVec Ideal S256x512 .f32 := addf v (back v 1#32)
def behind4 : FVec Ideal S256x512 .f32 := addf (behind2 v) (back (behind2 v) 2#32)
def behind8 : FVec Ideal S256x512 .f32 := addf (behind4 v) (back (behind4 v) 4#32)

theorem ahead_step {h a : FVec Ideal S256x512 .f32} (k : ℕ) (w : BitVec 32) (hw : w = BitVec.ofNat 32 (256 - k)) (h0 : 0 < k)
    (hk : k < 256) (ha : Ahead (column h l) (column a l) k) :
    Ahead (column h l) (column (addf a (forward a w)) l) (k + k) := by
  subst hw
  exact ahead_double ha fun r => congrArg (fun q : EReal => a (ix2 r l) + q) (forward_apply a r l k h0 hk)

theorem behind_step {h a : FVec Ideal S256x512 .f32} (k : ℕ) (w : BitVec 32) (hw : w = BitVec.ofNat 32 k) (h0 : 0 < k)
    (hk : k < 256) (ha : Behind (column h l) (column a l) k) :
    Behind (column h l) (column (addf a (back a w)) l) (k + k) := by
  subst hw
  exact behind_double ha fun r => congrArg (fun q : EReal => a (ix2 r l) + q) (back_apply a r l k h0 hk)

theorem ahead2_sum : Ahead (column v l) (column (ahead2 v) l) 2 := ahead_step l 1 255#32 (by decide) (by omega) (by omega) (ahead_one _)
theorem ahead4_sum : Ahead (column v l) (column (ahead4 v) l) 4 := ahead_step l 2 254#32 (by decide) (by omega) (by omega) (ahead2_sum v l)
theorem ahead8_sum : Ahead (column v l) (column (ahead8 v) l) 8 := ahead_step l 4 252#32 (by decide) (by omega) (by omega) (ahead4_sum v l)
theorem behind2_sum : Behind (column v l) (column (behind2 v) l) 2 := behind_step l 1 1#32 (by decide) (by omega) (by omega) (behind_one _)
theorem behind4_sum : Behind (column v l) (column (behind4 v) l) 4 := behind_step l 2 2#32 (by decide) (by omega) (by omega) (behind2_sum v l)
theorem behind8_sum : Behind (column v l) (column (behind8 v) l) 8 := behind_step l 4 4#32 (by decide) (by omega) (by omega) (behind4_sum v l)

/-- The centred window's sum, from the window ahead and the window behind. -/
def centred (a b : FVec Ideal S256x512 .f32) : FVec Ideal S256x512 .f32 := addf a (back b 1#32)

theorem centred_apply {h a b : FVec Ideal S256x512 .f32} {k : ℕ} (ha : Ahead (column h l) (column a l) k)
    (hb : Behind (column h l) (column b l) k) : centred a b (ix2 r l) = window (column h l) k r :=
  (congrArg (fun q : EReal => a (ix2 r l) + q) (back_apply b r l 1 (by omega) (by omega))).trans (window_of ha hb r)

/-- The number of rows of a window that lie in the sequence. -/
def count (k : BitVec 32) (r : ℕ) : EReal :=
  FloatOps.sitofp (F := Ideal) .f32 (IntOp.subi (IntOp.minsi (IntOp.addi (BitVec.ofNat 32 r) k) 256#32)
    (IntOp.maxsi (IntOp.subi (BitVec.ofNat 32 r) k) 0#32))

/-- A block's mean over its windows. -/
def means (total : FVec Ideal S256x512 .f32) (k : BitVec 32) : FVec Ideal S256x512 .f32 :=
  divf total (sitofp .f32 (subi (minsi (addi rows (broadcast S256x512 k)) (broadcast S256x512 256#32))
    (maxsi (subi rows (broadcast S256x512 k)) (broadcast S256x512 0#32))))

/-- What a block stores: the means less the tokens, contracted with the group's weight and scaled. -/
def stored (mean h : FVec Ideal S256x512 .f32) (w : Vec Ideal S1x512x512 .f32) (s : Vec Ideal S1x512 .f32) : FVec Ideal S256x512 .f32 :=
  mulf (matmul dot_S256x512_S512x512_S256x512_1_0_0_1_n_n none (truncf .bf16 (subf mean h) bitsLt_bf16_f32)
    (truncf .bf16 (shapeCast S512x512 w shapeCasts_S1x512x512_S512x512) bitsLt_bf16_f32) (constant S256x512 .f32 0x00000000#32))
    (broadcastTo S256x512 (shapeCast S1x512 s shapeCasts_S1x512_S1x512) broadcasts_S1x512_S256x512)

theorem stored_apply (mean h : FVec Ideal S256x512 .f32) (w : Vec Ideal S1x512x512 .f32) (s : Vec Ideal S1x512 .f32) :
    stored mean h w s (ix2 r l) = (∑ c : Fin 512, (mean (ix2 r c) - h (ix2 r c)) * w (ix3 0 c l)) * s (ix2 0 l) := by
  pointwise [stored]

theorem means_apply (total : FVec Ideal S256x512 .f32) (k : BitVec 32) :
    means total k (ix2 r l) = Ideal.div (total (ix2 r l)) (count k r.val) := by
  pointwise [means, rows, count]

/-- A token's modulated input. -/
def modded (x scale shift : EReal) : EReal := x * (1 + scale) + shift

theorem pay1_apply (x : Vec Ideal S256x512 .f32) (scale shift : Vec Ideal S1x1x512 .f32) :
    k0_pay1 (F := Ideal) x scale shift (ix2 r l) = modded (x (ix2 r l)) (scale (ix3 0 0 l)) (shift (ix3 0 0 l)) := by
  pointwise [k0_pay1, modded, Ideal.ofBits_one_f32]

end

end Cert.Proof.Pool

end
-- ==== Proof.PoolRef.lean ====
/- What the reference of the pooling computes, entry by entry (hand-written). -/
module

public import proofs.«01_k».proof.Proof.PoolBlock
public import proofs.«01_k».proof.Proof.Gen.Reference6Ideal.Run

@[expose] public section

noncomputable section

namespace Cert.Proof.Pool

open Idealize.ShloMosaic Cert.Reference6Ideal Cert.Reference6Ideal.Gen

variable (x : FVec Ideal S8192x2048 .f32) (mods : FVec Ideal S8x6x2048 .f32) (w : FVec Ideal S4x512x512 .f32)
  (scale : FVec Ideal S2048 .f32)

/-- The context's modulated tokens, sequence by sequence. -/
def tokens : FVec Ideal S16x256x2048 .f32 :=
  addf (mulf (shapeCast _ (extractStridedSlice S4096x2048 ![0, 0] x slices_S8192x2048_S4096x2048_0_0) shapeCasts_S4096x2048_S16x256x2048) (broadcastInDim S16x256x2048 ![0, 1, 2] bcast_S1x1x2048_S16x256x2048_0_1_2 (broadcastInDim S1x1x2048 ![2] bcast_S2048_S1x1x2048_2 (addf (broadcastInDim S2048 ![] bcast_S_S2048 (constant S_ .f32 0x3F800000#32)) (shapeCast _ (extractStridedSlice S1x1x2048 ![0, 1, 0] mods slices_S8x6x2048_S1x1x2048_0_1_0) shapeCasts_S1x1x2048_S2048))))) (broadcastInDim S16x256x2048 ![0, 1, 2] bcast_S1x1x2048_S16x256x2048_0_1_2 (broadcastInDim S1x1x2048 ![2] bcast_S2048_S1x1x2048_2 (shapeCast _ (extractStridedSlice S1x1x2048 ![0, 0, 0] mods slices_S8x6x2048_S1x1x2048_0_0_0) shapeCasts_S1x1x2048_S2048)))

/-- One where a row lies in another's window, and zero elsewhere. -/
def band (k : BitVec 32) : FVec Ideal S256x256 .f32 :=
  select (andi (cmpi .sge (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (maxsi (subi (iotaInDim S256 32 0) (broadcastInDim S256 ![] bcast_S_S256 (constantI S_ 32 k))) (broadcastInDim S256 ![] bcast_S_S256 (constantI S_ 32 0#32)))))) (cmpi .slt (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (minsi (addi (iotaInDim S256 32 0) (broadcastInDim S256 ![] bcast_S_S256 (constantI S_ 32 k))) (broadcastInDim S256 ![] bcast_S_S256 (constantI S_ 32 256#32))))))) (broadcastInDim S256x256 ![] bcast_S_S256x256 (constant S_ .f32 0x3F800000#32)) (broadcastInDim S256x256 ![] bcast_S_S256x256 (constant S_ .f32 0x00000000#32))

/-- The means over the windows less the tokens. -/
def pooled (h : FVec Ideal S16x256x512 .f32) (k : BitVec 32) : FVec Ideal S16x256x512 .f32 :=
  subf (Host.divf (transpose S16x256x512 [0, 2, 1] (Host.dotGeneral dot_S16x256x512_S256x256_S16x512x256_1_1_02_0_n_n none h (band k)) transposes_S16x512x256_S16x256x512_0_2_1) (broadcastInDim S16x256x512 ![0, 1, 2] bcast_S1x256x1_S16x256x512_0_1_2 (broadcastInDim S1x256x1 ![1, 2] bcast_S256x1_S1x256x1_1_2 (broadcastInDim S256x1 ![0] bcast_S256_S256x1_0 (sitofp .f32 (subi (minsi (addi (iotaInDim S256 32 0) (broadcastInDim S256 ![] bcast_S_S256 (constantI S_ 32 k))) (broadcastInDim S256 ![] bcast_S_S256 (constantI S_ 32 256#32))) (maxsi (subi (iotaInDim S256 32 0) (broadcastInDim S256 ![] bcast_S_S256 (constantI S_ 32 k))) (broadcastInDim S256 ![] bcast_S_S256 (constantI S_ 32 0#32))))))))) h

/-- The four groups of columns, each pooled over its own window. -/
def parts : FVec Ideal S16x256x4x512 .f32 :=
  concatenate S16x256x4x512 2 [⟨S16x256x1x512, ((broadcastInDim S16x256x1x512 ![0, 1, 3] bcast_S16x256x512_S16x256x1x512_0_1_3 (pooled (extractStridedSlice S16x256x512 ![0, 0, 0] (tokens x mods) slices_S16x256x2048_S16x256x512_0_0_0) 1#32)))⟩, ⟨S16x256x1x512, ((broadcastInDim S16x256x1x512 ![0, 1, 3] bcast_S16x256x512_S16x256x1x512_0_1_3 (pooled (extractStridedSlice S16x256x512 ![0, 0, 512] (tokens x mods) slices_S16x256x2048_S16x256x512_0_0_512) 2#32)))⟩, ⟨S16x256x1x512, ((broadcastInDim S16x256x1x512 ![0, 1, 3] bcast_S16x256x512_S16x256x1x512_0_1_3 (pooled (extractStridedSlice S16x256x512 ![0, 0, 1024] (tokens x mods) slices_S16x256x2048_S16x256x512_0_0_1024) 4#32)))⟩, ⟨S16x256x1x512, ((broadcastInDim S16x256x1x512 ![0, 1, 3] bcast_S16x256x512_S16x256x1x512_0_1_3 (pooled (extractStridedSlice S16x256x512 ![0, 0, 1536] (tokens x mods) slices_S16x256x2048_S16x256x512_0_0_1536) 8#32)))⟩] concatenates_S16x256x1x512_S16x256x1x512_S16x256x1x512_S16x256x1x512_S16x256x4x512_d2

/-- The reference's result. -/
def whole : FVec Ideal S4096x2048 .f32 :=
  shapeCast _ (mulf (shapeCast _ (transpose S16x256x4x512 [2, 3, 0, 1] (Host.dotGeneral dot_S4x512x512_S16x256x4x512_S4x512x16x256_1_3_2_01_0_2 none w (parts x mods)) transposes_S4x512x16x256_S16x256x4x512_2_3_0_1) shapeCasts_S16x256x4x512_S16x256x2048) (broadcastInDim S16x256x2048 ![0, 1, 2] bcast_S1x1x2048_S16x256x2048_0_1_2 (broadcastInDim S1x1x2048 ![2] bcast_S2048_S1x1x2048_2 scale))) shapeCasts_S16x256x2048_S4096x2048

/-- A window's first row in the sequence, and the row after its last. -/
theorem first_word : ∀ (k : Fin 9) (t : Fin 256), IntOp.maxsi (IntOp.subi (BitVec.ofNat 32 t.val) (BitVec.ofNat 32 k.val)) 0#32 =
    BitVec.ofNat 32 (t.val - k.val) := by
  decide +kernel

theorem last_word : ∀ (k : Fin 9) (t : Fin 256), IntOp.minsi (IntOp.addi (BitVec.ofNat 32 t.val) (BitVec.ofNat 32 k.val)) 256#32 =
    BitVec.ofNat 32 (min (t.val + k.val) 256) := by
  decide +kernel

theorem band_apply (k : Fin 9) (t s : Fin 256) :
    band (BitVec.ofNat 32 k.val) (ix2 t s) = if t.val ≤ s.val + k.val ∧ s.val < t.val + k.val then 1 else 0 := by
  have ht := t.isLt
  have hs := s.isLt
  have hk := k.isLt
  pointwise [band, Ideal.ofBits_one_f32]
  rw [first_word, last_word, WordCmp.cmpi_sge_ofNat (by omega) (by omega), WordCmp.cmpi_slt_ofNat (by omega) (by omega),
    WordCmp.andi_ofBool, WordCmp.select_ofBool]
  refine if_congr ?_ rfl rfl
  rw [Bool.and_eq_true, decide_eq_true_eq, decide_eq_true_eq]
  omega

theorem pooled_sum (h : FVec Ideal S16x256x512 .f32) (k : BitVec 32) (b : Fin 16) (t : Fin 256) (c : Fin 512) :
    pooled h k (ix3 b t c) =
      Ideal.div (∑ s : Fin 256, h (ix3 b s c) * band k (ix2 t s)) (count k t.val) - h (ix3 b t c) := by
  pointwise [pooled, count]

/-- The means over the windows less the tokens, at an entry. -/
theorem pooled_apply (h : FVec Ideal S16x256x512 .f32) (k : Fin 9) (b : Fin 16) (t : Fin 256) (c : Fin 512) :
    pooled h (BitVec.ofNat 32 k.val) (ix3 b t c) =
      Ideal.div (window (fun s => h (ix3 b s c)) k.val t) (count (BitVec.ofNat 32 k.val) t.val) - h (ix3 b t c) := by
  rw [pooled_sum]
  simp only [band_apply, mul_ite, mul_one, mul_zero]
  rfl

/-- Half the width of a group's window. -/
def half (g : Fin 4) : Fin 9 := ⟨2 ^ g.val, by fin_cases g <;> decide⟩

/-- A group's column of the whole array, in range. -/
def col (g : Fin 4) (c : Fin 512) : Fin 2048 := ⟨512 * g.val + c.val, by have := g.isLt; have := c.isLt; omega⟩

/-- A group's part: the means over its windows less the tokens. -/
def part (h : FVec Ideal S16x256x2048 .f32) (g : Fin 4) (b : Fin 16) (t : Fin 256) (c : Fin 512) : EReal :=
  Ideal.div (window (fun s => h (ix3 b s (col g c))) (half g).val t) (count (BitVec.ofNat 32 (half g).val) t.val) - h (ix3 b t (col g c))

theorem group_apply (h : FVec Ideal S16x256x2048 .f32) (g : Fin 4) (o : ℕ) (ho : o = 512 * g.val) (hs) (b : Fin 16) (t : Fin 256) (c : Fin 512) :
    extractStridedSlice S16x256x512 ![0, 0, o] h hs (ix3 b t c) = h (ix3 b t (col g c)) := by
  subst ho
  show h _ = h _
  congr 1
  funext a
  apply Fin.ext
  match a with
  | ⟨0, _⟩ => show 0 + b.val = b.val; omega
  | ⟨1, _⟩ => show 0 + t.val = t.val; omega
  | ⟨2, _⟩ => rfl

theorem pooled_group (h : FVec Ideal S16x256x2048 .f32) (g : Fin 4) (o : ℕ) (ho : o = 512 * g.val) (hs) (b : Fin 16) (t : Fin 256) (c : Fin 512) :
    pooled (extractStridedSlice S16x256x512 ![0, 0, o] h hs) (BitVec.ofNat 32 (half g).val) (ix3 b t c) = part h g b t c := by
  rw [pooled_apply]
  simp only [group_apply h g o ho]
  rfl

/-- The stacked parts at an entry. -/
theorem parts_apply (g : Fin 4) (b : Fin 16) (t : Fin 256) (c : Fin 512) :
    parts x mods (ix4 b t g c) = part (tokens x mods) g b t c := by
  match g with
  | 0 => exact Eq.trans (by pointwise [parts]; rfl) (pooled_group (tokens x mods) 0 0 rfl slices_S16x256x2048_S16x256x512_0_0_0 b t c)
  | 1 => exact Eq.trans (by pointwise [parts]; rfl) (pooled_group (tokens x mods) 1 512 rfl slices_S16x256x2048_S16x256x512_0_0_512 b t c)
  | 2 => exact Eq.trans (by pointwise [parts]; rfl) (pooled_group (tokens x mods) 2 1024 rfl slices_S16x256x2048_S16x256x512_0_0_1024 b t c)
  | 3 => exact Eq.trans (by pointwise [parts]; rfl) (pooled_group (tokens x mods) 3 1536 rfl slices_S16x256x2048_S16x256x512_0_0_1536 b t c)

theorem tokens_apply (b : Fin 16) (t : Fin 256) (l : Fin 2048) :
    tokens x mods (ix3 b t l) = modded (x (ix2 ⟨b.val * 256 + t.val, by have := b.isLt; have := t.isLt; omega⟩ l))
      (mods (ix3 0 1 l)) (mods (ix3 0 0 l)) := by
  pointwise [tokens, modded, Ideal.ofBits_one_f32]

/-- The result at an entry: the row's parts contracted with its group's weight, and scaled. -/
theorem whole_apply (n : Fin 4096) (d : Fin 2048) :
    whole x mods w scale (ix2 n d) =
      (∑ c : Fin 512, w (ix3 ⟨d.val / 512, by have := d.isLt; omega⟩ c ⟨d.val % 512, by omega⟩) *
        parts x mods (ix4 ⟨n.val / 256, by have := n.isLt; omega⟩ ⟨n.val % 256, by omega⟩ ⟨d.val / 512, by have := d.isLt; omega⟩ c))
        * scale (ix1 d) := by
  pointwise [whole]

end Cert.Proof.Pool

end
-- ==== Proof.PoolArray.lean ====
/- What the pooling's result holds after the run (hand-written). -/
module

public import proofs.«01_k».proof.Proof.Gen.Kernel6Ideal.Value
public import proofs.«01_k».proof.Proof.PoolRef
public import Idealize.ShloMosaic.Lib.VecWindow

@[expose] public section

noncomputable section

namespace Cert.Proof.Pool

open Idealize.ShloMosaic Idealize.ShloMosaic.TcCoe Idealize.SL.Sem Cert.Kernel6Ideal Cert.Kernel6Ideal.Gen
open Idealize.ShloMosaic.Pipeline (Dat)

section
variable (c : Dev nD) (i : grid0.Coords)
  (arg2 : Memref sig .tc .vmem S256x512 .f32) (harg2 : arg2.IsWhole) (arg3 : Memref sig .tc .vmem S1x6x512 .f32) (harg3 : arg3.IsWhole)
  (arg4 : Memref sig .tc .vmem S1x512x512 .f32) (harg4 : arg4.IsWhole) (arg5 : Memref sig .tc .vmem S1x512 .f32) (harg5 : arg5.IsWhole)
  (arg6 : Memref sig .tc .vmem S256x512 .f32) (harg6 : arg6.IsWhole)
  (x0 : Vec Ideal S256x512 .f32) (x1 : Vec Ideal S1x6x512 .f32) (x2 : Vec Ideal S1x512x512 .f32) (x3 : Vec Ideal S1x512 .f32)

/-- A block's modulated tokens. -/
def hidden : FVec Ideal S256x512 .f32 :=
  k0_pay1 x0 (View.ld x1 (Rect.unit (s := S1x6x512) ![0, 1, 0] S1x1x512.size inb_S1x6x512_S1x1x512_0_1_0))
    (View.ld x1 (Rect.unit (s := S1x6x512) ![0, 0, 0] S1x1x512.size inb_S1x6x512_S1x1x512_0_0_0))

theorem load_tokens : View.readAt (Elt Ideal) arg2.view (Rect.unit (s := S256x512) ![0, 0] S256x512.size inb_S256x512_S256x512_0_0).toLoadRect
    (harg2.unread x0) = x0 := (View.readAt_full _ _ _).trans (harg2.read_unread x0)

theorem load_row (o : Fin 3 → ℕ) (h) : View.readAt (Elt Ideal) arg3.view (Rect.unit (s := S1x6x512) o S1x1x512.size h).toLoadRect
    (harg3.unread x1) = View.ld x1 (Rect.unit (s := S1x6x512) o S1x1x512.size h) := by
  rw [View.readAt_eq_ld, harg3.read_unread]

theorem load_weights : View.readAt (Elt Ideal) arg4.view
    (Rect.unit (s := S1x512x512) ![0, 0, 0] S1x512x512.size inb_S1x512x512_S1x512x512_0_0_0).toLoadRect (harg4.unread x2) = x2 :=
  (View.readAt_full _ _ _).trans (harg4.read_unread x2)

theorem load_scale : View.readAt (Elt Ideal) arg5.view (Rect.unit (s := S1x512) ![0, 0] S1x512.size inb_S1x512_S1x512_0_0).toLoadRect
    (harg5.unread x3) = x3 := (View.readAt_full _ _ _).trans (harg5.read_unread x3)
/-- A case's loads are its blocks, whatever it computes of them. -/
theorem loaded (f : Vec Ideal S256x512 .f32 → Vec Ideal S1x1x512 .f32 → Vec Ideal S1x1x512 .f32 → Vec Ideal S1x512x512 .f32 →
    Vec Ideal S1x512 .f32 → FVec Ideal S256x512 .f32) :
    f (View.readAt (Elt Ideal) arg2.view (Rect.unit (s := S256x512) ![0, 0] S256x512.size inb_S256x512_S256x512_0_0).toLoadRect
        (harg2.unread x0))
      (View.readAt (Elt Ideal) arg3.view (Rect.unit (s := S1x6x512) ![0, 1, 0] S1x1x512.size inb_S1x6x512_S1x1x512_0_1_0).toLoadRect
        (harg3.unread x1))
      (View.readAt (Elt Ideal) arg3.view (Rect.unit (s := S1x6x512) ![0, 0, 0] S1x1x512.size inb_S1x6x512_S1x1x512_0_0_0).toLoadRect
        (harg3.unread x1))
      (View.readAt (Elt Ideal) arg4.view
        (Rect.unit (s := S1x512x512) ![0, 0, 0] S1x512x512.size inb_S1x512x512_S1x512x512_0_0_0).toLoadRect (harg4.unread x2))
      (View.readAt (Elt Ideal) arg5.view (Rect.unit (s := S1x512) ![0, 0] S1x512.size inb_S1x512_S1x512_0_0).toLoadRect (harg5.unread x3))
    = f x0 (View.ld x1 (Rect.unit (s := S1x6x512) ![0, 1, 0] S1x1x512.size inb_S1x6x512_S1x1x512_0_1_0))
        (View.ld x1 (Rect.unit (s := S1x6x512) ![0, 0, 0] S1x1x512.size inb_S1x6x512_S1x1x512_0_0_0)) x2 x3 := by
  rw [load_row arg3 harg3 x1 ![0, 1, 0], load_row arg3 harg3 x1 ![0, 0, 0], load_tokens arg2 harg2 x0, load_weights arg4 harg4 x2,
    load_scale arg5 harg5 x3]

/-- What a point stores, given its two running sums of the modulated tokens and half its window. -/
def poolOf (a b : FVec Ideal S256x512 .f32 → FVec Ideal S256x512 .f32) (k : BitVec 32) (y0 : Vec Ideal S256x512 .f32)
    (y1 y2 : Vec Ideal S1x1x512 .f32) (w : Vec Ideal S1x512x512 .f32) (s : Vec Ideal S1x512 .f32) : FVec Ideal S256x512 .f32 :=
  stored (means (centred (a (k0_pay1 y0 y1 y2)) (b (k0_pay1 y0 y1 y2))) k) (k0_pay1 y0 y1 y2) w s

/-- The first group pools over two rows. -/
theorem outA (hc0 : cond0_0 i) (hc1 : ¬cond0_1 i) (hc2 : ¬cond0_2 i) (hc3 : ¬cond0_3 i) :
    out0_A_4 c i arg2 harg2 arg3 harg3 arg4 harg4 arg5 harg5 arg6 harg6 hc0 hc1 hc2 hc3 x0 x1 x2 x3 =
      stored (means (centred (hidden x0 x1) (hidden x0 x1)) 1#32) (hidden x0 x1) x2 x3 :=
  (View.read_writes_full ..).trans (loaded arg2 harg2 arg3 harg3 arg4 harg4 arg5 harg5 x0 x1 x2 x3 (poolOf id id 1#32))

/-- The second group pools over four rows. -/
theorem outB (hc0 : ¬cond0_0 i) (hc1 : cond0_1 i) (hc2 : ¬cond0_2 i) (hc3 : ¬cond0_3 i) :
    out0_B_4 c i arg2 harg2 arg3 harg3 arg4 harg4 arg5 harg5 arg6 harg6 hc0 hc1 hc2 hc3 x0 x1 x2 x3 =
      stored (means (centred (ahead2 (hidden x0 x1)) (behind2 (hidden x0 x1))) 2#32) (hidden x0 x1) x2 x3 :=
  (View.read_writes_full ..).trans (loaded arg2 harg2 arg3 harg3 arg4 harg4 arg5 harg5 x0 x1 x2 x3 (poolOf ahead2 behind2 2#32))

/-- The third group pools over eight rows. -/
theorem outC (hc0 : ¬cond0_0 i) (hc1 : ¬cond0_1 i) (hc2 : cond0_2 i) (hc3 : ¬cond0_3 i) :
    out0_C_4 c i arg2 harg2 arg3 harg3 arg4 harg4 arg5 harg5 arg6 harg6 hc0 hc1 hc2 hc3 x0 x1 x2 x3 =
      stored (means (centred (ahead4 (hidden x0 x1)) (behind4 (hidden x0 x1))) 4#32) (hidden x0 x1) x2 x3 :=
  (View.read_writes_full ..).trans (loaded arg2 harg2 arg3 harg3 arg4 harg4 arg5 harg5 x0 x1 x2 x3 (poolOf ahead4 behind4 4#32))

/-- The fourth group pools over sixteen rows. -/
theorem outD (hc0 : ¬cond0_0 i) (hc1 : ¬cond0_1 i) (hc2 : ¬cond0_2 i) (hc3 : cond0_3 i) :
    out0_D_4 c i arg2 harg2 arg3 harg3 arg4 harg4 arg5 harg5 arg6 harg6 hc0 hc1 hc2 hc3 x0 x1 x2 x3 =
      stored (means (centred (ahead8 (hidden x0 x1)) (behind8 (hidden x0 x1))) 8#32) (hidden x0 x1) x2 x3 :=
  (View.read_writes_full ..).trans (loaded arg2 harg2 arg3 harg3 arg4 harg4 arg5 harg5 x0 x1 x2 x3 (poolOf ahead8 behind8 8#32))

end

variable (m : (ℓ : Loc nD τ sig) → Buf (Elt Ideal) ℓ) (c : Dev nD)

/-- The result the kernel is to leave: the reference's function of the arguments. -/
abbrev goal : Buf (Elt Ideal) ((c : Thread nD τ).loc main_v1) :=
  whole (m ((c : Thread nD τ).loc main_arg0)) (m ((c : Thread nD τ).loc main_arg1)) (m ((c : Thread nD τ).loc main_arg2))
    (m ((c : Thread nD τ).loc main_arg3))

/-- The modulated tokens of the arguments. -/
abbrev given : FVec Ideal Cert.Reference6Ideal.S16x256x2048 .f32 :=
  tokens (m ((c : Thread nD τ).loc main_arg0)) (m ((c : Thread nD τ).loc main_arg1))

/-- Where each window's block sits: the points run over the four groups within each of the sixteen sequences. -/
theorem index_facts : ∀ t : Fin grid0.N,
    ((win0_0.index t 0 = t.val / 4 ∧ win0_0.index t 1 = t.val % 4)
      ∧ (win0_1.index t 0 = 0 ∧ win0_1.index t 1 = 0 ∧ win0_1.index t 2 = t.val % 4))
    ∧ ((win0_2.index t 0 = t.val % 4 ∧ win0_2.index t 1 = 0 ∧ win0_2.index t 2 = 0)
      ∧ (win0_3.index t 0 = 0 ∧ win0_3.index t 1 = t.val % 4))
    ∧ (win0_4.index t 0 = t.val / 4 ∧ win0_4.index t 1 = t.val % 4) := by
  decide +kernel

/-- The point's sequence. -/
def seq (t : Fin cfg0.N) : Fin 16 := ⟨t.val / 4, by have := t.isLt; have : cfg0.N = 64 := N_0; omega⟩

/-- The point's group. -/
def group (t : Fin cfg0.N) : Fin 4 := ⟨t.val % 4, by omega⟩

/-- A sequence's row of the whole array, in range. -/
def row (b : Fin 16) (r : Fin 256) : Fin 4096 := ⟨256 * b.val + r.val, by have := b.isLt; have := r.isLt; omega⟩

/-- The tokens' block at point `t`. -/
theorem block0 (t : Fin cfg0.N) (r : Fin 256) (l : Fin 512) :
    (iblk m c 0 t : Vec Ideal S256x512 .f32) (ix2 r l) = m ((c : Thread nD τ).loc main_arg0)
      (ix2 ⟨(seq t).val * 256 + r.val, by have := (seq t).isLt; have := r.isLt; omega⟩ (col (group t) l)) := by
  unfold iblk
  refine Eq.trans (View.read_apply ..) ?_
  refine Eq.trans (congrFun (V_main_arg0 m c) _) ?_
  congr 1
  funext a
  apply Fin.ext
  match a with
  | ⟨0, _⟩ => show win0_0.index t 0 * 256 + 1 * r.val = t.val / 4 * 256 + r.val; rw [(index_facts t).1.1.1]; omega
  | ⟨1, _⟩ => show win0_0.index t 1 * 512 + 1 * l.val = 512 * (t.val % 4) + l.val; rw [(index_facts t).1.1.2]; omega

/-- The modulation's block at point `t`: the first condition's six rows, at the group's columns. -/
theorem block1 (t : Fin cfg0.N) (i : Fin 6) (l : Fin 512) :
    (iblk m c 1 t : Vec Ideal S1x6x512 .f32) (ix3 0 i l) = m ((c : Thread nD τ).loc main_arg1) (ix3 0 i (col (group t) l)) := by
  unfold iblk
  refine Eq.trans (View.read_apply ..) ?_
  refine Eq.trans (congrFun (V_main_arg1 m c) _) ?_
  congr 1
  funext a
  apply Fin.ext
  match a with
  | ⟨0, _⟩ => show win0_1.index t 0 * 1 + 1 * 0 = 0; rw [(index_facts t).1.2.1]
  | ⟨1, _⟩ => show win0_1.index t 1 * 6 + 1 * i.val = i.val; rw [(index_facts t).1.2.2.1]; omega
  | ⟨2, _⟩ => show win0_1.index t 2 * 512 + 1 * l.val = 512 * (t.val % 4) + l.val; rw [(index_facts t).1.2.2.2]; omega

/-- The weight's block at point `t` is the group's. -/
theorem block2 (t : Fin cfg0.N) (k l : Fin 512) :
    (iblk m c 2 t : Vec Ideal S1x512x512 .f32) (ix3 0 k l) = m ((c : Thread nD τ).loc main_arg2) (ix3 (group t) k l) := by
  unfold iblk
  refine Eq.trans (View.read_apply ..) ?_
  refine Eq.trans (congrFun (V_main_arg2 m c) _) ?_
  congr 1
  funext a
  apply Fin.ext
  match a with
  | ⟨0, _⟩ => show win0_2.index t 0 * 1 + 1 * 0 = t.val % 4; rw [(index_facts t).2.1.1.1]; omega
  | ⟨1, _⟩ => show win0_2.index t 1 * 512 + 1 * k.val = k.val; rw [(index_facts t).2.1.1.2.1]; omega
  | ⟨2, _⟩ => show win0_2.index t 2 * 512 + 1 * l.val = l.val; rw [(index_facts t).2.1.1.2.2]; omega

/-- The host's row of scales is the argument. -/
theorem scales (l : Fin 2048) : V m c main_v0 (ix2 0 l) = m ((c : Thread nD τ).loc main_arg3) (ix1 l) := by
  have e : V m c main_v0 = broadcastInDim S1x2048 ![1] bcast_S2048_S1x2048_1 (m ((c : Thread nD τ).loc main_arg3)) := by
    unfold V hostOps0
    after_results_simp <;> rfl
  rw [e]
  pointwise

/-- The scale's block at point `t`. -/
theorem block3 (t : Fin cfg0.N) (l : Fin 512) :
    (iblk m c 3 t : Vec Ideal S1x512 .f32) (ix2 0 l) = m ((c : Thread nD τ).loc main_arg3) (ix1 (col (group t) l)) := by
  unfold iblk
  refine Eq.trans (View.read_apply ..) (Eq.trans ?_ (scales m c (col (group t) l)))
  show V m c main_v0 _ = V m c main_v0 _
  congr 1
  funext a
  apply Fin.ext
  match a with
  | ⟨0, _⟩ => show win0_3.index t 0 * 1 + 1 * 0 = 0; rw [(index_facts t).2.1.2.1]
  | ⟨1, _⟩ => show win0_3.index t 1 * 512 + 1 * l.val = 512 * (t.val % 4) + l.val; rw [(index_facts t).2.1.2.2]; omega

/-- An array read through the result's block at point `t`. -/
theorem result_block (G : S4096x2048.Idx → EReal) (t : Fin cfg0.N) (r : Fin 256) (l : Fin 512) :
    (((cfg0.win 4).blk t).view.read (Elt Ideal) G : Vec Ideal S256x512 .f32) (ix2 r l) = G (ix2 (row (seq t) r) (col (group t) l)) := by
  refine Eq.trans (View.read_apply ..) ?_
  show G _ = G _
  congr 1
  funext a
  apply Fin.ext
  match a with
  | ⟨0, _⟩ => show win0_4.index t 0 * 256 + 1 * r.val = 256 * (t.val / 4) + r.val; rw [(index_facts t).2.2.1]; omega
  | ⟨1, _⟩ => show win0_4.index t 1 * 512 + 1 * l.val = 512 * (t.val % 4) + l.val; rw [(index_facts t).2.2.2]; omega

/-- A load of one of the six rows of a modulation block. -/
theorem row_apply (x : Vec Ideal S1x6x512 .f32) (i : Fin 6) (h) (k : Fin 512) :
    View.ld x (Rect.unit (s := S1x6x512) ![0, i.val, 0] S1x1x512.size h) (ix3 0 0 k) = x (ix3 0 i k) := by
  show x _ = x _
  congr 1
  funext a
  apply Fin.ext
  match a with
  | ⟨0, _⟩ => rfl
  | ⟨1, _⟩ => show i.val + 1 * 0 = i.val; omega
  | ⟨2, _⟩ => show 0 + 1 * k.val = k.val; omega

/-- A block's modulated tokens are those of its sequence and its group. -/
theorem hidden_apply (t : Fin cfg0.N) (r : Fin 256) (l : Fin 512) :
    hidden (iblk m c 0 t) (iblk m c 1 t) (ix2 r l) = given m c (ix3 (seq t) r (col (group t) l)) := by
  refine Eq.trans (pay1_apply r l _ _ _) (Eq.trans ?_ (tokens_apply _ _ (seq t) r (col (group t) l)).symm)
  rw [block0]
  exact congrArg₂ (modded _) ((row_apply (iblk m c 1 t) 1 _ l).trans (block1 m c t 1 l))
    ((row_apply (iblk m c 1 t) 0 _ l).trans (block1 m c t 0 l))

/-- What a point stores is its block of the goal, once its two running sums are windows as wide as its group's. -/
theorem stored_eq (t : Fin cfg0.N) (k : BitVec 32) (a b : FVec Ideal S256x512 .f32)
    (hk : k = BitVec.ofNat 32 (half (group t)).val)
    (ha : ∀ l, Ahead (column (hidden (iblk m c 0 t) (iblk m c 1 t)) l) (column a l) (half (group t)).val)
    (hb : ∀ l, Behind (column (hidden (iblk m c 0 t) (iblk m c 1 t)) l) (column b l) (half (group t)).val) :
    stored (means (centred a b) k) (hidden (iblk m c 0 t) (iblk m c 1 t)) (iblk m c 2 t) (iblk m c 3 t)
      = ((cfg0.win 4).blk t).view.read (Elt Ideal) (goal m c) := by
  subst hk
  funext j
  obtain ⟨r, l, rfl⟩ : ∃ (r : Fin 256) (l : Fin 512), j = ix2 r l := ⟨j 0, j 1, by funext a; fin_cases a <;> rfl⟩
  refine Eq.trans (stored_apply r l _ _ _ _) (Eq.trans ?_ (result_block (goal m c) t r l).symm)
  refine Eq.trans ?_ (whole_apply _ _ _ _ (row (seq t) r) (col (group t) l)).symm
  have eg : (⟨(col (group t) l).val / 512, by have := (col (group t) l).isLt; omega⟩ : Fin 4) = group t :=
    Fin.ext (by show (512 * (t.val % 4) + l.val) / 512 = t.val % 4; omega)
  have el : (⟨(col (group t) l).val % 512, by omega⟩ : Fin 512) = l :=
    Fin.ext (by show (512 * (t.val % 4) + l.val) % 512 = l.val; omega)
  have eb : (⟨(row (seq t) r).val / 256, by have := (row (seq t) r).isLt; omega⟩ : Fin 16) = seq t :=
    Fin.ext (by show (256 * (t.val / 4) + r.val) / 256 = t.val / 4; omega)
  have er : (⟨(row (seq t) r).val % 256, by omega⟩ : Fin 256) = r :=
    Fin.ext (by show (256 * (t.val / 4) + r.val) % 256 = r.val; omega)
  rw [eg, el, eb, er, block3]
  refine congrArg (fun q : EReal => q * _) (Finset.sum_congr rfl fun k _ => ?_)
  rw [mul_comm, block2, parts_apply, means_apply, centred_apply r k (ha k) (hb k), hidden_apply]
  have ew : column (hidden (iblk m c 0 t) (iblk m c 1 t)) k = fun s => given m c (ix3 (seq t) s (col (group t) k)) :=
    funext fun s => hidden_apply m c t s k
  rw [ew]
  rfl

/-- What point `t` writes back is its block of the goal. -/
theorem flushed_eq (t : Fin cfg0.N) :
    (dats m 0 c).flushed 4 t = ((cfg0.win 4).blk t).view.read (Elt Ideal) (goal m c) := by
  have hg : ∀ g : Fin 4, t.val % 4 = g.val → group t = g := fun g h => Fin.ext h
  obtain h | h | h | h : t.val % 4 = 0 ∨ t.val % 4 = 1 ∨ t.val % 4 = 2 ∨ t.val % 4 = 3 := by omega
  · rw [Cert.Kernel6Ideal.Value.flushed4_A m c t h (by omega) (by omega) (by omega), outA]
    exact stored_eq m c t _ _ _ (by rw [hg 0 h]; rfl) (fun l => by rw [hg 0 h]; exact ahead_one _) (fun l => by rw [hg 0 h]; exact behind_one _)
  · rw [Cert.Kernel6Ideal.Value.flushed4_B m c t (by omega) h (by omega) (by omega), outB]
    exact stored_eq m c t _ _ _ (by rw [hg 1 h]; rfl) (fun l => by rw [hg 1 h]; exact ahead2_sum _ l) (fun l => by rw [hg 1 h]; exact behind2_sum _ l)
  · rw [Cert.Kernel6Ideal.Value.flushed4_C m c t (by omega) (by omega) h (by omega), outC]
    exact stored_eq m c t _ _ _ (by rw [hg 2 h]; rfl) (fun l => by rw [hg 2 h]; exact ahead4_sum _ l) (fun l => by rw [hg 2 h]; exact behind4_sum _ l)
  · rw [Cert.Kernel6Ideal.Value.flushed4_D m c t (by omega) (by omega) (by omega) h, outD]
    exact stored_eq m c t _ _ _ (by rw [hg 3 h]; rfl) (fun l => by rw [hg 3 h]; exact ahead8_sum _ l) (fun l => by rw [hg 3 h]; exact behind8_sum _ l)

/-- Every entry of the result lies in the block of the point its row and column fall to. -/
theorem cover (i : S4096x2048.Idx) :
    ∃ t : Fin cfg0.N, (cfg0.win 4).flush t = true ∧ i ∈ ((cfg0.win 4).blk t).view.set := by
  have h0 : (i 0 : Nat) < 4096 := (i 0).isLt
  have h1 : (i 1 : Nat) < 2048 := (i 1).isLt
  have hN : cfg0.N = 64 := N_0
  obtain ⟨n, hn⟩ : ∃ n, n = 4 * ((i 0 : Nat) / 256) + (i 1 : Nat) / 512 := ⟨_, rfl⟩
  have ht : n < cfg0.N := by omega
  refine ⟨⟨n, ht⟩, flush0_4 _, ?_⟩
  show i ∈ ((View.whole main_v1).slice (win0_4.rect ⟨n, ht⟩)).set
  rw [View.set_slice_whole, Rect.mem_set_unit]
  have e := (index_facts ⟨n, ht⟩).2.2
  intro a
  match a with
  | ⟨0, _⟩ =>
    show win0_4.index ⟨n, ht⟩ 0 * 256 ≤ (i 0 : Nat) ∧ (i 0 : Nat) < win0_4.index ⟨n, ht⟩ 0 * 256 + 256
    rw [e.1]; dsimp only; omega
  | ⟨1, _⟩ =>
    show win0_4.index ⟨n, ht⟩ 1 * 512 ≤ (i 1 : Nat) ∧ (i 1 : Nat) < win0_4.index ⟨n, ht⟩ 1 * 512 + 512
    rw [e.2]; dsimp only; omega

/-- The result array ends holding the reference's function of the arguments. -/
theorem final : (dats m 0 c).arrAt 4 cfg0.N = goal m c :=
  (dats m 0 c).arrAt_eq_of_cover 4 (goal m c) (fun t _ => flushed_eq m c t) cover

end Cert.Proof.Pool

end
-- ==== Proof.GateDown.lean ====
/- The gate's first projection: what its blocks compute, and what its result array holds after the run (hand-written). -/
module

public import proofs.«01_k».proof.Proof.Gen.Kernel7Ideal.Value
public import proofs.«01_k».proof.Proof.Gen.Reference7Ideal.Run
public import proofs.«01_k».proof.Proof.Tile
public import Idealize.ShloMosaic.Lib.IdealHost

@[expose] public section

noncomputable section

namespace Cert.Proof.GateDown

open Idealize.ShloMosaic Idealize.ShloMosaic.TcCoe Idealize.SL.Sem Cert.Kernel7Ideal Cert.Kernel7Ideal.Gen

/-- The projection as one function of its two arguments: the reference's term. -/
def whole (x : FVec Ideal S8192x2048 .bf16) (w : FVec Ideal S2048x256 .f32) : FVec Ideal S8192x256 .f32 :=
  Host.dotGeneral Cert.Reference7Ideal.dot_S8192x2048_S2048x256_S8192x256_1_0_0_1_n_n none x w

variable (m : (ℓ : Loc nD τ sig) → Buf (Elt Ideal) ℓ) (c : Dev nD)

/-- The result the kernel is to leave: the reference's function of the arguments. -/
abbrev goal : Buf (Elt Ideal) ((c : Thread nD τ).loc main_v0) :=
  whole (m ((c : Thread nD τ).loc main_arg0)) (m ((c : Thread nD τ).loc main_arg1))

/-- Where each window's block sits: a point has a block of rows and the whole weight. -/
theorem index_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- Row `1024 t + r` of the whole array, in range. -/
def row (t : Fin cfg0.N) (r : Fin 1024) : Fin 8192 :=
  ⟨1024 * t.val + r.val, by have := t.isLt; have : cfg0.N = 8 := N_0; have := r.isLt; omega⟩

/-- The activations' block at point `t` is its rows of the argument. -/
theorem block0 (t : Fin cfg0.N) (r : Fin 1024) (k : Fin 2048) :
    (iblk m c 0 t : Vec Ideal S1024x2048 .bf16) (ix2 r k) = m ((c : Thread nD τ).loc main_arg0) (ix2 (row t r) k) :=
  (View.read_apply ..).trans ((congrFun (V_main_arg0 m c) _).trans
    (congrArg (m ((c : Thread nD τ).loc main_arg0)) (Tile.eq_ix2 (Tile.at_block (index_facts t).1.1) (Tile.at_whole (index_facts t).1.2))))

/-- The weight's block at any point is the argument. -/
theorem block1 (t : Fin cfg0.N) (k : Fin 2048) (l : Fin 256) :
    (iblk m c 1 t : Vec Ideal S2048x256 .f32) (ix2 k l) = m ((c : Thread nD τ).loc main_arg1) (ix2 k l) :=
  (View.read_apply ..).trans ((congrFun (V_main_arg1 m c) _).trans
    (congrArg (m ((c : Thread nD τ).loc main_arg1)) (Tile.eq_ix2 (Tile.at_whole (index_facts t).2.1.1) (Tile.at_whole (index_facts t).2.1.2))))

/-- An array read through the result's block at point `t`. -/
theorem result_block (G : S8192x256.Idx → EReal) (t : Fin cfg0.N) (r : Fin 1024) (l : Fin 256) :
    (((cfg0.win 2).blk t).view.read (Elt Ideal) G : Vec Ideal S1024x256 .f32) (ix2 r l) = G (ix2 (row t r) l) :=
  (View.read_apply ..).trans (congrArg G (Tile.eq_ix2 (Tile.at_block (index_facts t).2.2.1) (Tile.at_whole (index_facts t).2.2.2)))

/-- The payload at an entry: the row of activations contracted with the weight's column. -/
theorem entry (x : Vec Ideal S1024x2048 .bf16) (w : Vec Ideal S2048x256 .f32) (r : Fin 1024) (l : Fin 256) :
    k0_pay1 (F := Ideal) x w (ix2 r l) = ∑ k : Fin 2048, x (ix2 r k) * w (ix2 k l) := by
  pointwise [k0_pay1]

/-- What point `t` writes back is its block of the goal. -/
theorem flushed_eq (t : Fin cfg0.N) :
    (dats m 0 c).flushed 2 t = ((cfg0.win 2).blk t).view.read (Elt Ideal) (goal m c) := by
  rw [Cert.Kernel7Ideal.Value.flushed2]
  show (out0_2 (iblk m c 0 t) (iblk m c 1 t) : Vec Ideal S1024x256 .f32) = _
  unfold out0_2
  rw [View.canon_unit_zero Tile.zeros, View.ld_unit_zero Tile.zeros, View.ld_unit_zero Tile.zeros]
  refine Tile.ext_ix2 fun r l => (entry _ _ r l).trans (Eq.trans ?_ (result_block (goal m c) t r l).symm)
  simp only [block0, block1]
  unfold goal
  pointwise [whole]

/-- Every entry of the result lies in the block of the point its row falls to. -/
theorem cover (i : S8192x256.Idx) :
    ∃ t : Fin cfg0.N, (cfg0.win 2).flush t = true ∧ i ∈ ((cfg0.win 2).blk t).view.set := by
  have h0 : (i 0 : Nat) < 8192 := (i 0).isLt
  have h1 : (i 1 : Nat) < 256 := (i 1).isLt
  have hN : cfg0.N = 8 := N_0
  obtain ⟨t, e0⟩ : ∃ t : Fin cfg0.N, t.val = (i 0 : Nat) / 1024 := ⟨⟨(i 0 : Nat) / 1024, by omega⟩, rfl⟩
  refine ⟨t, flush0_2 _, ?_⟩
  show i ∈ ((View.whole main_v0).slice (win0_2.rect t)).set
  rw [View.set_slice_whole, Rect.mem_set_unit]
  intro a
  match a with
  | ⟨0, _⟩ => exact Tile.in_block (n := 1024) (by decide) ((index_facts t).2.2.1.trans e0)
  | ⟨1, _⟩ => exact Tile.in_block (n := 256) (by decide) ((index_facts t).2.2.2.trans (Nat.div_eq_of_lt h1).symm)

/-- The result array ends holding the reference's function of the arguments. -/
theorem final : (dats m 0 c).arrAt 2 cfg0.N = goal m c :=
  (dats m 0 c).arrAt_eq_of_cover 2 (goal m c) (fun t _ => flushed_eq m c t) cover

end Cert.Proof.GateDown

end
-- ==== Proof.GateUp.lean ====
/- The gate's second projection: its sigmoid on the host, what its blocks compute, and what its result array holds after the run
   (hand-written). -/
module

public import proofs.«01_k».proof.Proof.Gen.Kernel8Ideal.Value
public import proofs.«01_k».proof.Proof.Gen.Reference8Ideal.Run
public import proofs.«01_k».proof.Proof.Tile
public import Idealize.ShloMosaic.Lib.IdealHost

@[expose] public section

noncomputable section

namespace Cert.Proof.GateUp

open Idealize.ShloMosaic Idealize.ShloMosaic.TcCoe Idealize.SL.Sem Cert.Kernel8Ideal Cert.Kernel8Ideal.Gen

/-- The sigmoid of the first projection's result. -/
def sigmoid (h : FVec Ideal S8192x256 .f32) : FVec Ideal S8192x256 .f32 :=
  Host.divf (broadcastInDim S8192x256 ![] bcast_S_S8192x256 (constant S_ .f32 0x3F800000#32))
    (addf (broadcastInDim S8192x256 ![] bcast_S_S8192x256 (constant S_ .f32 0x3F800000#32)) (Host.exp (Host.negf h)))

/-- The second projection as one function of its two arguments: the reference's term. -/
def whole (h : FVec Ideal S8192x256 .f32) (w : FVec Ideal S256x2048 .f32) : FVec Ideal S8192x2048 .f32 :=
  Host.dotGeneral Cert.Reference8Ideal.dot_S8192x256_S256x2048_S8192x2048_1_0_0_1_n_n none (sigmoid h) w

variable (m : (ℓ : Loc nD τ sig) → Buf (Elt Ideal) ℓ) (c : Dev nD)

/-- The result the kernel is to leave: the reference's function of the arguments. -/
abbrev goal : Buf (Elt Ideal) ((c : Thread nD τ).loc main_v6) :=
  whole (m ((c : Thread nD τ).loc main_arg0)) (m ((c : Thread nD τ).loc main_arg1))

/-- The sigmoid of the first argument. -/
abbrev squashed : FVec Ideal S8192x256 .f32 := sigmoid (m ((c : Thread nD τ).loc main_arg0))

/-- The launch finds it. -/
theorem host_sigmoid : V m c main_v5 = squashed m c := by
  unfold V hostOps0
  after_results_simp <;> rfl

/-- Where each window's block sits: the points run over the eight row blocks within each of the four column blocks. -/
theorem index_facts : ∀ t : Fin grid0.N,
    (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) := by
  decide +kernel

/-- Row `1024 (t % 8) + r` of the whole array, in range. -/
def row (t : Fin cfg0.N) (r : Fin 1024) : Fin 8192 :=
  ⟨1024 * (t.val % 8) + r.val, by have := r.isLt; omega⟩

/-- Column `512 (t / 8) + l` of the whole array, in range. -/
def col (t : Fin cfg0.N) (l : Fin 512) : Fin 2048 :=
  ⟨512 * (t.val / 8) + l.val, by have := t.isLt; have : cfg0.N = 32 := N_0; have := l.isLt; omega⟩

/-- The activations' block at point `t` is its rows of the sigmoid. -/
theorem block0 (t : Fin cfg0.N) (r : Fin 1024) (k : Fin 256) :
    (iblk m c 0 t : Vec Ideal S1024x256 .f32) (ix2 r k) = squashed m c (ix2 (row t r) k) :=
  (View.read_apply ..).trans ((congrFun (host_sigmoid m c) _).trans
    (congrArg (squashed m c) (Tile.eq_ix2 (Tile.at_block (index_facts t).1.1) (Tile.at_whole (index_facts t).1.2))))

/-- The weight's block at point `t` is its columns of the argument. -/
theorem block1 (t : Fin cfg0.N) (k : Fin 256) (l : Fin 512) :
    (iblk m c 1 t : Vec Ideal S256x512 .f32) (ix2 k l) = m ((c : Thread nD τ).loc main_arg1) (ix2 k (col t l)) :=
  (View.read_apply ..).trans ((congrFun (V_main_arg1 m c) _).trans
    (congrArg (m ((c : Thread nD τ).loc main_arg1)) (Tile.eq_ix2 (Tile.at_whole (index_facts t).2.1.1) (Tile.at_block (index_facts t).2.1.2))))

/-- An array read through the result's block at point `t`. -/
theorem result_block (G : S8192x2048.Idx → EReal) (t : Fin cfg0.N) (r : Fin 1024) (l : Fin 512) :
    (((cfg0.win 2).blk t).view.read (Elt Ideal) G : Vec Ideal S1024x512 .f32) (ix2 r l) = G (ix2 (row t r) (col t l)) :=
  (View.read_apply ..).trans (congrArg G (Tile.eq_ix2 (Tile.at_block (index_facts t).2.2.1) (Tile.at_block (index_facts t).2.2.2)))

/-- The payload at an entry: the row of activations contracted with the weight's column. -/
theorem entry (x : Vec Ideal S1024x256 .f32) (w : Vec Ideal S256x512 .f32) (r : Fin 1024) (l : Fin 512) :
    k0_pay1 (F := Ideal) x w (ix2 r l) = ∑ k : Fin 256, x (ix2 r k) * w (ix2 k l) := by
  pointwise [k0_pay1]

/-- What point `t` writes back is its block of the goal. -/
theorem flushed_eq (t : Fin cfg0.N) :
    (dats m 0 c).flushed 2 t = ((cfg0.win 2).blk t).view.read (Elt Ideal) (goal m c) := by
  rw [Cert.Kernel8Ideal.Value.flushed2]
  show (out0_2 (iblk m c 0 t) (iblk m c 1 t) : Vec Ideal S1024x512 .f32) = _
  unfold out0_2
  rw [View.canon_unit_zero Tile.zeros, View.ld_unit_zero Tile.zeros, View.ld_unit_zero Tile.zeros]
  refine Tile.ext_ix2 fun r l => (entry _ _ r l).trans (Eq.trans ?_ (result_block (goal m c) t r l).symm)
  simp only [block0, block1]
  unfold goal
  pointwise [whole]

/-- Every entry of the result lies in the block of the point its row and column fall to. -/
theorem cover (i : S8192x2048.Idx) :
    ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 32 := N_0
  obtain ⟨t, e0, e1⟩ : ∃ t : Fin cfg0.N, t.val % 8 = (i 0 : Nat) / 1024 ∧ t.val / 8 = (i 1 : Nat) / 512 :=
    ⟨⟨8 * ((i 1 : Nat) / 512) + (i 0 : Nat) / 1024, by omega⟩, by dsimp only; omega, by dsimp only; omega⟩
  refine ⟨t, flush0_2 _, ?_⟩
  show i ∈ ((View.whole main_v6).slice (win0_2.rect t)).set
  rw [View.set_slice_whole, Rect.mem_set_unit]
  intro a
  match a with
  | ⟨0, _⟩ => exact Tile.in_block (n := 1024) (by decide) ((index_facts t).2.2.1.trans e0)
  | ⟨1, _⟩ => exact Tile.in_block (n := 512) (by decide) ((index_facts t).2.2.2.trans e1)

/-- The result array ends holding the reference's function of the arguments. -/
theorem final : (dats m 0 c).arrAt 2 cfg0.N = goal m c :=
  (dats m 0 c).arrAt_eq_of_cover 2 (goal m c) (fun t _ => flushed_eq m c t) cover

end Cert.Proof.GateUp

end
-- ==== Proof.LoraDown.lean ====
/- The first projection of the decay and of the rate (hand-written). -/
module

public import proofs.«01_k».proof.Proof.Gen.Kernel9Ideal.Value
public import proofs.«01_k».proof.Proof.Gen.Reference9Ideal.Run
public import proofs.«01_k».proof.Proof.Tile
public import Idealize.ShloMosaic.Lib.IdealHost

@[expose] public section

noncomputable section

namespace Cert.Proof.LoraDown

open Idealize.ShloMosaic Idealize.ShloMosaic.TcCoe Idealize.SL.Sem Cert.Kernel9Ideal Cert.Kernel9Ideal.Gen

/-- The reference's term. -/
def whole (x : FVec Ideal S8192x2048 .bf16) (w : FVec Ideal S2048x96 .f32) : FVec Ideal S8192x96 .f32 :=
  Host.dotGeneral Cert.Reference9Ideal.dot_S8192x2048_S2048x96_S8192x96_1_0_0_1_n_n none x w

theorem pay_apply (x : Vec Ideal S1024x2048 .bf16) (w : Vec Ideal S2048x96 .f32) (r : Fin 1024) (l : Fin 96) :
    k0_pay1 (F := Ideal) x w (ix2 r l) = ∑ k : Fin 2048, x (ix2 r k) * w (ix2 k l) := by
  pointwise [k0_pay1]

variable (m : (ℓ : Loc nD τ sig) → Buf (Elt Ideal) ℓ) (c : Dev nD)

abbrev goal : Buf (Elt Ideal) ((c : Thread nD τ).loc main_v0) :=
  whole (m ((c : Thread nD τ).loc main_arg0)) (m ((c : Thread nD τ).loc main_arg1))

/-- A point has a block of rows and the whole weight. -/
theorem index_facts : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

def row (t : Fin cfg0.N) (r : Fin 1024) : Fin 8192 :=
  ⟨1024 * t.val + r.val, by have := t.isLt; have : cfg0.N = 8 := N_0; have := r.isLt; omega⟩

theorem block0 (t : Fin cfg0.N) (r : Fin 1024) (k : Fin 2048) :
    (iblk m c 0 t : Vec Ideal S1024x2048 .bf16) (ix2 r k) = m ((c : Thread nD τ).loc main_arg0) (ix2 (row t r) k) :=
  (View.read_apply ..).trans ((congrFun (V_main_arg0 m c) _).trans
    (congrArg (m ((c : Thread nD τ).loc main_arg0)) (Tile.eq_ix2 (Tile.at_block (index_facts t).1.1) (Tile.at_whole (index_facts t).1.2))))

theorem block1 (t : Fin cfg0.N) (k : Fin 2048) (l : Fin 96) :
    (iblk m c 1 t : Vec Ideal S2048x96 .f32) (ix2 k l) = m ((c : Thread nD τ).loc main_arg1) (ix2 k l) :=
  (View.read_apply ..).trans ((congrFun (V_main_arg1 m c) _).trans
    (congrArg (m ((c : Thread nD τ).loc main_arg1)) (Tile.eq_ix2 (Tile.at_whole (index_facts t).2.1.1) (Tile.at_whole (index_facts t).2.1.2))))

theorem result_block (G : S8192x96.Idx → EReal) (t : Fin cfg0.N) (r : Fin 1024) (l : Fin 96) :
    (((cfg0.win 2).blk t).view.read (Elt Ideal) G : Vec Ideal S1024x96 .f32) (ix2 r l) = G (ix2 (row t r) l) :=
  (View.read_apply ..).trans (congrArg G (Tile.eq_ix2 (Tile.at_block (index_facts t).2.2.1) (Tile.at_whole (index_facts t).2.2.2)))

/-- What point `t` writes back is its block of the goal. -/
theorem flushed_eq (t : Fin cfg0.N) :
    (dats m 0 c).flushed 2 t = ((cfg0.win 2).blk t).view.read (Elt Ideal) (goal m c) := by
  rw [Cert.Kernel9Ideal.Value.flushed2]
  show (out0_2 (iblk m c 0 t) (iblk m c 1 t) : Vec Ideal S1024x96 .f32) = _
  unfold out0_2
  rw [View.canon_unit_zero Tile.zeros, View.ld_unit_zero Tile.zeros, View.ld_unit_zero Tile.zeros]
  refine Tile.ext_ix2 fun r l => (pay_apply _ _ r l).trans (Eq.trans ?_ (result_block (goal m c) t r l).symm)
  simp only [block0, block1]
  unfold goal
  pointwise [whole]

theorem cover (i : S8192x96.Idx) :
    ∃ t : Fin cfg0.N, (cfg0.win 2).flush t = true ∧ i ∈ ((cfg0.win 2).blk t).view.set := by
  have h0 : (i 0 : Nat) < 8192 := (i 0).isLt
  have h1 : (i 1 : Nat) < 96 := (i 1).isLt
  have hN : cfg0.N = 8 := N_0
  have ht : (i 0 : Nat) / 1024 < cfg0.N := by omega
  refine ⟨⟨(i 0 : Nat) / 1024, ht⟩, flush0_2 _, ?_⟩
  show i ∈ ((View.whole main_v0).slice (win0_2.rect ⟨(i 0 : Nat) / 1024, ht⟩)).set
  rw [View.set_slice_whole, Rect.mem_set_unit]
  have e := (index_facts ⟨(i 0 : Nat) / 1024, ht⟩).2.2
  intro a
  match a with
  | ⟨0, _⟩ => exact Tile.in_block (n := 1024) (by decide) e.1
  | ⟨1, _⟩ => exact Tile.in_block (n := 96) (by decide) (e.2.trans (by show 0 = (i 1 : Nat) / 96; omega))

theorem final : (dats m 0 c).arrAt 2 cfg0.N = goal m c :=
  (dats m 0 c).arrAt_eq_of_cover 2 (goal m c) (fun t _ => flushed_eq m c t) cover

end Cert.Proof.LoraDown

end
-- ==== Proof.DecayUp.lean ====
/- The decay's second projection, of the tangent the host takes (hand-written). -/
module

public import proofs.«01_k».proof.Proof.Gen.Kernel10Ideal.Value
public import proofs.«01_k».proof.Proof.Gen.Reference10Ideal.Run
public import proofs.«01_k».proof.Proof.Tile
public import Idealize.ShloMosaic.Lib.IdealHost

@[expose] public section

noncomputable section

namespace Cert.Proof.DecayUp

open Idealize.ShloMosaic Idealize.ShloMosaic.TcCoe Idealize.SL.Sem Cert.Kernel10Ideal Cert.Kernel10Ideal.Gen

/-- The reference's term. -/
def whole (h : FVec Ideal S8192x96 .f32) (w : FVec Ideal S96x2048 .f32) : FVec Ideal S8192x2048 .f32 :=
  Host.dotGeneral Cert.Reference10Ideal.dot_S8192x96_S96x2048_S8192x2048_1_0_0_1_n_n none (Host.tanh h) w

theorem pay_apply (x : Vec Ideal S1024x96 .f32) (w : Vec Ideal S96x512 .f32) (r : Fin 1024) (l : Fin 512) :
    k0_pay1 (F := Ideal) x w (ix2 r l) = ∑ k : Fin 96, x (ix2 r k) * w (ix2 k l) := by
  pointwise [k0_pay1]

variable (m : (ℓ : Loc nD τ sig) → Buf (Elt Ideal) ℓ) (c : Dev nD)

abbrev goal : Buf (Elt Ideal) ((c : Thread nD τ).loc main_v1) :=
  whole (m ((c : Thread nD τ).loc main_arg0)) (m ((c : Thread nD τ).loc main_arg1))

/-- The tangent of the first argument. -/
abbrev bent : FVec Ideal S8192x96 .f32 :=
  Host.tanh (F := Ideal) (s := S8192x96) (φ := .f32) (m ((c : Thread nD τ).loc main_arg0))

/-- The launch finds it. -/
theorem host_tanh : V m c main_v0 = bent m c := by
  unfold V hostOps0
  after_results_simp <;> rfl

/-- The points run over the eight row blocks within each of the four column blocks. -/
theorem index_facts : ∀ t : Fin grid0.N,
    (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) := by
  decide +kernel

def row (t : Fin cfg0.N) (r : Fin 1024) : Fin 8192 :=
  ⟨1024 * (t.val % 8) + r.val, by have := r.isLt; omega⟩

def col (t : Fin cfg0.N) (l : Fin 512) : Fin 2048 :=
  ⟨512 * (t.val / 8) + l.val, by have := t.isLt; have : cfg0.N = 32 := N_0; have := l.isLt; omega⟩

theorem block0 (t : Fin cfg0.N) (r : Fin 1024) (k : Fin 96) :
    (iblk m c 0 t : Vec Ideal S1024x96 .f32) (ix2 r k) = bent m c (ix2 (row t r) k) :=
  (View.read_apply ..).trans ((congrFun (host_tanh m c) _).trans
    (congrArg (bent m c) (Tile.eq_ix2 (Tile.at_block (index_facts t).1.1) (Tile.at_whole (index_facts t).1.2))))

theorem block1 (t : Fin cfg0.N) (k : Fin 96) (l : Fin 512) :
    (iblk m c 1 t : Vec Ideal S96x512 .f32) (ix2 k l) = m ((c : Thread nD τ).loc main_arg1) (ix2 k (col t l)) :=
  (View.read_apply ..).trans ((congrFun (V_main_arg1 m c) _).trans
    (congrArg (m ((c : Thread nD τ).loc main_arg1)) (Tile.eq_ix2 (Tile.at_whole (index_facts t).2.1.1) (Tile.at_block (index_facts t).2.1.2))))

theorem result_block (G : S8192x2048.Idx → EReal) (t : Fin cfg0.N) (r : Fin 1024) (l : Fin 512) :
    (((cfg0.win 2).blk t).view.read (Elt Ideal) G : Vec Ideal S1024x512 .f32) (ix2 r l) = G (ix2 (row t r) (col t l)) :=
  (View.read_apply ..).trans (congrArg G (Tile.eq_ix2 (Tile.at_block (index_facts t).2.2.1) (Tile.at_block (index_facts t).2.2.2)))

/-- What point `t` writes back is its block of the goal. -/
theorem flushed_eq (t : Fin cfg0.N) :
    (dats m 0 c).flushed 2 t = ((cfg0.win 2).blk t).view.read (Elt Ideal) (goal m c) := by
  rw [Cert.Kernel10Ideal.Value.flushed2]
  show (out0_2 (iblk m c 0 t) (iblk m c 1 t) : Vec Ideal S1024x512 .f32) = _
  unfold out0_2
  rw [View.canon_unit_zero Tile.zeros, View.ld_unit_zero Tile.zeros, View.ld_unit_zero Tile.zeros]
  refine Tile.ext_ix2 fun r l => (pay_apply _ _ r l).trans (Eq.trans ?_ (result_block (goal m c) t r l).symm)
  simp only [block0, block1]
  unfold goal
  pointwise [whole]

theorem cover (i : S8192x2048.Idx) :
    ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 32 := N_0
  obtain ⟨t, e0, e1⟩ : ∃ t : Fin cfg0.N, t.val % 8 = (i 0 : Nat) / 1024 ∧ t.val / 8 = (i 1 : Nat) / 512 :=
    ⟨⟨8 * ((i 1 : Nat) / 512) + (i 0 : Nat) / 1024, by omega⟩, by dsimp only; omega, by dsimp only; omega⟩
  refine ⟨t, flush0_2 _, ?_⟩
  show i ∈ ((View.whole main_v1).slice (win0_2.rect t)).set
  rw [View.set_slice_whole, Rect.mem_set_unit]
  intro a
  match a with
  | ⟨0, _⟩ => exact Tile.in_block (n := 1024) (by decide) ((index_facts t).2.2.1.trans e0)
  | ⟨1, _⟩ => exact Tile.in_block (n := 512) (by decide) ((index_facts t).2.2.2.trans e1)

theorem final : (dats m 0 c).arrAt 2 cfg0.N = goal m c :=
  (dats m 0 c).arrAt_eq_of_cover 2 (goal m c) (fun t _ => flushed_eq m c t) cover

end Cert.Proof.DecayUp

end
-- ==== Proof.RateUp.lean ====
/- The rate's second projection (hand-written). -/
module

public import proofs.«01_k».proof.Proof.Gen.Kernel11Ideal.Value
public import proofs.«01_k».proof.Proof.Gen.Reference11Ideal.Run
public import proofs.«01_k».proof.Proof.Tile
public import Idealize.ShloMosaic.Lib.IdealHost

@[expose] public section

noncomputable section

namespace Cert.Proof.RateUp

open Idealize.ShloMosaic Idealize.ShloMosaic.TcCoe Idealize.SL.Sem Cert.Kernel11Ideal Cert.Kernel11Ideal.Gen

/-- The reference's term. -/
def whole (h : FVec Ideal S8192x96 .f32) (w : FVec Ideal S96x2048 .f32) : FVec Ideal S8192x2048 .f32 :=
  Host.dotGeneral Cert.Reference11Ideal.dot_S8192x96_S96x2048_S8192x2048_1_0_0_1_n_n none h w

theorem pay_apply (x : Vec Ideal S1024x96 .f32) (w : Vec Ideal S96x512 .f32) (r : Fin 1024) (l : Fin 512) :
    k0_pay1 (F := Ideal) x w (ix2 r l) = ∑ k : Fin 96, x (ix2 r k) * w (ix2 k l) := by
  pointwise [k0_pay1]

variable (m : (ℓ : Loc nD τ sig) → Buf (Elt Ideal) ℓ) (c : Dev nD)

abbrev goal : Buf (Elt Ideal) ((c : Thread nD τ).loc main_v0) :=
  whole (m ((c : Thread nD τ).loc main_arg0)) (m ((c : Thread nD τ).loc main_arg1))

/-- The points run over the eight row blocks within each of the four column blocks. -/
theorem index_facts : ∀ t : Fin grid0.N,
    (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) := by
  decide +kernel

def row (t : Fin cfg0.N) (r : Fin 1024) : Fin 8192 :=
  ⟨1024 * (t.val % 8) + r.val, by have := r.isLt; omega⟩

def col (t : Fin cfg0.N) (l : Fin 512) : Fin 2048 :=
  ⟨512 * (t.val / 8) + l.val, by have := t.isLt; have : cfg0.N = 32 := N_0; have := l.isLt; omega⟩

theorem block0 (t : Fin cfg0.N) (r : Fin 1024) (k : Fin 96) :
    (iblk m c 0 t : Vec Ideal S1024x96 .f32) (ix2 r k) = m ((c : Thread nD τ).loc main_arg0) (ix2 (row t r) k) :=
  (View.read_apply ..).trans ((congrFun (V_main_arg0 m c) _).trans
    (congrArg (m ((c : Thread nD τ).loc main_arg0)) (Tile.eq_ix2 (Tile.at_block (index_facts t).1.1) (Tile.at_whole (index_facts t).1.2))))

theorem block1 (t : Fin cfg0.N) (k : Fin 96) (l : Fin 512) :
    (iblk m c 1 t : Vec Ideal S96x512 .f32) (ix2 k l) = m ((c : Thread nD τ).loc main_arg1) (ix2 k (col t l)) :=
  (View.read_apply ..).trans ((congrFun (V_main_arg1 m c) _).trans
    (congrArg (m ((c : Thread nD τ).loc main_arg1)) (Tile.eq_ix2 (Tile.at_whole (index_facts t).2.1.1) (Tile.at_block (index_facts t).2.1.2))))

theorem result_block (G : S8192x2048.Idx → EReal) (t : Fin cfg0.N) (r : Fin 1024) (l : Fin 512) :
    (((cfg0.win 2).blk t).view.read (Elt Ideal) G : Vec Ideal S1024x512 .f32) (ix2 r l) = G (ix2 (row t r) (col t l)) :=
  (View.read_apply ..).trans (congrArg G (Tile.eq_ix2 (Tile.at_block (index_facts t).2.2.1) (Tile.at_block (index_facts t).2.2.2)))

/-- What point `t` writes back is its block of the goal. -/
theorem flushed_eq (t : Fin cfg0.N) :
    (dats m 0 c).flushed 2 t = ((cfg0.win 2).blk t).view.read (Elt Ideal) (goal m c) := by
  rw [Cert.Kernel11Ideal.Value.flushed2]
  show (out0_2 (iblk m c 0 t) (iblk m c 1 t) : Vec Ideal S1024x512 .f32) = _
  unfold out0_2
  rw [View.canon_unit_zero Tile.zeros, View.ld_unit_zero Tile.zeros, View.ld_unit_zero Tile.zeros]
  refine Tile.ext_ix2 fun r l => (pay_apply _ _ r l).trans (Eq.trans ?_ (result_block (goal m c) t r l).symm)
  simp only [block0, block1]
  unfold goal
  pointwise [whole]

theorem cover (i : S8192x2048.Idx) :
    ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 32 := N_0
  obtain ⟨t, e0, e1⟩ : ∃ t : Fin cfg0.N, t.val % 8 = (i 0 : Nat) / 1024 ∧ t.val / 8 = (i 1 : Nat) / 512 :=
    ⟨⟨8 * ((i 1 : Nat) / 512) + (i 0 : Nat) / 1024, by omega⟩, by dsimp only; omega, by dsimp only; omega⟩
  refine ⟨t, flush0_2 _, ?_⟩
  show i ∈ ((View.whole main_v0).slice (win0_2.rect t)).set
  rw [View.set_slice_whole, Rect.mem_set_unit]
  intro a
  match a with
  | ⟨0, _⟩ => exact Tile.in_block (n := 1024) (by decide) ((index_facts t).2.2.1.trans e0)
  | ⟨1, _⟩ => exact Tile.in_block (n := 512) (by decide) ((index_facts t).2.2.2.trans e1)

theorem final : (dats m 0 c).arrAt 2 cfg0.N = goal m c :=
  (dats m 0 c).arrAt_eq_of_cover 2 (goal m c) (fun t _ => flushed_eq m c t) cover

end Cert.Proof.RateUp

end
-- ==== Proof.Conditioning.lean ====
/- The conditioning's projection of the first layer (hand-written). -/
module

public import proofs.«01_k».proof.Proof.Gen.Kernel12Ideal.Value
public import proofs.«01_k».proof.Proof.Gen.Reference12Ideal.Run
public import proofs.«01_k».proof.Proof.Tile
public import Idealize.ShloMosaic.Lib.IdealHost

@[expose] public section

noncomputable section

namespace Cert.Proof.Conditioning

open Idealize.ShloMosaic Idealize.ShloMosaic.TcCoe Idealize.SL.Sem Cert.Kernel12Ideal Cert.Kernel12Ideal.Gen

/-- The reference's term: the first layer's weight is sliced out of the two layers'. -/
def whole (x : FVec Ideal S8x2048 .f32) (w : FVec Ideal S2x2048x12288 .f32) : FVec Ideal S8x12288 .f32 :=
  Host.dotGeneral Cert.Reference12Ideal.dot_S8x2048_S2048x12288_S8x12288_1_0_0_1_n_n none x
    (shapeCast _ (extractStridedSlice Cert.Reference12Ideal.S1x2048x12288 ![0, 0, 0] w
      Cert.Reference12Ideal.Facts₀.slices_S2x2048x12288_S1x2048x12288_0_0_0)
      Cert.Reference12Ideal.Facts₀.shapeCasts_S1x2048x12288_S2048x12288)

theorem whole_apply (x : FVec Ideal S8x2048 .f32) (w : FVec Ideal S2x2048x12288 .f32) (r : Fin 8) (l : Fin 12288) :
    whole x w (ix2 r l) = ∑ k : Fin 2048, x (ix2 r k) * w (ix3 0 k l) := by
  pointwise [whole]

theorem pay_apply (x : Vec Ideal S8x2048 .f32) (w : Vec Ideal S1x2048x1024 .f32) (r : Fin 8) (l : Fin 1024) :
    k0_pay1 (F := Ideal) x w (ix2 r l) = ∑ k : Fin 2048, x (ix2 r k) * w (ix3 0 k l) := by
  pointwise [k0_pay1]

variable (m : (ℓ : Loc nD τ sig) → Buf (Elt Ideal) ℓ) (c : Dev nD)

abbrev goal : Buf (Elt Ideal) ((c : Thread nD τ).loc main_v0) :=
  whole (m ((c : Thread nD τ).loc main_arg0)) (m ((c : Thread nD τ).loc main_arg1))

/-- A point has all the conditions and a block of columns of the first layer's weight. -/
theorem index_facts : ∀ t : Fin grid0.N,
    (win0_0.index t 0 = 0 ∧ win0_0.index t 1 = 0)
    ∧ (win0_1.index t 0 = 0 ∧ win0_1.index t 1 = 0 ∧ win0_1.index t 2 = t.val)
    ∧ (win0_2.index t 0 = 0 ∧ win0_2.index t 1 = t.val) := by
  decide +kernel

def col (t : Fin cfg0.N) (l : Fin 1024) : Fin 12288 :=
  ⟨1024 * t.val + l.val, by have := t.isLt; have : cfg0.N = 12 := N_0; have := l.isLt; omega⟩

theorem block0 (t : Fin cfg0.N) (r : Fin 8) (k : Fin 2048) :
    (iblk m c 0 t : Vec Ideal S8x2048 .f32) (ix2 r k) = m ((c : Thread nD τ).loc main_arg0) (ix2 r k) :=
  (View.read_apply ..).trans ((congrFun (V_main_arg0 m c) _).trans
    (congrArg (m ((c : Thread nD τ).loc main_arg0)) (Tile.eq_ix2 (Tile.at_whole (index_facts t).1.1) (Tile.at_whole (index_facts t).1.2))))

theorem block1 (t : Fin cfg0.N) (k : Fin 2048) (l : Fin 1024) :
    (iblk m c 1 t : Vec Ideal S1x2048x1024 .f32) (ix3 0 k l) = m ((c : Thread nD τ).loc main_arg1) (ix3 0 k (col t l)) :=
  (View.read_apply ..).trans ((congrFun (V_main_arg1 m c) _).trans
    (congrArg (m ((c : Thread nD τ).loc main_arg1)) (Tile.eq_ix3 (Tile.at_whole (index_facts t).2.1.1)
      (Tile.at_whole (index_facts t).2.1.2.1) (Tile.at_block (index_facts t).2.1.2.2))))

theorem result_block (G : S8x12288.Idx → EReal) (t : Fin cfg0.N) (r : Fin 8) (l : Fin 1024) :
    (((cfg0.win 2).blk t).view.read (Elt Ideal) G : Vec Ideal S8x1024 .f32) (ix2 r l) = G (ix2 r (col t l)) :=
  (View.read_apply ..).trans (congrArg G (Tile.eq_ix2 (Tile.at_whole (index_facts t).2.2.1) (Tile.at_block (index_facts t).2.2.2)))

/-- What point `t` writes back is its block of the goal. -/
theorem flushed_eq (t : Fin cfg0.N) :
    (dats m 0 c).flushed 2 t = ((cfg0.win 2).blk t).view.read (Elt Ideal) (goal m c) := by
  rw [Cert.Kernel12Ideal.Value.flushed2]
  show (out0_2 (iblk m c 0 t) (iblk m c 1 t) : Vec Ideal S8x1024 .f32) = _
  unfold out0_2
  rw [View.canon_unit_zero Tile.zeros, View.ld_unit_zero Tile.zeros, View.ld_unit_zero Tile.zeros3]
  refine Tile.ext_ix2 fun r l => (pay_apply _ _ r l).trans (Eq.trans ?_ (result_block (goal m c) t r l).symm)
  refine Eq.trans ?_ (whole_apply _ _ r (col t l)).symm
  simp only [block0, block1]

theorem cover (i : S8x12288.Idx) :
    ∃ t : Fin cfg0.N, (cfg0.win 2).flush t = true ∧ i ∈ ((cfg0.win 2).blk t).view.set := by
  have h0 : (i 0 : Nat) < 8 := (i 0).isLt
  have h1 : (i 1 : Nat) < 12288 := (i 1).isLt
  have hN : cfg0.N = 12 := N_0
  obtain ⟨t, e1⟩ : ∃ t : Fin cfg0.N, t.val = (i 1 : Nat) / 1024 := ⟨⟨(i 1 : Nat) / 1024, by omega⟩, rfl⟩
  refine ⟨t, flush0_2 _, ?_⟩
  show i ∈ ((View.whole main_v0).slice (win0_2.rect t)).set
  rw [View.set_slice_whole, Rect.mem_set_unit]
  intro a
  match a with
  | ⟨0, _⟩ => exact Tile.in_block (n := 8) (by decide) ((index_facts t).2.2.1.trans (Nat.div_eq_of_lt h0).symm)
  | ⟨1, _⟩ => exact Tile.in_block (n := 1024) (by decide) ((index_facts t).2.2.2.trans e1)

theorem final : (dats m 0 c).arrAt 2 cfg0.N = goal m c :=
  (dats m 0 c).arrAt_eq_of_cover 2 (goal m c) (fun t _ => flushed_eq m c t) cover

end Cert.Proof.Conditioning

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counted
public import proofs.«01_k».proof.Proof.KernelFrame
public import proofs.«01_k».proof.Proof.ItemsArray
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.SharedArray
public import proofs.«01_k».proof.Proof.Projection
public import proofs.«01_k».proof.Proof.NormArray
public import proofs.«01_k».proof.Proof.PremixArray
public import proofs.«01_k».proof.Proof.PoolArray
public import proofs.«01_k».proof.Proof.GateDown
public import proofs.«01_k».proof.Proof.GateUp
public import proofs.«01_k».proof.Proof.LoraDown
public import proofs.«01_k».proof.Proof.DecayUp
public import proofs.«01_k».proof.Proof.RateUp
public import proofs.«01_k».proof.Proof.Conditioning
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

noncomputable section

namespace Cert.Proof

open Idealize.ShloMosaic Idealize.ShloMosaic.TcCoe Idealize.SL.Sem

/-- The idealized kernel's frame. -/
theorem ideal_frame : Cert.quiescent_KernelIdeal := fun m ρ hpre =>
  (θ_run Cert.KernelIdeal.defs _ _).mono (fun r h => ⟨fun c => (h.1 c).2, h.2⟩)
    (Cert.KernelIdeal.Items.run m ρ (Cert.KernelIdeal.Items.planned m (Plan.Words.rowsOf_at _) (Plan.Words.rowsOf_sum _ _ _ _ _ (hpre 0))))

/-- The reference leaves its arguments unchanged and declares no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On the extended reals the kernel and the reference end with equal results. -/
theorem algebraic : Cert.algebraic_KernelIdeal_ReferenceIdeal := by
  intro m ρ m' ρ' hpre hagree
  have hs := Plan.Words.rowsOf_sum _ _ _ _ _ (hpre 0)
  have hP := Cert.KernelIdeal.Items.planned m (Plan.Words.rowsOf_at _) hs
  refine ⟨fun c => Routed.goal m c, ?_, ?_⟩
  · refine (θ_run Cert.KernelIdeal.defs _ _).mono (fun _ h c => ⟨(h.1 c).1.trans ?_, (h.1 c).2⟩) (Cert.KernelIdeal.Items.run m ρ hP)
    obtain rfl : c = 0 := Subsingleton.elim _ _
    exact Routed.final m hP 0 (Plan.Words.rowsOf_at _)
  · refine (θ_run Cert.ReferenceIdeal.defs _ _).mono (fun _ h c => ⟨(h c).1.trans ?_, (h c).2⟩)
      (Cert.ReferenceIdeal.Value.run (F := Ideal) m' ρ')
    show _ = Routed.mix _ (Routed.gatesOf _) _ _ _
    rw [(hagree c).1, (hagree c).2.1, (hagree c).2.2.1, (hagree c).2.2.2.1, (hagree c).2.2.2.2]
    rfl

/-- The shared expert's reference leaves its arguments unchanged. -/
theorem shared_reference_frame : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- On the extended reals the shared expert and its reference end with equal results. -/
theorem shared_algebraic : Cert.algebraic_Kernel2Ideal_Reference2Ideal := by
  intro m ρ m' ρ' _ hagree
  refine ⟨fun c => Shared.goal m c, ?_, ?_⟩
  · exact (θ_run Cert.Kernel2Ideal.defs _ _).mono (fun _ h c => ⟨(h c).1.trans (Shared.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    show _ = Shared.whole _ _ _ _
    rw [(hagree c).1, (hagree c).2.1, (hagree c).2.2.1, (hagree c).2.2.2]
    rfl

/-- The projection's reference leaves its arguments unchanged. -/
theorem projection_reference_frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- On the extended reals the projection and its reference end with equal results. -/
theorem projection_algebraic : Cert.algebraic_Kernel3Ideal_Reference3Ideal := by
  intro m ρ m' ρ' _ hagree
  refine ⟨fun c => Projection.goal m c, ?_, ?_⟩
  · exact (θ_run Cert.Kernel3Ideal.defs _ _).mono (fun _ h c => ⟨(h c).1.trans (Projection.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    show _ = Projection.whole _ _
    rw [(hagree c).1, (hagree c).2]
    rfl

/-- The residual layer norm's reference leaves its arguments unchanged. -/
theorem norm_reference_frame : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- On the extended reals the residual layer norm and its reference end with equal results, both of them. -/
theorem norm_algebraic : Cert.algebraic_Kernel4Ideal_Reference4Ideal := by
  intro m ρ m' ρ' _ hagree
  refine ⟨fun c => Norm.goal m c, fun c => Norm.goal' m c, ?_, ?_⟩
  · exact (θ_run Cert.Kernel4Ideal.defs _ _).mono
      (fun _ h c => ⟨(h c).1.trans (Norm.final5 m c), (h c).2.1.trans (Norm.final6 m c), (h c).2.2⟩)
      (Cert.Kernel4Ideal.Value.run_blocks (F := Ideal) m ρ)
  · refine (θ_run Cert.Reference4Ideal.defs _ _).mono (fun _ h c => ⟨(h c).1.trans ?_, (h c).2.1.trans ?_, (h c).2.2⟩)
      (Cert.Reference4Ideal.Value.run (F := Ideal) m' ρ')
    · show _ = Norm.whole _ _ _ _ _
      rw [← (hagree c).1, ← (hagree c).2.1, ← (hagree c).2.2.1, ← (hagree c).2.2.2.1, ← (hagree c).2.2.2.2]
      rfl
    · show _ = Norm.whole' _ _ _ _ _
      rw [← (hagree c).1, ← (hagree c).2.1, ← (hagree c).2.2.1, ← (hagree c).2.2.2.1, ← (hagree c).2.2.2.2]
      rfl

/-- The token shift's reference leaves its arguments unchanged. -/
theorem premix_reference_frame : Cert.quiescent_Reference5Ideal := fun m ρ _ =>
  (θ_run Cert.Reference5Ideal.defs _ _).mono (fun r h => ⟨fun c => (h c).2.2.2.2.2.2,
      Idealize.ShloMosaic.sem_eq_zero_of_no_sems (by decide) r.2⟩)
    (Cert.Reference5Ideal.Value.run (F := Ideal) m ρ)

/-- One of the token shift's results, from equal arguments. -/
theorem premix_congr {x x' : FVec Ideal Cert.Reference5Ideal.S8192x2048 .f32} {mods mods' : FVec Ideal Cert.Reference5Ideal.S8x6x2048 .f32}
    {p p' n n' : FVec Ideal Cert.Reference5Ideal.S6x2048 .f32} (h : x' = x ∧ mods' = mods ∧ p' = p ∧ n' = n) (i : Nat) (hi) :
    Premix.whole x' mods' p' n' i hi = Premix.whole x mods p n i hi := by
  rw [h.1, h.2.1, h.2.2.1, h.2.2.2]

/-- On the extended reals the token shift and its reference end with equal results, all six of them. -/
theorem premix_algebraic : Cert.algebraic_Kernel5Ideal_Reference5Ideal := by
  intro m ρ m' ρ' _ hagree
  refine ⟨fun c => Premix.goal m c 0 (by decide), fun c => Premix.goal m c 1 (by decide),
    fun c => Premix.goal m c 2 (by decide), fun c => Premix.goal m c 3 (by decide),
    fun c => Premix.goal m c 4 (by decide), fun c => Premix.goal m c 5 (by decide), ?_, ?_⟩
  · exact (θ_run Cert.Kernel5Ideal.defs _ _).mono
      (fun _ h c => ⟨(h c).1.trans (Premix.final0 m c _), (h c).2.1.trans (Premix.final1 m c _), (h c).2.2.1.trans (Premix.final2 m c _),
        (h c).2.2.2.1.trans (Premix.final3 m c _), (h c).2.2.2.2.1.trans (Premix.final4 m c _), (h c).2.2.2.2.2.1.trans (Premix.final5 m c _),
        (h c).2.2.2.2.2.2⟩)
      (Cert.Kernel5Ideal.Value.run_blocks (F := Ideal) m ρ)
  · exact (θ_run Cert.Reference5Ideal.defs _ _).mono
      (fun _ h c => ⟨(h c).1.trans (premix_congr (hagree c) 0 _), (h c).2.1.trans (premix_congr (hagree c) 1 _),
        (h c).2.2.1.trans (premix_congr (hagree c) 2 _), (h c).2.2.2.1.trans (premix_congr (hagree c) 3 _),
        (h c).2.2.2.2.1.trans (premix_congr (hagree c) 4 _), (h c).2.2.2.2.2.1.trans (premix_congr (hagree c) 5 _), (h c).2.2.2.2.2.2⟩)
      (Cert.Reference5Ideal.Value.run (F := Ideal) m' ρ')

/-- The pooling's reference leaves its arguments unchanged. -/
theorem pool_reference_frame : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- On the extended reals the pooling and its reference end with equal results. -/
theorem pool_algebraic : Cert.algebraic_Kernel6Ideal_Reference6Ideal := by
  intro m ρ m' ρ' _ hagree
  refine ⟨fun c => Pool.goal m c, ?_, ?_⟩
  · exact (θ_run Cert.Kernel6Ideal.defs _ _).mono (fun _ h c => ⟨(h c).1.trans (Pool.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    show _ = Pool.whole _ _ _ _
    rw [← (hagree c).1, ← (hagree c).2.1, ← (hagree c).2.2.1, ← (hagree c).2.2.2]
    rfl

/-- The gate's first projection's reference leaves its arguments unchanged. -/
theorem gate_down_reference_frame : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

/-- On the extended reals the gate's first projection and its reference end with equal results. -/
theorem gate_down_algebraic : Cert.algebraic_Kernel7Ideal_Reference7Ideal := fun m ρ m' ρ' _ hagree =>
  ⟨fun c => GateDown.goal m c,
    (θ_run _ _ _).mono (fun _ h c => ⟨(h c).1.trans (GateDown.final m c), (h c).2⟩) (Cert.Kernel7Ideal.Value.run_blocks (F := Ideal) m ρ),
    (θ_run _ _ _).mono (fun _ h c => ⟨(h c).1.trans (congrArg₂ GateDown.whole (hagree c).1 (hagree c).2), (h c).2⟩)
      (Cert.Reference7Ideal.Value.run (F := Ideal) m' ρ')⟩

/-- The gate's second projection's reference leaves its arguments unchanged. -/
theorem gate_up_reference_frame : Cert.quiescent_Reference8Ideal := fun m ρ _ =>
  (θ_run _ _ _).mono (fun r h => ⟨fun c => (h c).2, sem_eq_zero_of_no_sems (by decide) r.2⟩)
    (Cert.Reference8Ideal.Value.run (F := Ideal) m ρ)

/-- On the extended reals the gate's second projection and its reference end with equal results. -/
theorem gate_up_algebraic : Cert.algebraic_Kernel8Ideal_Reference8Ideal := fun m ρ m' ρ' _ hagree =>
  ⟨fun c => GateUp.goal m c,
    (θ_run _ _ _).mono (fun _ h c => ⟨(h c).1.trans (GateUp.final m c), (h c).2⟩) (Cert.Kernel8Ideal.Value.run_blocks (F := Ideal) m ρ),
    (θ_run _ _ _).mono (fun _ h c => ⟨(h c).1.trans (congrArg₂ GateUp.whole (hagree c).1 (hagree c).2), (h c).2⟩)
      (Cert.Reference8Ideal.Value.run (F := Ideal) m' ρ')⟩

/-- The first low-rank projection's reference leaves its arguments unchanged. -/
theorem lora_down_reference_frame : Cert.quiescent_Reference9Ideal := fun m ρ _ =>
  (θ_run _ _ _).mono (fun r h => ⟨fun c => (h c).2, sem_eq_zero_of_no_sems (by decide) r.2⟩)
    (Cert.Reference9Ideal.Value.run (F := Ideal) m ρ)

/-- On the extended reals the first low-rank projection and its reference end with equal results. -/
theorem lora_down_algebraic : Cert.algebraic_Kernel9Ideal_Reference9Ideal := fun m ρ m' ρ' _ hagree =>
  ⟨fun c => LoraDown.goal m c,
    (θ_run _ _ _).mono (fun _ h c => ⟨(h c).1.trans (LoraDown.final m c), (h c).2⟩) (Cert.Kernel9Ideal.Value.run_blocks (F := Ideal) m ρ),
    (θ_run _ _ _).mono (fun _ h c => ⟨(h c).1.trans (congrArg₂ LoraDown.whole (hagree c).1 (hagree c).2), (h c).2⟩)
      (Cert.Reference9Ideal.Value.run (F := Ideal) m' ρ')⟩

/-- The decay's second projection's reference leaves its arguments unchanged. -/
theorem decay_up_reference_frame : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

/-- On the extended reals the decay's second projection and its reference end with equal results. -/
theorem decay_up_algebraic : Cert.algebraic_Kernel10Ideal_Reference10Ideal := fun m ρ m' ρ' _ hagree =>
  ⟨fun c => DecayUp.goal m c,
    (θ_run _ _ _).mono (fun _ h c => ⟨(h c).1.trans (DecayUp.final m c), (h c).2⟩) (Cert.Kernel10Ideal.Value.run_blocks (F := Ideal) m ρ),
    (θ_run _ _ _).mono (fun _ h c => ⟨(h c).1.trans (congrArg₂ DecayUp.whole (hagree c).1 (hagree c).2), (h c).2⟩)
      (Cert.Reference10Ideal.Value.run (F := Ideal) m' ρ')⟩

/-- The rate's second projection's reference leaves its arguments unchanged. -/
theorem rate_up_reference_frame : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

/-- On the extended reals the rate's second projection and its reference end with equal results. -/
theorem rate_up_algebraic : Cert.algebraic_Kernel11Ideal_Reference11Ideal := fun m ρ m' ρ' _ hagree =>
  ⟨fun c => RateUp.goal m c,
    (θ_run _ _ _).mono (fun _ h c => ⟨(h c).1.trans (RateUp.final m c), (h c).2⟩) (Cert.Kernel11Ideal.Value.run_blocks (F := Ideal) m ρ),
    (θ_run _ _ _).mono (fun _ h c => ⟨(h c).1.trans (congrArg₂ RateUp.whole (hagree c).1 (hagree c).2), (h c).2⟩)
      (Cert.Reference11Ideal.Value.run (F := Ideal) m' ρ')⟩

/-- The conditioning's projection's reference leaves its arguments unchanged. -/
theorem conditioning_reference_frame : Cert.quiescent_Reference12Ideal := fun m ρ _ =>
  (θ_run _ _ _).mono (fun r h => ⟨fun c => (h c).2, sem_eq_zero_of_no_sems (by decide) r.2⟩)
    (Cert.Reference12Ideal.Value.run (F := Ideal) m ρ)

/-- On the extended reals the conditioning's projection and its reference end with equal results. -/
theorem conditioning_algebraic : Cert.algebraic_Kernel12Ideal_Reference12Ideal := fun m ρ m' ρ' _ hagree =>
  ⟨fun c => Conditioning.goal m c,
    (θ_run _ _ _).mono (fun _ h c => ⟨(h c).1.trans (Conditioning.final m c), (h c).2⟩) (Cert.Kernel12Ideal.Value.run_blocks (F := Ideal) m ρ),
    (θ_run _ _ _).mono (fun _ h c => ⟨(h c).1.trans (congrArg₂ Conditioning.whole (hagree c).1 (hagree c).2), (h c).2⟩)
      (Cert.Reference12Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts, Cert.Pre_counted.Gen.facts,
    kernel_frame, ideal_frame, reference_frame, fun m ρ _ => reference_frame m ρ trivial,
    fun m ρ _ => Cert.Kernel2.Gen.frame m ρ, fun m ρ _ => Cert.Kernel2Ideal.Gen.frame m ρ, shared_reference_frame,
    fun m ρ _ => Cert.Kernel3.Gen.frame m ρ, fun m ρ _ => Cert.Kernel3Ideal.Gen.frame m ρ, projection_reference_frame,
    fun m ρ _ => Cert.Kernel4.Gen.frame m ρ, fun m ρ _ => Cert.Kernel4Ideal.Gen.frame m ρ, norm_reference_frame,
    fun m ρ _ => Cert.Kernel5.Gen.frame m ρ, fun m ρ _ => Cert.Kernel5Ideal.Gen.frame m ρ, premix_reference_frame,
    fun m ρ _ => Cert.Kernel6.Gen.frame m ρ, fun m ρ _ => Cert.Kernel6Ideal.Gen.frame m ρ, pool_reference_frame,
    fun m ρ _ => Cert.Kernel7.Gen.frame m ρ, fun m ρ _ => Cert.Kernel7Ideal.Gen.frame m ρ, gate_down_reference_frame,
    fun m ρ _ => Cert.Kernel8.Gen.frame m ρ, fun m ρ _ => Cert.Kernel8Ideal.Gen.frame m ρ, gate_up_reference_frame,
    fun m ρ _ => Cert.Kernel9.Gen.frame m ρ, fun m ρ _ => Cert.Kernel9Ideal.Gen.frame m ρ, lora_down_reference_frame,
    fun m ρ _ => Cert.Kernel10.Gen.frame m ρ, fun m ρ _ => Cert.Kernel10Ideal.Gen.frame m ρ, decay_up_reference_frame,
    fun m ρ _ => Cert.Kernel11.Gen.frame m ρ, fun m ρ _ => Cert.Kernel11Ideal.Gen.frame m ρ, rate_up_reference_frame,
    fun m ρ _ => Cert.Kernel12.Gen.frame m ρ, fun m ρ _ => Cert.Kernel12Ideal.Gen.frame m ρ, conditioning_reference_frame,
    trivial, algebraic, trivial, shared_algebraic, trivial, projection_algebraic, trivial, norm_algebraic,
    trivial, premix_algebraic, trivial, pool_algebraic,
    trivial, gate_down_algebraic, trivial, gate_up_algebraic,
    trivial, lora_down_algebraic, trivial, decay_up_algebraic, trivial, rate_up_algebraic,
    trivial, conditioning_algebraic⟩

end Cert.Proof

end
